-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_v187) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S5000x4 : Shape := ⟨2, ![5000, 4]⟩
abbrev S5000x21 : Shape := ⟨2, ![5000, 21]⟩
abbrev S5000x20 : Shape := ⟨2, ![5000, 20]⟩
abbrev S20x1x5000 : Shape := ⟨3, ![20, 1, 5000]⟩
abbrev S5000 : Shape := ⟨1, ![5000]⟩
abbrev S5000x1 : Shape := ⟨2, ![5000, 1]⟩
abbrev S20x5000 : Shape := ⟨2, ![20, 5000]⟩
abbrev S20x1x400 : Shape := ⟨3, ![20, 1, 400]⟩
abbrev S20x400x4 : Shape := ⟨3, ![20, 400, 4]⟩
abbrev S1x1x5000 : Shape := ⟨3, ![1, 1, 5000]⟩
abbrev S1x1x400 : Shape := ⟨3, ![1, 1, 400]⟩
abbrev S1x400x4 : Shape := ⟨3, ![1, 400, 4]⟩
abbrev S1x5000 : Shape := ⟨2, ![1, 5000]⟩
abbrev S1000x1 : Shape := ⟨2, ![1000, 1]⟩
abbrev S1x1000 : Shape := ⟨2, ![1, 1000]⟩
abbrev S1000x1000 : Shape := ⟨2, ![1000, 1000]⟩
abbrev S1000 : Shape := ⟨1, ![1000]⟩
abbrev S1x4000 : Shape := ⟨2, ![1, 4000]⟩
abbrev S1000x4000 : Shape := ⟨2, ![1000, 4000]⟩
abbrev S1x3000 : Shape := ⟨2, ![1, 3000]⟩
abbrev S1000x3000 : Shape := ⟨2, ![1000, 3000]⟩
abbrev S1x2000 : Shape := ⟨2, ![1, 2000]⟩
abbrev S1000x2000 : Shape := ⟨2, ![1000, 2000]⟩
abbrev S5000x400 : Shape := ⟨2, ![5000, 400]⟩
abbrev S1x400 : Shape := ⟨2, ![1, 400]⟩
abbrev S400x4 : Shape := ⟨2, ![400, 4]⟩
abbrev S4x400 : Shape := ⟨2, ![4, 400]⟩
abbrev S400x1 : Shape := ⟨2, ![400, 1]⟩
abbrev S400x400 : Shape := ⟨2, ![400, 400]⟩
abbrev S1 : Shape := ⟨1, ![1]⟩
abbrev S1x1x1 : Shape := ⟨3, ![1, 1, 1]⟩
abbrev S1x8000 : Shape := ⟨2, ![1, 8000]⟩
abbrev S8000x1 : Shape := ⟨2, ![8000, 1]⟩
abbrev S8000x4 : Shape := ⟨2, ![8000, 4]⟩
abbrev S200x4 : Shape := ⟨2, ![200, 4]⟩
abbrev S1x200 : Shape := ⟨2, ![1, 200]⟩
abbrev S400x8000 : Shape := ⟨2, ![400, 8000]⟩
abbrev S8000 : Shape := ⟨1, ![8000]⟩
abbrev S200x8000 : Shape := ⟨2, ![200, 8000]⟩
abbrev S200 : Shape := ⟨1, ![200]⟩

abbrev nBuf : Space → Nat
  | .hbm => 19
  | .vmem => 24
  | .smem => 0
  | _ => 0

abbrev bufTy : (tb : Table) → Fin (tcTables nBuf tb) → BufTy
  | .hbm, ⟨0, _⟩ => ⟨S5000x4, .f32⟩
  | .hbm, ⟨1, _⟩ => ⟨S5000x21, .f32⟩
  | .hbm, ⟨2, _⟩ => ⟨S5000x4, .f32⟩
  | .hbm, ⟨3, _⟩ => ⟨S5000x20, .f32⟩
  | .hbm, ⟨4, _⟩ => ⟨S20x1x5000, .f32⟩
  | .hbm, ⟨5, _⟩ => ⟨S5000x4, .f32⟩
  | .hbm, ⟨6, _⟩ => ⟨S20x1x400, .f32⟩
  | .hbm, ⟨7, _⟩ => ⟨S20x400x4, .f32⟩
  | .hbm, ⟨8, _⟩ => ⟨S20x1x400, .f32⟩
  | .hbm, ⟨9, _⟩ => ⟨S1x8000, .f32⟩
  | .hbm, ⟨10, _⟩ => ⟨S8000x1, .f32⟩
  | .hbm, ⟨11, _⟩ => ⟨S1x8000, .f32⟩
  | .hbm, ⟨12, _⟩ => ⟨S8000x1, .f32⟩
  | .hbm, ⟨13, _⟩ => ⟨S8000x4, .f32⟩
  | .hbm, ⟨14, _⟩ => ⟨S200x4, .f32⟩
  | .hbm, ⟨15, _⟩ => ⟨S1x200, .f32⟩
  | .hbm, ⟨16, _⟩ => ⟨S1x200, .i32⟩
  | .hbm, ⟨17, _⟩ => ⟨S200, .f32⟩
  | .hbm, ⟨18, _⟩ => ⟨S200, .i32⟩
  | .local _ .vmem, ⟨0, _⟩ => ⟨S5000x4, .f32⟩
  | .local _ .vmem, ⟨1, _⟩ => ⟨S5000x21, .f32⟩
  | .local _ .vmem, ⟨2, _⟩ => ⟨S5000x4, .f32⟩
  | .local _ .vmem, ⟨3, _⟩ => ⟨S5000x20, .f32⟩
  | .local _ .vmem, ⟨4, _⟩ => ⟨S20x1x5000, .f32⟩
  | .local _ .vmem, ⟨5, _⟩ => ⟨S5000x4, .f32⟩
  | .local _ .vmem, ⟨6, _⟩ => ⟨S5000x20, .f32⟩
  | .local _ .vmem, ⟨7, _⟩ => ⟨S1x1x5000, .f32⟩
  | .local _ .vmem, ⟨8, _⟩ => ⟨S1x1x5000, .f32⟩
  | .local _ .vmem, ⟨9, _⟩ => ⟨S5000x4, .f32⟩
  | .local _ .vmem, ⟨10, _⟩ => ⟨S1x1x400, .f32⟩
  | .local _ .vmem, ⟨11, _⟩ => ⟨S1x1x400, .f32⟩
  | .local _ .vmem, ⟨12, _⟩ => ⟨S1x400x4, .f32⟩
  | .local _ .vmem, ⟨13, _⟩ => ⟨S1x400x4, .f32⟩
  | .local _ .vmem, ⟨14, _⟩ => ⟨S1x1x400, .f32⟩
  | .local _ .vmem, ⟨15, _⟩ => ⟨S1x1x400, .f32⟩
  | .local _ .vmem, ⟨16, _⟩ => ⟨S1x8000, .f32⟩
  | .local _ .vmem, ⟨17, _⟩ => ⟨S8000x1, .f32⟩
  | .local _ .vmem, ⟨18, _⟩ => ⟨S1x8000, .f32⟩
  | .local _ .vmem, ⟨19, _⟩ => ⟨S8000x1, .f32⟩
  | .local _ .vmem, ⟨20, _⟩ => ⟨S8000x4, .f32⟩
  | .local _ .vmem, ⟨21, _⟩ => ⟨S200x4, .f32⟩
  | .local _ .vmem, ⟨22, _⟩ => ⟨S1x200, .f32⟩
  | .local _ .vmem, ⟨23, _⟩ => ⟨S1x200, .i32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23

abbrev nD : Nat := 1
abbrev τ : Topo := Topo.v7x

variable {F : FTy → Type} [FloatOps F]

abbrev grid0 : Pipeline.Grid := .none

abbrev stage0_0 : Fin 1 → Memref sig .tc .vmem S5000x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5000x21 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5000x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5000x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x1x5000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5000x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S5000x20 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1x5000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5000x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x400 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x400x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x400 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

@[reducible] def k2_t1_loop : Scf.Loop 32 :=
  let c0_i32 : BitVec 32 := 0#32
  let c20_i32 : BitVec 32 := 20#32
  let v10 : BitVec 32 := Scalar.addi c0_i32 c20_i32
  let c1_i32 : BitVec 32 := 1#32
  ⟨c0_i32, v10, c1_i32⟩
def k2_off1 (k2_t1 : Fin k2_t1_loop.trips) : Fin 2 → Nat :=
  let c0_i32 : BitVec 32 := 0#32
  let c1_i32 : BitVec 32 := 1#32
  let arg8 : BitVec 32 := Scf.iv c0_i32 c1_i32 k2_t1
  let c400_i32_27 : BitVec 32 := 400#32
  let v60 : BitVec 32 := Scalar.muli arg8 c400_i32_27
  let v61 : Index := Scalar.indexCast v60
  let c0_28 : Index := 0#32
  ![v61.toNat, 0]
abbrev stage2_0 : Fin 1 → Memref sig .tc .vmem S1x8000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8000x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x8000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8000x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S8000x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S200x4 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x200 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x200 .i32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
-- ==== ReferenceIdeal.lean ====
abbrev S5000x4 : Shape := ⟨2, ![5000, 4]⟩
abbrev S5000x21 : Shape := ⟨2, ![5000, 21]⟩
abbrev S_ : Shape := ⟨0, ![]⟩
abbrev S5000 : Shape := ⟨1, ![5000]⟩
abbrev S5000x1 : Shape := ⟨2, ![5000, 1]⟩
abbrev S5000x20 : Shape := ⟨2, ![5000, 20]⟩
abbrev S20x5000 : Shape := ⟨2, ![20, 5000]⟩
abbrev S20x400 : Shape := ⟨2, ![20, 400]⟩
abbrev S20x400x1 : Shape := ⟨3, ![20, 400, 1]⟩
abbrev S20x400x4 : Shape := ⟨3, ![20, 400, 4]⟩
abbrev S20 : Shape := ⟨1, ![20]⟩
abbrev S20x1 : Shape := ⟨2, ![20, 1]⟩
abbrev S8000 : Shape := ⟨1, ![8000]⟩
abbrev S8000x4 : Shape := ⟨2, ![8000, 4]⟩
abbrev S8000x1 : Shape := ⟨2, ![8000, 1]⟩
abbrev S1x1 : Shape := ⟨2, ![1, 1]⟩
abbrev S1 : Shape := ⟨1, ![1]⟩
abbrev S200 : Shape := ⟨1, ![200]⟩
abbrev S200x1 : Shape := ⟨2, ![200, 1]⟩
abbrev S200x4 : Shape := ⟨2, ![200, 4]⟩

abbrev nBuf : Space → Nat
  | .hbm => 403
  | .vmem => 0
  | .smem => 0
  | _ => 0

abbrev hbmTy0_0 (i : Nat) : BufTy := match i % 128 with
  | 0 => ⟨S5000x4, .f32⟩
  | 1 => ⟨S5000x21, .f32⟩
  | 2 => ⟨S5000x4, .f32⟩
  | 3 => ⟨S_, .f32⟩
  | 4 => ⟨S5000, .f32⟩
  | 5 => ⟨S_, .f32⟩
  | 6 => ⟨S5000, .f32⟩
  | 7 => ⟨S5000, .f32⟩
  | 8 => ⟨S5000x1, .f32⟩
  | 9 => ⟨S5000x21, .f32⟩
  | 10 => ⟨S5000x21, .f32⟩
  | 11 => ⟨S5000x21, .f32⟩
  | 12 => ⟨S_, .f32⟩
  | 13 => ⟨S5000, .f32⟩
  | 14 => ⟨S5000x1, .f32⟩
  | 15 => ⟨S5000x21, .f32⟩
  | 16 => ⟨S5000x21, .f32⟩
  | 17 => ⟨S5000x1, .f32⟩
  | 18 => ⟨S5000, .f32⟩
  | 19 => ⟨S5000x1, .f32⟩
  | 20 => ⟨S5000, .f32⟩
  | 21 => ⟨S5000, .f32⟩
  | 22 => ⟨S5000x1, .f32⟩
  | 23 => ⟨S5000, .f32⟩
  | 24 => ⟨S5000x1, .f32⟩
  | 25 => ⟨S5000, .f32⟩
  | 26 => ⟨S5000, .f32⟩
  | 27 => ⟨S5000x1, .f32⟩
  | 28 => ⟨S5000, .f32⟩
  | 29 => ⟨S_, .f32⟩
  | 30 => ⟨S5000, .f32⟩
  | 31 => ⟨S5000, .f32⟩
  | 32 => ⟨S5000, .f32⟩
  | 33 => ⟨S5000x1, .f32⟩
  | 34 => ⟨S5000, .f32⟩
  | 35 => ⟨S_, .f32⟩
  | 36 => ⟨S5000, .f32⟩
  | 37 => ⟨S5000, .f32⟩
  | 38 => ⟨S5000, .f32⟩
  | 39 => ⟨S5000x1, .f32⟩
  | 40 => ⟨S5000, .f32⟩
  | 41 => ⟨S_, .f32⟩
  | 42 => ⟨S5000, .f32⟩
  | 43 => ⟨S5000, .f32⟩
  | 44 => ⟨S5000x1, .f32⟩
  | 45 => ⟨S5000, .f32⟩
  | 46 => ⟨S_, .f32⟩
  | 47 => ⟨S5000, .f32⟩
  | 48 => ⟨S5000, .f32⟩
  | 49 => ⟨S5000x1, .f32⟩
  | 50 => ⟨S5000, .f32⟩
  | 51 => ⟨S_, .f32⟩
  | 52 => ⟨S5000, .f32⟩
  | 53 => ⟨S5000, .f32⟩
  | 54 => ⟨S_, .f32⟩
  | 55 => ⟨S5000, .f32⟩
  | 56 => ⟨S5000, .f32⟩
  | 57 => ⟨S5000x1, .f32⟩
  | 58 => ⟨S5000, .f32⟩
  | 59 => ⟨S_, .f32⟩
  | 60 => ⟨S5000, .f32⟩
  | 61 => ⟨S5000, .f32⟩
  | 62 => ⟨S_, .f32⟩
  | 63 => ⟨S5000, .f32⟩
  | 64 => ⟨S5000, .f32⟩
  | 65 => ⟨S5000, .f32⟩
  | 66 => ⟨S5000, .f32⟩
  | 67 => ⟨S5000, .f32⟩
  | 68 => ⟨S5000, .f32⟩
  | 69 => ⟨S5000, .f32⟩
  | 70 => ⟨S5000, .f32⟩
  | 71 => ⟨S5000, .f32⟩
  | 72 => ⟨S5000, .f32⟩
  | 73 => ⟨S_, .f32⟩
  | 74 => ⟨S5000, .f32⟩
  | 75 => ⟨S5000, .f32⟩
  | 76 => ⟨S5000, .f32⟩
  | 77 => ⟨S_, .f32⟩
  | 78 => ⟨S5000, .f32⟩
  | 79 => ⟨S5000, .f32⟩
  | 80 => ⟨S5000, .f32⟩
  | 81 => ⟨S_, .f32⟩
  | 82 => ⟨S5000, .f32⟩
  | 83 => ⟨S5000, .f32⟩
  | 84 => ⟨S5000, .f32⟩
  | 85 => ⟨S_, .f32⟩
  | 86 => ⟨S5000, .f32⟩
  | 87 => ⟨S5000, .f32⟩
  | 88 => ⟨S5000, .f32⟩
  | 89 => ⟨S5000x1, .f32⟩
  | 90 => ⟨S5000x1, .f32⟩
  | 91 => ⟨S5000x1, .f32⟩
  | 92 => ⟨S5000x1, .f32⟩
  | 93 => ⟨S5000x4, .f32⟩
  | 94 => ⟨S5000x1, .f32⟩
  | 95 => ⟨S5000, .f32⟩
  | 96 => ⟨S_, .f32⟩
  | 97 => ⟨S_, .f32⟩
  | 98 => ⟨S_, .f32⟩
  | 99 => ⟨S5000, .f32⟩
  | 100 => ⟨S5000, .f32⟩
  | 101 => ⟨S_, .f32⟩
  | 102 => ⟨S5000, .f32⟩
  | 103 => ⟨S5000, .f32⟩
  | 104 => ⟨S5000x1, .f32⟩
  | 105 => ⟨S5000, .f32⟩
  | 106 => ⟨S_, .f32⟩
  | 107 => ⟨S_, .f32⟩
  | 108 => ⟨S_, .f32⟩
  | 109 => ⟨S5000, .f32⟩
  | 110 => ⟨S5000, .f32⟩
  | 111 => ⟨S_, .f32⟩
  | 112 => ⟨S5000, .f32⟩
  | 113 => ⟨S5000, .f32⟩
  | 114 => ⟨S5000x1, .f32⟩
  | 115 => ⟨S5000, .f32⟩
  | 116 => ⟨S_, .f32⟩
  | 117 => ⟨S_, .f32⟩
  | 118 => ⟨S_, .f32⟩
  | 119 => ⟨S5000, .f32⟩
  | 120 => ⟨S5000, .f32⟩
  | 121 => ⟨S_, .f32⟩
  | 122 => ⟨S5000, .f32⟩
  | 123 => ⟨S5000, .f32⟩
  | 124 => ⟨S5000x1, .f32⟩
  | 125 => ⟨S5000, .f32⟩
  | 126 => ⟨S_, .f32⟩
  | 127 => ⟨S_, .f32⟩
  | _ => ⟨S5000x4, .f32⟩

abbrev hbmTy0_1 (i : Nat) : BufTy := match i % 128 with
  | 0 => ⟨S_, .f32⟩
  | 1 => ⟨S5000, .f32⟩
  | 2 => ⟨S5000, .f32⟩
  | 3 => ⟨S_, .f32⟩
  | 4 => ⟨S5000, .f32⟩
  | 5 => ⟨S5000, .f32⟩
  | 6 => ⟨S5000x1, .f32⟩
  | 7 => ⟨S5000x1, .f32⟩
  | 8 => ⟨S5000x1, .f32⟩
  | 9 => ⟨S5000x1, .f32⟩
  | 10 => ⟨S5000x4, .f32⟩
  | 11 => ⟨S5000x20, .f32⟩
  | 12 => ⟨S20x5000, .f32⟩
  | 13 => ⟨S_, .f32⟩
  | 14 => ⟨S20x5000, .f32⟩
  | 15 => ⟨S20x5000, .i1⟩
  | 16 => ⟨S_, .f32⟩
  | 17 => ⟨S_, .f32⟩
  | 18 => ⟨S20x5000, .f32⟩
  | 19 => ⟨S20x5000, .f32⟩
  | 20 => ⟨S20x400, .f32⟩
  | 21 => ⟨S20x400, .i32⟩
  | 22 => ⟨S_, .i32⟩
  | 23 => ⟨S20x400, .i32⟩
  | 24 => ⟨S20x400, .i1⟩
  | 25 => ⟨S_, .i32⟩
  | 26 => ⟨S20x400, .i32⟩
  | 27 => ⟨S20x400, .i32⟩
  | 28 => ⟨S20x400, .i32⟩
  | 29 => ⟨S20x400x1, .i32⟩
  | 30 => ⟨S20x400x4, .f32⟩
  | 31 => ⟨S20, .i32⟩
  | 32 => ⟨S_, .i32⟩
  | 33 => ⟨S20, .i32⟩
  | 34 => ⟨S20, .i32⟩
  | 35 => ⟨S20x1, .i32⟩
  | 36 => ⟨S20x400, .i32⟩
  | 37 => ⟨S8000, .f32⟩
  | 38 => ⟨S8000x4, .f32⟩
  | 39 => ⟨S8000, .i32⟩
  | 40 => ⟨S_, .f32⟩
  | 41 => ⟨S_, .f32⟩
  | 42 => ⟨S8000, .f32⟩
  | 43 => ⟨S_, .f32⟩
  | 44 => ⟨S_, .f32⟩
  | 45 => ⟨S8000, .f32⟩
  | 46 => ⟨S8000, .f32⟩
  | 47 => ⟨S8000x1, .f32⟩
  | 48 => ⟨S8000x4, .f32⟩
  | 49 => ⟨S8000x4, .f32⟩
  | 50 => ⟨S8000, .f32⟩
  | 51 => ⟨S8000, .i32⟩
  | 52 => ⟨S8000, .f32⟩
  | 53 => ⟨S8000, .i32⟩
  | 54 => ⟨S_, .i32⟩
  | 55 => ⟨S8000, .i32⟩
  | 56 => ⟨S8000, .i1⟩
  | 57 => ⟨S_, .i32⟩
  | 58 => ⟨S8000, .i32⟩
  | 59 => ⟨S8000, .i32⟩
  | 60 => ⟨S8000, .i32⟩
  | 61 => ⟨S8000x1, .i32⟩
  | 62 => ⟨S8000x4, .f32⟩
  | 63 => ⟨S_, .i32⟩
  | 64 => ⟨S8000, .i32⟩
  | 65 => ⟨S8000, .i1⟩
  | 66 => ⟨S_, .i32⟩
  | 67 => ⟨S8000, .i32⟩
  | 68 => ⟨S8000, .i32⟩
  | 69 => ⟨S8000, .i32⟩
  | 70 => ⟨S8000x1, .i32⟩
  | 71 => ⟨S8000, .f32⟩
  | 72 => ⟨S8000x1, .f32⟩
  | 73 => ⟨S8000, .f32⟩
  | 74 => ⟨S8000x1, .f32⟩
  | 75 => ⟨S8000, .f32⟩
  | 76 => ⟨S8000, .f32⟩
  | 77 => ⟨S8000x1, .f32⟩
  | 78 => ⟨S8000, .f32⟩
  | 79 => ⟨S8000x1, .f32⟩
  | 80 => ⟨S8000, .f32⟩
  | 81 => ⟨S8000, .f32⟩
  | 82 => ⟨S8000, .f32⟩
  | 83 => ⟨S8000, .i32⟩
  | 84 => ⟨S_, .f32⟩
  | 85 => ⟨S8000, .f32⟩
  | 86 => ⟨S8000, .i1⟩
  | 87 => ⟨S_, .i32⟩
  | 88 => ⟨S_, .i32⟩
  | 89 => ⟨S8000x4, .f32⟩
  | 90 => ⟨S8000, .f32⟩
  | 91 => ⟨S8000, .i32⟩
  | 92 => ⟨S_, .i32⟩
  | 93 => ⟨S_, .i32⟩
  | 94 => ⟨S8000, .i1⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S1x1, .f32⟩
  | 114 => ⟨S_, .f32⟩
  | 115 => ⟨S8000x1, .f32⟩
  | 116 => ⟨S8000, .f32⟩
  | 117 => ⟨S8000, .f32⟩
  | 118 => ⟨S8000, .f32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S5000x4, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x1, .f32⟩
  | 6 => ⟨S_, .f32⟩
  | 7 => ⟨S8000x1, .f32⟩
  | 8 => ⟨S8000, .f32⟩
  | 9 => ⟨S8000, .f32⟩
  | 10 => ⟨S8000, .f32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S1x1, .f32⟩
  | 26 => ⟨S_, .f32⟩
  | 27 => ⟨S8000x1, .f32⟩
  | 28 => ⟨S8000, .f32⟩
  | 29 => ⟨S8000, .f32⟩
  | 30 => ⟨S8000, .f32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S1x1, .f32⟩
  | 46 => ⟨S_, .f32⟩
  | 47 => ⟨S8000x1, .f32⟩
  | 48 => ⟨S8000, .f32⟩
  | 49 => ⟨S8000, .f32⟩
  | 50 => ⟨S8000, .f32⟩
  | 51 => ⟨S8000, .f32⟩
  | 52 => ⟨S_, .f32⟩
  | 53 => ⟨S8000, .f32⟩
  | 54 => ⟨S8000, .f32⟩
  | 55 => ⟨S8000, .f32⟩
  | 56 => ⟨S_, .f32⟩
  | 57 => ⟨S8000, .f32⟩
  | 58 => ⟨S8000, .f32⟩
  | 59 => ⟨S8000, .f32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S1, .f32⟩
  | 67 => ⟨S_, .f32⟩
  | 68 => ⟨S8000, .f32⟩
  | 69 => ⟨S8000, .f32⟩
  | 70 => ⟨S8000, .f32⟩
  | 71 => ⟨S_, .f32⟩
  | 72 => ⟨S8000, .f32⟩
  | 73 => ⟨S8000, .f32⟩
  | 74 => ⟨S8000, .f32⟩
  | 75 => ⟨S_, .f32⟩
  | 76 => ⟨S8000, .f32⟩
  | 77 => ⟨S8000, .i1⟩
  | 78 => ⟨S_, .i32⟩
  | 79 => ⟨S8000, .i32⟩
  | 80 => ⟨S8000, .i1⟩
  | 81 => ⟨S8000, .i1⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S1, .i1⟩
  | 89 => ⟨S_, .i1⟩
  | 90 => ⟨S8000, .i1⟩
  | 91 => ⟨S8000, .i1⟩
  | 92 => ⟨S8000, .i1⟩
  | 93 => ⟨S8000, .i1⟩
  | 94 => ⟨S_, .i32⟩
  | 95 => ⟨S_, .i32⟩
  | 96 => ⟨S_, .i32⟩
  | 97 => ⟨S8000, .i32⟩
  | 98 => ⟨S8000, .i1⟩
  | 99 => ⟨S_, .i32⟩
  | 100 => ⟨S8000, .i32⟩
  | 101 => ⟨S8000, .i32⟩
  | 102 => ⟨S8000, .i32⟩
  | 103 => ⟨S8000x1, .i32⟩
  | 104 => ⟨S8000, .f32⟩
  | 105 => ⟨S_, .f32⟩
  | 106 => ⟨S_, .f32⟩
  | 107 => ⟨S8000, .f32⟩
  | 108 => ⟨S8000, .f32⟩
  | 109 => ⟨S200, .f32⟩
  | 110 => ⟨S200, .i32⟩
  | 111 => ⟨S_, .i32⟩
  | 112 => ⟨S200, .i32⟩
  | 113 => ⟨S200, .i1⟩
  | 114 => ⟨S_, .i32⟩
  | 115 => ⟨S200, .i32⟩
  | 116 => ⟨S200, .i32⟩
  | 117 => ⟨S200, .i32⟩
  | 118 => ⟨S200x1, .i32⟩
  | 119 => ⟨S200, .i32⟩
  | 120 => ⟨S_, .i32⟩
  | 121 => ⟨S200, .i32⟩
  | 122 => ⟨S200, .i1⟩
  | 123 => ⟨S_, .i32⟩
  | 124 => ⟨S200, .i32⟩
  | 125 => ⟨S200, .i32⟩
  | 126 => ⟨S200, .i32⟩
  | 127 => ⟨S200x1, .i32⟩
  | _ => ⟨S5000x4, .f32⟩

abbrev hbmTy0_3 (i : Nat) : BufTy := match i % 128 with
  | 0 => ⟨S200x4, .f32⟩
  | 1 => ⟨S_, .i32⟩
  | 2 => ⟨S200, .i32⟩
  | 3 => ⟨S200, .i1⟩
  | 4 => ⟨S_, .i32⟩
  | 5 => ⟨S200, .i32⟩
  | 6 => ⟨S200, .i32⟩
  | 7 => ⟨S200, .i32⟩
  | 8 => ⟨S200x1, .i32⟩
  | 9 => ⟨S200, .f32⟩
  | 10 => ⟨S_, .i32⟩
  | 11 => ⟨S200, .i32⟩
  | 12 => ⟨S200, .i1⟩
  | 13 => ⟨S_, .i32⟩
  | 14 => ⟨S200, .i32⟩
  | 15 => ⟨S200, .i32⟩
  | 16 => ⟨S200, .i32⟩
  | 17 => ⟨S200x1, .i32⟩
  | 18 => ⟨S200, .i32⟩
  | _ => ⟨S5000x4, .f32⟩

abbrev hbmTy (i : Nat) : BufTy := match i / 128 with
  | 0 => hbmTy0_0 i
  | 1 => hbmTy0_1 i
  | 2 => hbmTy0_2 i
  | 3 => hbmTy0_3 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_14 : Ref sig .tc := ⟨.hbm, 96, rfl⟩
abbrev main_cst_15 : Ref sig .tc := ⟨.hbm, 97, rfl⟩
abbrev main_call0_v0 : Ref sig .tc := ⟨.hbm, 98, rfl⟩
abbrev main_call0_v1 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_16 : Ref sig .tc := ⟨.hbm, 106, rfl⟩
abbrev main_cst_17 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_18 : Ref sig .tc := ⟨.hbm, 116, rfl⟩
abbrev main_cst_19 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_20 : Ref sig .tc := ⟨.hbm, 126, rfl⟩
abbrev main_cst_21 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_22 : Ref sig .tc := ⟨.hbm, 141, rfl⟩
abbrev main_v95 : Ref sig .tc := ⟨.hbm, 142, rfl⟩
abbrev main_v96 : Ref sig .tc := ⟨.hbm, 143, rfl⟩
abbrev main_cst_23 : Ref sig .tc := ⟨.hbm, 144, rfl⟩
abbrev main_call4_v0 : Ref sig .tc := ⟨.hbm, 145, rfl⟩
abbrev main_call4_v1 : Ref sig .tc := ⟨.hbm, 146, rfl⟩
abbrev main_v97 : Ref sig .tc := ⟨.hbm, 147, rfl⟩
abbrev main_values : Ref sig .tc := ⟨.hbm, 148, rfl⟩
abbrev main_indices : Ref sig .tc := ⟨.hbm, 149, rfl⟩
abbrev main_c : Ref sig .tc := ⟨.hbm, 150, rfl⟩
abbrev main_v98 : Ref sig .tc := ⟨.hbm, 151, rfl⟩
abbrev main_v99 : Ref sig .tc := ⟨.hbm, 152, rfl⟩
abbrev main_c_24 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_c_25 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_26 : Ref sig .tc := ⟨.hbm, 168, rfl⟩
abbrev main_v113 : Ref sig .tc := ⟨.hbm, 169, rfl⟩
abbrev main_v114 : Ref sig .tc := ⟨.hbm, 170, rfl⟩
abbrev main_cst_27 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_call5_v0 : Ref sig .tc := ⟨.hbm, 179, rfl⟩
abbrev main_call5_v1_0 : Ref sig .tc := ⟨.hbm, 180, rfl⟩
abbrev main_v122 : Ref sig .tc := ⟨.hbm, 181, rfl⟩
abbrev main_c_28 : Ref sig .tc := ⟨.hbm, 182, rfl⟩
abbrev main_v123 : Ref sig .tc := ⟨.hbm, 183, rfl⟩
abbrev main_v124 : Ref sig .tc := ⟨.hbm, 184, rfl⟩
abbrev main_c_29 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_c_30 : Ref sig .tc := ⟨.hbm, 191, rfl⟩
abbrev main_v130 : Ref sig .tc := ⟨.hbm, 192, rfl⟩
abbrev main_v131 : Ref sig .tc := ⟨.hbm, 193, rfl⟩
abbrev main_c_31 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_cst_32 : Ref sig .tc := ⟨.hbm, 212, rfl⟩
abbrev main_v149 : Ref sig .tc := ⟨.hbm, 213, rfl⟩
abbrev main_v150 : Ref sig .tc := ⟨.hbm, 214, rfl⟩
abbrev main_c_33 : Ref sig .tc := ⟨.hbm, 215, rfl⟩
abbrev main_c_34 : Ref sig .tc := ⟨.hbm, 216, rfl⟩
abbrev main_v151_0 : Ref sig .tc := ⟨.hbm, 217, rfl⟩
abbrev main_v151_1 : Ref sig .tc := ⟨.hbm, 218, rfl⟩
abbrev main_v151_2 : Ref sig .tc := ⟨.hbm, 219, rfl⟩
abbrev main_v151_3 : Ref sig .tc := ⟨.hbm, 220, rfl⟩
abbrev main_v151_4 : Ref sig .tc := ⟨.hbm, 221, rfl⟩
abbrev main_v151_5 : Ref sig .tc := ⟨.hbm, 222, rfl⟩
abbrev main_while0c_c_53 : Ref sig .tc := ⟨.hbm, 223, rfl⟩
abbrev main_while0c_v188 : Ref sig .tc := ⟨.hbm, 224, rfl⟩
abbrev main_while0b_c_53 : Ref sig .tc := ⟨.hbm, 225, rfl⟩
abbrev main_while0b_v188 : Ref sig .tc := ⟨.hbm, 226, rfl⟩
abbrev main_while0b_v189 : Ref sig .tc := ⟨.hbm, 227, rfl⟩
abbrev main_while0b_c_54 : Ref sig .tc := ⟨.hbm, 228, rfl⟩
abbrev main_while0b_v190 : Ref sig .tc := ⟨.hbm, 229, rfl⟩
abbrev main_while0b_c_55 : Ref sig .tc := ⟨.hbm, 230, rfl⟩
abbrev main_while0b_v191 : Ref sig .tc := ⟨.hbm, 231, rfl⟩
abbrev main_while0b_v192 : Ref sig .tc := ⟨.hbm, 232, rfl⟩
abbrev main_while0b_c_56 : Ref sig .tc := ⟨.hbm, 233, rfl⟩
abbrev main_while0b_c_57 : Ref sig .tc := ⟨.hbm, 234, rfl⟩
abbrev main_while0b_v193 : Ref sig .tc := ⟨.hbm, 235, rfl⟩
abbrev main_while0b_c_58 : Ref sig .tc := ⟨.hbm, 236, rfl⟩
abbrev main_while0b_c_59 : Ref sig .tc := ⟨.hbm, 237, rfl⟩
abbrev main_while0b_v194 : Ref sig .tc := ⟨.hbm, 238, rfl⟩
abbrev main_while0b_c_60 : Ref sig .tc := ⟨.hbm, 239, rfl⟩
abbrev main_while0b_v195 : Ref sig .tc := ⟨.hbm, 240, rfl⟩
abbrev main_while0b_v196 : Ref sig .tc := ⟨.hbm, 241, rfl⟩
abbrev main_while0b_v197 : Ref sig .tc := ⟨.hbm, 242, rfl⟩
abbrev main_while0b_v198 : Ref sig .tc := ⟨.hbm, 243, rfl⟩
abbrev main_while0b_v199 : Ref sig .tc := ⟨.hbm, 244, rfl⟩
abbrev main_while0b_v200 : Ref sig .tc := ⟨.hbm, 245, rfl⟩
abbrev main_while0b_v201 : Ref sig .tc := ⟨.hbm, 246, rfl⟩
abbrev main_while0b_v202 : Ref sig .tc := ⟨.hbm, 247, rfl⟩
abbrev main_while0b_c_61 : Ref sig .tc := ⟨.hbm, 248, rfl⟩
abbrev main_while0b_v203 : Ref sig .tc := ⟨.hbm, 249, rfl⟩
abbrev main_while0b_c_62 : Ref sig .tc := ⟨.hbm, 250, rfl⟩
abbrev main_while0b_v204 : Ref sig .tc := ⟨.hbm, 251, rfl⟩
abbrev main_while0b_v205 : Ref sig .tc := ⟨.hbm, 252, rfl⟩
abbrev main_while0b_c_63 : Ref sig .tc := ⟨.hbm, 253, rfl⟩
abbrev main_while0b_c_64 : Ref sig .tc := ⟨.hbm, 254, rfl⟩
abbrev main_while0b_v206 : Ref sig .tc := ⟨.hbm, 255, rfl⟩
abbrev main_while0b_c_65 : Ref sig .tc := ⟨.hbm, 256, rfl⟩
abbrev main_while0b_c_66 : Ref sig .tc := ⟨.hbm, 257, rfl⟩
abbrev main_while0b_v207 : Ref sig .tc := ⟨.hbm, 258, rfl⟩
abbrev main_while0b_c_67 : Ref sig .tc := ⟨.hbm, 259, rfl⟩
abbrev main_while0b_v208 : Ref sig .tc := ⟨.hbm, 260, rfl⟩
abbrev main_while0b_v209 : Ref sig .tc := ⟨.hbm, 261, rfl⟩
abbrev main_while0b_v210 : Ref sig .tc := ⟨.hbm, 262, rfl⟩
abbrev main_while0b_v211 : Ref sig .tc := ⟨.hbm, 263, rfl⟩
abbrev main_while0b_v212 : Ref sig .tc := ⟨.hbm, 264, rfl⟩
abbrev main_while0b_v213 : Ref sig .tc := ⟨.hbm, 265, rfl⟩
abbrev main_while0b_v214 : Ref sig .tc := ⟨.hbm, 266, rfl⟩
abbrev main_while0b_v215 : Ref sig .tc := ⟨.hbm, 267, rfl⟩
abbrev main_while0b_c_68 : Ref sig .tc := ⟨.hbm, 268, rfl⟩
abbrev main_while0b_v216 : Ref sig .tc := ⟨.hbm, 269, rfl⟩
abbrev main_while0b_c_69 : Ref sig .tc := ⟨.hbm, 270, rfl⟩
abbrev main_while0b_v217 : Ref sig .tc := ⟨.hbm, 271, rfl⟩
abbrev main_while0b_v218 : Ref sig .tc := ⟨.hbm, 272, rfl⟩
abbrev main_while0b_c_70 : Ref sig .tc := ⟨.hbm, 273, rfl⟩
abbrev main_while0b_c_71 : Ref sig .tc := ⟨.hbm, 274, rfl⟩
abbrev main_while0b_v219 : Ref sig .tc := ⟨.hbm, 275, rfl⟩
abbrev main_while0b_c_72 : Ref sig .tc := ⟨.hbm, 276, rfl⟩
abbrev main_while0b_c_73 : Ref sig .tc := ⟨.hbm, 277, rfl⟩
abbrev main_while0b_v220 : Ref sig .tc := ⟨.hbm, 278, rfl⟩
abbrev main_while0b_c_74 : Ref sig .tc := ⟨.hbm, 279, rfl⟩
abbrev main_while0b_v221 : Ref sig .tc := ⟨.hbm, 280, rfl⟩
abbrev main_while0b_v222 : Ref sig .tc := ⟨.hbm, 281, rfl⟩
abbrev main_while0b_v223 : Ref sig .tc := ⟨.hbm, 282, rfl⟩
abbrev main_while0b_v224 : Ref sig .tc := ⟨.hbm, 283, rfl⟩
abbrev main_while0b_v225 : Ref sig .tc := ⟨.hbm, 284, rfl⟩
abbrev main_while0b_v226 : Ref sig .tc := ⟨.hbm, 285, rfl⟩
abbrev main_while0b_v227 : Ref sig .tc := ⟨.hbm, 286, rfl⟩
abbrev main_while0b_v228 : Ref sig .tc := ⟨.hbm, 287, rfl⟩
abbrev main_while0b_c_75 : Ref sig .tc := ⟨.hbm, 288, rfl⟩
abbrev main_while0b_v229 : Ref sig .tc := ⟨.hbm, 289, rfl⟩
abbrev main_while0b_c_76 : Ref sig .tc := ⟨.hbm, 290, rfl⟩
abbrev main_while0b_v230 : Ref sig .tc := ⟨.hbm, 291, rfl⟩
abbrev main_while0b_v231 : Ref sig .tc := ⟨.hbm, 292, rfl⟩
abbrev main_while0b_c_77 : Ref sig .tc := ⟨.hbm, 293, rfl⟩
abbrev main_while0b_c_78 : Ref sig .tc := ⟨.hbm, 294, rfl⟩
abbrev main_while0b_v232 : Ref sig .tc := ⟨.hbm, 295, rfl⟩
abbrev main_while0b_c_79 : Ref sig .tc := ⟨.hbm, 296, rfl⟩
abbrev main_while0b_c_80 : Ref sig .tc := ⟨.hbm, 297, rfl⟩
abbrev main_while0b_v233 : Ref sig .tc := ⟨.hbm, 298, rfl⟩
abbrev main_while0b_c_81 : Ref sig .tc := ⟨.hbm, 299, rfl⟩
abbrev main_while0b_v234 : Ref sig .tc := ⟨.hbm, 300, rfl⟩
abbrev main_while0b_v235 : Ref sig .tc := ⟨.hbm, 301, rfl⟩
abbrev main_while0b_v236 : Ref sig .tc := ⟨.hbm, 302, rfl⟩
abbrev main_while0b_v237 : Ref sig .tc := ⟨.hbm, 303, rfl⟩
abbrev main_while0b_v238 : Ref sig .tc := ⟨.hbm, 304, rfl⟩
abbrev main_while0b_v239 : Ref sig .tc := ⟨.hbm, 305, rfl⟩
abbrev main_while0b_v240 : Ref sig .tc := ⟨.hbm, 306, rfl⟩
abbrev main_while0b_v241 : Ref sig .tc := ⟨.hbm, 307, rfl⟩
abbrev main_while0b_cst_82 : Ref sig .tc := ⟨.hbm, 308, rfl⟩
abbrev main_while0b_v242 : Ref sig .tc := ⟨.hbm, 309, rfl⟩
abbrev main_while0b_v243 : Ref sig .tc := ⟨.hbm, 310, rfl⟩
abbrev main_while0b_v244 : Ref sig .tc := ⟨.hbm, 311, rfl⟩
abbrev main_while0b_cst_83 : Ref sig .tc := ⟨.hbm, 312, rfl⟩
abbrev main_while0b_v245 : Ref sig .tc := ⟨.hbm, 313, rfl⟩
abbrev main_while0b_v246 : Ref sig .tc := ⟨.hbm, 314, rfl⟩
abbrev main_while0b_v247 : Ref sig .tc := ⟨.hbm, 315, rfl⟩
abbrev main_while0b_c_84 : Ref sig .tc := ⟨.hbm, 316, rfl⟩
abbrev main_while0b_v248 : Ref sig .tc := ⟨.hbm, 317, rfl⟩
abbrev main_while0b_v249 : Ref sig .tc := ⟨.hbm, 318, rfl⟩
abbrev main_while0b_c_85 : Ref sig .tc := ⟨.hbm, 319, rfl⟩
abbrev main_while0b_v250 : Ref sig .tc := ⟨.hbm, 320, rfl⟩
abbrev main_while0b_v251 : Ref sig .tc := ⟨.hbm, 321, rfl⟩
abbrev main_while0b_v252 : Ref sig .tc := ⟨.hbm, 322, rfl⟩
abbrev main_while0b_v253 : Ref sig .tc := ⟨.hbm, 323, rfl⟩
abbrev main_while0b_v254 : Ref sig .tc := ⟨.hbm, 324, rfl⟩
abbrev main_while0b_v255 : Ref sig .tc := ⟨.hbm, 325, rfl⟩
abbrev main_while0b_v256 : Ref sig .tc := ⟨.hbm, 326, rfl⟩
abbrev main_while0b_cst_86 : Ref sig .tc := ⟨.hbm, 327, rfl⟩
abbrev main_while0b_v257 : Ref sig .tc := ⟨.hbm, 328, rfl⟩
abbrev main_while0b_v258 : Ref sig .tc := ⟨.hbm, 329, rfl⟩
abbrev main_while0b_v259 : Ref sig .tc := ⟨.hbm, 330, rfl⟩
abbrev main_while0b_cst_87 : Ref sig .tc := ⟨.hbm, 331, rfl⟩
abbrev main_while0b_v260 : Ref sig .tc := ⟨.hbm, 332, rfl⟩
abbrev main_while0b_v261 : Ref sig .tc := ⟨.hbm, 333, rfl⟩
abbrev main_while0b_v262 : Ref sig .tc := ⟨.hbm, 334, rfl⟩
abbrev main_while0b_v263 : Ref sig .tc := ⟨.hbm, 335, rfl⟩
abbrev main_while0b_v264 : Ref sig .tc := ⟨.hbm, 336, rfl⟩
abbrev main_while0b_v265 : Ref sig .tc := ⟨.hbm, 337, rfl⟩
abbrev main_while0b_c_88 : Ref sig .tc := ⟨.hbm, 338, rfl⟩
abbrev main_while0b_v266 : Ref sig .tc := ⟨.hbm, 339, rfl⟩
abbrev main_while0b_v267 : Ref sig .tc := ⟨.hbm, 340, rfl⟩
abbrev main_while0b_c_89 : Ref sig .tc := ⟨.hbm, 341, rfl⟩
abbrev main_while0b_v268 : Ref sig .tc := ⟨.hbm, 342, rfl⟩
abbrev main_while0b_v269 : Ref sig .tc := ⟨.hbm, 343, rfl⟩
abbrev main_while0b_v270 : Ref sig .tc := ⟨.hbm, 344, rfl⟩
abbrev main_while0b_v271 : Ref sig .tc := ⟨.hbm, 345, rfl⟩
abbrev main_while0b_v272 : Ref sig .tc := ⟨.hbm, 346, rfl⟩
abbrev main_while0b_v273 : Ref sig .tc := ⟨.hbm, 347, rfl⟩
abbrev main_while0b_v274 : Ref sig .tc := ⟨.hbm, 348, rfl⟩
abbrev main_while0b_v275 : Ref sig .tc := ⟨.hbm, 349, rfl⟩
abbrev main_while0b_c_90 : Ref sig .tc := ⟨.hbm, 350, rfl⟩
abbrev main_while0b_v276 : Ref sig .tc := ⟨.hbm, 351, rfl⟩
abbrev main_c_35 : Ref sig .tc := ⟨.hbm, 352, rfl⟩
abbrev main_v152 : Ref sig .tc := ⟨.hbm, 353, rfl⟩
abbrev main_v153 : Ref sig .tc := ⟨.hbm, 354, rfl⟩
abbrev main_c_36 : Ref sig .tc := ⟨.hbm, 355, rfl⟩
abbrev main_v154 : Ref sig .tc := ⟨.hbm, 356, rfl⟩
abbrev main_v155 : Ref sig .tc := ⟨.hbm, 357, rfl⟩
abbrev main_v156 : Ref sig .tc := ⟨.hbm, 358, rfl⟩
abbrev main_v157 : Ref sig .tc := ⟨.hbm, 359, rfl⟩
abbrev main_v158 : Ref sig .tc := ⟨.hbm, 360, rfl⟩
abbrev main_cst_37 : Ref sig .tc := ⟨.hbm, 361, rfl⟩
abbrev main_call6_v0 : Ref sig .tc := ⟨.hbm, 362, rfl⟩
abbrev main_call6_v1 : Ref sig .tc := ⟨.hbm, 363, rfl⟩
abbrev main_v159 : Ref sig .tc := ⟨.hbm, 364, rfl⟩
abbrev main_values_38 : Ref sig .tc := ⟨.hbm, 365, rfl⟩
abbrev main_indices_39 : Ref sig .tc := ⟨.hbm, 366, rfl⟩
abbrev main_c_40 : Ref sig .tc := ⟨.hbm, 367, rfl⟩
abbrev main_v160 : Ref sig .tc := ⟨.hbm, 368, rfl⟩
abbrev main_v161 : Ref sig .tc := ⟨.hbm, 369, rfl⟩
abbrev main_c_41 : Ref sig .tc := ⟨.hbm, 370, rfl⟩
abbrev main_v162 : Ref sig .tc := ⟨.hbm, 371, rfl⟩
abbrev main_v163 : Ref sig .tc := ⟨.hbm, 372, rfl⟩
abbrev main_v164 : Ref sig .tc := ⟨.hbm, 373, rfl⟩
abbrev main_v165 : Ref sig .tc := ⟨.hbm, 374, rfl⟩
abbrev main_v166 : Ref sig .tc := ⟨.hbm, 375, rfl⟩
abbrev main_c_42 : Ref sig .tc := ⟨.hbm, 376, rfl⟩
abbrev main_v167 : Ref sig .tc := ⟨.hbm, 377, rfl⟩
abbrev main_v168 : Ref sig .tc := ⟨.hbm, 378, rfl⟩
abbrev main_c_43 : Ref sig .tc := ⟨.hbm, 379, rfl⟩
abbrev main_v169 : Ref sig .tc := ⟨.hbm, 380, rfl⟩
abbrev main_v170 : Ref sig .tc := ⟨.hbm, 381, rfl⟩
abbrev main_v171 : Ref sig .tc := ⟨.hbm, 382, rfl⟩
abbrev main_v172 : Ref sig .tc := ⟨.hbm, 383, rfl⟩
abbrev main_v173 : Ref sig .tc := ⟨.hbm, 384, rfl⟩
abbrev main_c_44 : Ref sig .tc := ⟨.hbm, 385, rfl⟩
abbrev main_v174 : Ref sig .tc := ⟨.hbm, 386, rfl⟩
abbrev main_v175 : Ref sig .tc := ⟨.hbm, 387, rfl⟩
abbrev main_c_45 : Ref sig .tc := ⟨.hbm, 388, rfl⟩
abbrev main_v176 : Ref sig .tc := ⟨.hbm, 389, rfl⟩
abbrev main_v177 : Ref sig .tc := ⟨.hbm, 390, rfl⟩
abbrev main_v178 : Ref sig .tc := ⟨.hbm, 391, rfl⟩
abbrev main_v179 : Ref sig .tc := ⟨.hbm, 392, rfl⟩
abbrev main_v180 : Ref sig .tc := ⟨.hbm, 393, rfl⟩
abbrev main_c_46 : Ref sig .tc := ⟨.hbm, 394, rfl⟩
abbrev main_v181 : Ref sig .tc := ⟨.hbm, 395, rfl⟩
abbrev main_v182 : Ref sig .tc := ⟨.hbm, 396, rfl⟩
abbrev main_c_47 : Ref sig .tc := ⟨.hbm, 397, rfl⟩
abbrev main_v183 : Ref sig .tc := ⟨.hbm, 398, rfl⟩
abbrev main_v184 : Ref sig .tc := ⟨.hbm, 399, rfl⟩
abbrev main_v185 : Ref sig .tc := ⟨.hbm, 400, rfl⟩
abbrev main_v186 : Ref sig .tc := ⟨.hbm, 401, rfl⟩
abbrev main_v187 : Ref sig .tc := ⟨.hbm, 402, rfl⟩

abbrev nD : Nat := 1
abbrev τ : Topo := Topo.v7x

variable {F : FTy → Type} [FloatOps F]

abbrev main_while0_count : Scf.Loop 32 := ⟨0#32, 8000#32, 1#32⟩
-- ==== Proof.KReg0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.PureOps.Ideal

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section Regions
variable (V : (c : Dev nD) → (b : Ref sig .tc) → Buf (Elt Ideal) ((c : Thread nD τ).loc b))

/-! # REGION 0 of @main: custom_call 0, `cc0__prep_kernel` (pipeline 0), at the entry contents `V` -/

/-! ## The windows' blocks -/

/-- Window `w`'s block at point `t`, read off its array as the region finds it (`V`). -/
def iblk0 (c : Dev nD) (w : Fin (cfg0 (F := Ideal)).W) (t : Fin (cfg0 (F := Ideal)).N) : (((cfg0 (F := Ideal)).win w).xblock ((cfg0 (F := Ideal)).grid.coords t)).Idx → Elt Ideal ((cfg0 (F := Ideal)).win w).elt :=
  (((cfg0 (F := Ideal)).win w).blk t).view.read (Elt Ideal) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt Ideal) Unit ℕ (UR sig nD τ) ℕ (cfg0 (F := Ideal)) c) (hA : dat.A 0 = V c (Pipeline.arrRef spec0 0))
    (hafter : ∀ t, dat.after 0 t = iblk0 V c 0 t) (t : Fin (cfg0 (F := Ideal)).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt Ideal) Unit ℕ (UR sig nD τ) ℕ (cfg0 (F := Ideal)) c) (hA : dat.A 1 = V c (Pipeline.arrRef spec0 1))
    (hafter : ∀ t, dat.after 1 t = iblk0 V c 1 t) (t : Fin (cfg0 (F := Ideal)).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt Ideal) Unit ℕ (UR sig nD τ) ℕ (cfg0 (F := Ideal)) c) (hA : dat.A 2 = V c (Pipeline.arrRef spec0 2))
    (hafter : ∀ t, dat.after 2 t = iblk0 V c 2 t) (t : Fin (cfg0 (F := Ideal)).N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S5000x21 := Rect.unit (s := S5000x21) ![0, 0] S5000x21.size inb_S5000x21_S5000x21_0_0
abbrev r0_1 : Rect S5000x20 := Rect.unit (s := S5000x20) ![0, 0] S5000x20.size inb_S5000x20_S5000x20_0_0
abbrev r0_2 : Rect S20x1x5000 := Rect.unit (s := S20x1x5000) ![0, 0, 0] S20x1x5000.size inb_S20x1x5000_S20x1x5000_0_0_0
abbrev r0_3 : Rect S5000x4 := Rect.unit (s := S5000x4) ![0, 0] S5000x4.size inb_S5000x4_S5000x4_0_0

/-! ## What the body leaves in each output window's buffer -/

/-! ### Values of the body that the stores' payloads, spelt out, would write more than once

    Each is a vector the body binds (often a part call's result), stated over the input windows' blocks and
    numbered on from the skeleton's payload functions (`k0_pay18` …, after `k0_pay17`), so that
    `out0_W` and the values after it name it instead of spelling it out (`unfold_out out0_W` opens a canon
    with them, `unfold_payloads` opens them with the payloads); the comment after each is the printed function's
    name for the value (a count appended where that name is bound again). -/

def k0_pay18 (x0 : Vec Ideal S5000x4 .f32) (x1 : Vec Ideal S5000x21 .f32) (x2 : Vec Ideal S5000x4 .f32) : FVec Ideal S5000x1 .f32 :=
  k0_pay4 (View.ld x2 r0_3) -- `v22`
def k0_pay19 (x0 : Vec Ideal S5000x4 .f32) (x1 : Vec Ideal S5000x21 .f32) (x2 : Vec Ideal S5000x4 .f32) : FVec Ideal S5000x1 .f32 :=
  k0_pay5 (View.ld x2 r0_3) -- `v25`
def k0_pay20 (x0 : Vec Ideal S5000x4 .f32) (x1 : Vec Ideal S5000x21 .f32) (x2 : Vec Ideal S5000x4 .f32) : FVec Ideal S5000x1 .f32 :=
  k0_pay6 (View.ld x2 r0_3) -- `v29`
def k0_pay21 (x0 : Vec Ideal S5000x4 .f32) (x1 : Vec Ideal S5000x21 .f32) (x2 : Vec Ideal S5000x4 .f32) : FVec Ideal S5000x1 .f32 :=
  k0_pay7 (View.ld x2 r0_3) -- `v33`
def k0_pay22 (x0 : Vec Ideal S5000x4 .f32) (x1 : Vec Ideal S5000x21 .f32) (x2 : Vec Ideal S5000x4 .f32) : FVec Ideal S5000x1 .f32 :=
  k0_pay8 (View.ld x0 r0_3) -- `v37`
def k0_pay23 (x0 : Vec Ideal S5000x4 .f32) (x1 : Vec Ideal S5000x21 .f32) (x2 : Vec Ideal S5000x4 .f32) : FVec Ideal S5000x1 .f32 :=
  k0_pay9 (View.ld x0 r0_3) -- `v38`

/-- Window 3's staging buffer after the body, from the input windows' blocks: its 1 store as pieces, LAST
    FIRST (Lib/Pipeline/FrameBody.lean `View.canon`; the payloads are the skeleton's and the values stated above). -/
def out0_3 (x0 : Vec Ideal S5000x4 .f32) (x1 : Vec Ideal S5000x21 .f32) (x2 : Vec Ideal S5000x4 .f32) : Vec Ideal S5000x20 .f32 :=
  View.canon [⟨r0_1, k0_pay2 (View.ld x1 r0_0)⟩]

/-- Its stores tile the buffer (checked by evaluation), so they cover it. -/
theorem cover0_3 (p0 : Vec Ideal S5000x20 .f32) (y : S5000x20.Idx) :
    ∃ pc ∈ ([⟨r0_1, p0⟩] : List (View.Piece (Elt Ideal) S5000x20 .f32)), y ∈ pc.1.set :=
  View.cover_of_tiled [⟨r0_1, p0⟩] S5000x20.size (by rfl) y

/-- Window 4's staging buffer after the body, from the input windows' blocks: its 1 store as pieces, LAST
    FIRST (Lib/Pipeline/FrameBody.lean `View.canon`; the payloads are the skeleton's and the values stated above). -/
def out0_4 (x0 : Vec Ideal S5000x4 .f32) (x1 : Vec Ideal S5000x21 .f32) (x2 : Vec Ideal S5000x4 .f32) : Vec Ideal S20x1x5000 .f32 :=
  View.canon [⟨r0_2, k0_pay3 (View.ld x1 r0_0)⟩]

/-- Its stores tile the buffer (checked by evaluation), so they cover it. -/
theorem cover0_4 (p0 : Vec Ideal S20x1x5000 .f32) (y : S20x1x5000.Idx) :
    ∃ pc ∈ ([⟨r0_2, p0⟩] : List (View.Piece (Elt Ideal) S20x1x5000 .f32)), y ∈ pc.1.set :=
  View.cover_of_tiled [⟨r0_2, p0⟩] S20x1x5000.size (by rfl) y

/-- Window 5's staging buffer after the body, from the input windows' blocks: its 1 store as pieces, LAST
    FIRST (Lib/Pipeline/FrameBody.lean `View.canon`; the payloads are the skeleton's and the values stated above). -/
def out0_5 (x0 : Vec Ideal S5000x4 .f32) (x1 : Vec Ideal S5000x21 .f32) (x2 : Vec Ideal S5000x4 .f32) : Vec Ideal S5000x4 .f32 :=
  View.canon [⟨r0_3, k0_pay1 (k0_pay14 (k0_pay18 x0 x1 x2) (k0_pay20 x0 x1 x2) (View.ld x0 r0_3) (k0_pay22 x0 x1 x2)) (k0_pay15 (k0_pay19 x0 x1 x2) (k0_pay21 x0 x1 x2) (View.ld x0 r0_3) (k0_pay23 x0 x1 x2) (Scalar.ofBits .f32 0x41200000#32)) (k0_pay16 (k0_pay18 x0 x1 x2) (k0_pay20 x0 x1 x2) (View.ld x0 r0_3) (k0_pay22 x0 x1 x2)) (k0_pay17 (k0_pay19 x0 x1 x2) (k0_pay21 x0 x1 x2) (View.ld x0 r0_3) (k0_pay23 x0 x1 x2) (Scalar.ofBits .f32 0x41200000#32)) (Scalar.ofBits .f32 0x00000000#32) (Scalar.ofBits .f32 0x43A00000#32)⟩]

/-- Its stores tile the buffer (checked by evaluation), so they cover it. -/
theorem cover0_5 (p0 : Vec Ideal S5000x4 .f32) (y : S5000x4.Idx) :
    ∃ pc ∈ ([⟨r0_3, p0⟩] : List (View.Piece (Elt Ideal) S5000x4 .f32)), y ∈ pc.1.set :=
  View.cover_of_tiled [⟨r0_3, p0⟩] S5000x4.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S5000x4 .f32) (harg0 : arg0.IsWhole) (arg1 : Memref sig .tc .vmem S5000x21 .f32) (harg1 : arg1.IsWhole) (arg2 : Memref sig .tc .vmem S5000x4 .f32) (harg2 : arg2.IsWhole) (arg3 : Memref sig .tc .vmem S5000x20 .f32) (harg3 : arg3.IsWhole) (arg4 : Memref sig .tc .vmem S20x1x5000 .f32) (harg4 : arg4.IsWhole) (arg5 : Memref sig .tc .vmem S5000x4 .f32) (harg5 : arg5.IsWhole)
    (x0 : Vec Ideal S5000x4 .f32) (x1 : Vec Ideal S5000x21 .f32) (x2 : Vec Ideal S5000x4 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2) ∗ owns (c : Thread nD τ) arg4 fullShare (out0_4 x0 x1 x2) ∗ owns (c : Thread nD τ) arg5 fullShare (out0_5 x0 x1 x2)) -∗ K ⟨⟩))
      ⊢ wp frame (wpE (defs₀ (F := Ideal)) Variants.nat c none) E (cc0__prep_kernel arg0 harg0 arg1 harg1 arg2 harg2 arg3 harg3 arg4 harg4 arg5 harg5) K := by
  simp only [cc0__prep_kernel_eq_skeleton]; unfold cc0__prep_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  iexists _; isplitr
  swap; · iexact H5
  ipureintro
  refine (View.read_writes_eq_canon _ _ _ (cover0_5 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt Ideal) Unit ℕ (UR sig nD τ) ℕ (cfg0 (F := Ideal)) c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin (cfg0 (F := Ideal)).W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin (cfg0 (F := Ideal)).N) : (dat0 V c).after 0 t = iblk0 V c 0 t := by dsimp only [dat0]
theorem after0_1 (c : Dev nD) (t : Fin (cfg0 (F := Ideal)).N) : (dat0 V c).after 1 t = iblk0 V c 1 t := by dsimp only [dat0]
theorem after0_2 (c : Dev nD) (t : Fin (cfg0 (F := Ideal)).N) : (dat0 V c).after 2 t = iblk0 V c 2 t := by dsimp only [dat0]
theorem after0_3 (c : Dev nD) (t : Fin (cfg0 (F := Ideal)).N) : (dat0 V c).after 3 t = out0_3 (iblk0 V c 0 t) (iblk0 V c 1 t) (iblk0 V c 2 t) := by dsimp only [dat0]
theorem after0_4 (c : Dev nD) (t : Fin (cfg0 (F := Ideal)).N) : (dat0 V c).after 4 t = out0_4 (iblk0 V c 0 t) (iblk0 V c 1 t) (iblk0 V c 2 t) := by dsimp only [dat0]
theorem after0_5 (c : Dev nD) (t : Fin (cfg0 (F := Ideal)).N) : (dat0 V c).after 5 t = out0_5 (iblk0 V c 0 t) (iblk0 V c 1 t) (iblk0 V c 2 t) := by dsimp only [dat0]

/-- Each input's current staging buffer holds its block at every point, fetched there or not (`beforeK_W_of`). -/
theorem before0_0 (c : Dev nD) (t : Fin (cfg0 (F := Ideal)).N) (d) : (dat0 V c).before 0 t d = iblk0 V c 0 t :=
  before0_0_of V (dat0 V c) (A_eq0 V c 0) (after0_0 V c) t d
theorem before0_1 (c : Dev nD) (t : Fin (cfg0 (F := Ideal)).N) (d) : (dat0 V c).before 1 t d = iblk0 V c 1 t :=
  before0_1_of V (dat0 V c) (A_eq0 V c 1) (after0_1 V c) t d
theorem before0_2 (c : Dev nD) (t : Fin (cfg0 (F := Ideal)).N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin (cfg0 (F := Ideal)).N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin (cfg0 (F := Ideal)).N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin (cfg0 (F := Ideal)).N) :
    bodyPre0 V c t ⊢ wp frame (wpE (defs₀ (F := Ideal)) Variants.nat c none) Set.univ (bodyAt0 (F := Ideal) t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin (cfg0 (F := Ideal)).N) :
    defs₀ (F := Ideal) .tc (cfg0 (F := Ideal)).body ((cfg0 (F := Ideal)).bodyArgs t ((cfg0 (F := Ideal)).slots t)) = bodyAt0 (F := Ideal) t := by
  unfold defs₀; rw [Defs.onTc_tc]

/-- The library's body obligation, at every point: the body's triple restated (Lib/Pipeline/FrameBody.lean `triple_restated`). -/
theorem body_obligation0 (c : Dev nD) : BodyObligation (dat0 V c) (defs₀ (F := Ideal)) Variants.nat () Set.univ := fun t => by
  rw [bigSep_W0, bigSep_W0, defs₀_row0]
  exact triple_restated (sound_body0 V c t) rfl .rfl fun _ => .rfl

end Regions

end Cert.Proof.KRun

end
-- ==== Proof.NmsLoop.lean ====
/-
  The suppression loop of the class kernel: its printed label's function runs a fixed step until the kept set does
  not change. Stated here: the loop's result as a function, when it stops, and the label's call answered by it.
-/
module

public import proofs.«01_k».proof.Proof.Gen.KernelIdeal.Skeleton
public import proofs.«01_k».proof.Proof.Gen.KernelIdeal.Launch
public import Idealize.ShloMosaic.Lib.Tactic
public import Idealize.ShloMosaic.Lib.Pointwise
public import Idealize.ShloMosaic.PureOps.Ideal
public import Idealize.ShloMosaic.PureOps.Ideal.Laws

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The word the loop's step yields as its condition: did the kept set change. -/
def nmsFlag (S : FVec Ideal S400x400 .f32) (v k : FVec Ideal S1x400 .f32) : BitVec 1 :=
  Scalar.cmpf .ogt (k1_pay7 S v k) (Scalar.ofBits .f32 0x00000000#32 : Ideal .f32)

/-- At most `n` steps from the kept set `k`, stopping at the first step that changes nothing. -/
def nmsGo (S : FVec Ideal S400x400 .f32) (v : FVec Ideal S1x400 .f32) : ℕ → FVec Ideal S1x400 .f32 → FVec Ideal S1x400 .f32
  | 0, k => k
  | n + 1, k => if nmsFlag S v k = 1#1 then nmsGo S v n (k1_pay6 S v k) else k1_pay6 S v k

/-- Within `n` steps from `k` some step changes nothing. -/
def NmsStops (S : FVec Ideal S400x400 .f32) (v : FVec Ideal S1x400 .f32) : ℕ → FVec Ideal S1x400 .f32 → Prop
  | 0, _ => False
  | n + 1, k => nmsFlag S v k = 1#1 → NmsStops S v n (k1_pay6 S v k)

/-- What the loop leaves, from the kept set of the valid candidates. -/
def nmsOut (S : FVec Ideal S400x400 .f32) (v : FVec Ideal S1x400 .f32) : FVec Ideal S1x400 .f32 := nmsGo S v 401 v

/-- The specification of the label: it returns `r` with the condition false and touches nothing. -/
def nmsRet (r : FVec Ideal S1x400 .f32) : sWPT 𝕄 (FVec Ideal S1x400 .f32 × BitVec 1) := pure (r, 0#1)

theorem nmsRet_apply (r : FVec Ideal S1x400 .f32) (K : FVec Ideal S1x400 .f32 × BitVec 1 → sProp 𝕄) :
    nmsRet r K = K (r, 0#1) := rfl

/-- A bit other than one is zero. -/
theorem bit_of_ne {b : BitVec 1} (h : ¬ b = 1#1) : b = 0#1 := by
  have := b.isLt
  apply BitVec.eq_of_toNat_eq
  have h2 : b.toNat ≠ 1 := fun e => h (BitVec.eq_of_toNat_eq e)
  show b.toNat = 0
  omega

/-- The label's function meets its specification at variant `n` when it is entered with the condition false, or with
    it true at a kept set from which the loop stops within `n` steps. -/
theorem nms_le (c : Dev nD) (E : Set ℕ) (i : grid1.Coords) (S : FVec Ideal S400x400 .f32) (v : FVec Ideal S1x400 .f32) :
    ∀ (n : ℕ) (k : FVec Ideal S1x400 .f32) (b : BitVec 1), (b = 1#1 → NmsStops S v n k) →
      nmsRet (if b = 1#1 then nmsGo S v n k else k)
        ≤ wp frame (wpE (defs₀ (F := Ideal)) Variants.nat (c : Thread nD τ) (some n)) E
          (defs₀ (F := Ideal) .tc 3 ⟨i, S, v, k, b⟩) := by
  intro n
  induction n with
  | zero =>
    intro k b hb K
    have hb0 : ¬ b = 1#1 := fun h => hb h
    show _ ⊢ wp frame (wpE (defs₀ (F := Ideal)) Variants.nat (c : Thread nD τ) (some 0)) E (cc1_while1 i S v k b) K
    rw [cc1_while1_eq_skeleton]; unfold cc1_while1_skel
    rw [if_neg hb0, if_neg hb0, nmsRet_apply, Prog.pure_eq_ret, wp_ret]
    obtain rfl : b = 0#1 := bit_of_ne hb0
    iintro H; imodintro; iexact H
  | succ n ih =>
    intro k b hb K
    show _ ⊢ wp frame (wpE (defs₀ (F := Ideal)) Variants.nat (c : Thread nD τ) (some (n + 1))) E (cc1_while1 i S v k b) K
    rw [cc1_while1_eq_skeleton]; unfold cc1_while1_skel
    by_cases h1 : b = 1#1
    · rw [if_pos h1, if_pos h1, nmsRet_apply]
      simp only [Prog.lift]
      have hs := hb h1
      iintro H
      iapply (wp_call_spec Variants.nat (c : Thread nD τ) (some (n + 1)) E
        (nmsRet (if nmsFlag S v k = 1#1 then nmsGo S v n (k1_pay6 S v k) else k1_pay6 S v k)) n
        (fun u hu => by cases hu; exact Nat.lt_succ_self n) (ih (k1_pay6 S v k) (nmsFlag S v k) hs))
      rw [nmsRet_apply, wp_ret, show nmsGo S v (n + 1) k
        = if nmsFlag S v k = 1#1 then nmsGo S v n (k1_pay6 S v k) else k1_pay6 S v k from rfl]
      imodintro
      iexact H
    · rw [if_neg h1, if_neg h1, nmsRet_apply, Prog.pure_eq_ret, wp_ret]
      obtain rfl : b = 0#1 := bit_of_ne h1
      iintro H; imodintro; iexact H

/-- The kernel's call of the label: the loop's result, when it stops within its bound. -/
theorem nms_call (c : Dev nD) (E : Set ℕ) (i : grid1.Coords) (S : FVec Ideal S400x400 .f32) (v : FVec Ideal S1x400 .f32)
    (h : NmsStops S v 401 v) :
    nmsRet (nmsOut S v) ≤ wp frame (wpE (defs₀ (F := Ideal)) Variants.nat (c : Thread nD τ) (some 401)) E
          (defs₀ (F := Ideal) .tc 3 ⟨i, S, v, v, 1#1⟩) :=
  nms_le c E i S v 401 v 1#1 fun _ => h

/-! ### The step at an index -/

/-- A one-bit truth value read as a float is one or zero. -/
theorem sitofp_bit (p : Prop) [Decidable p] :
    (FloatOps.sitofp FTy.f32 (BitVec.setWidth 32 (BitVec.ofBool (decide p))) : Ideal .f32) = if p then (1 : EReal) else 0 := by
  by_cases h : p
  · simp only [h, decide_true, BitVec.ofBool_true, if_true]
    show (((BitVec.setWidth 32 1#1).toInt : ℝ) : EReal) = 1
    norm_num
  · simp only [h, decide_false, BitVec.ofBool_false, if_false]
    show (((BitVec.setWidth 32 0#1).toInt : ℝ) : EReal) = 0
    norm_num

/-- An index of a one-row array is its column's. -/
theorem eq_row (y : S1x400.Idx) : ∃ j : Fin 400, y = ix2 (0 : Fin 1) j := by
  idx_vars y
  obtain rfl : y0 = 0 := Subsingleton.elim _ _
  exact ⟨y1, rfl⟩

/-- The step at a column: the valid bit times the bit that no kept row suppresses it. -/
theorem step_apply (S : FVec Ideal S400x400 .f32) (v k : FVec Ideal S1x400 .f32) (j : Fin 400) :
    k1_pay6 S v k (ix2 0 j) = v (ix2 0 j) *
      (if (∑ a : Fin 400, k (ix2 0 a) * S (ix2 a j) : EReal) < Ideal.ofBits .f32 0x3F000000#32 then (1 : EReal) else 0) := by
  pointwise [k1_pay6]
  rw [sitofp_bit]

/-- The condition holds exactly when the step changed the kept set. -/
theorem flag_eq (S : FVec Ideal S400x400 .f32) (v k : FVec Ideal S1x400 .f32) :
    nmsFlag S v k = 1#1 ↔ k1_pay6 S v k ≠ k := by
  unfold nmsFlag
  pointwise [k1_pay7]
  have hb : Ideal.ofBits FTy.f32 4286578688#32 = ⊥ := by
    simp [Ideal.ofBits, Ideal.ieee]
  rw [hb, show ∀ b : Bool, BitVec.ofBool b = 1#1 ↔ b = true from by decide, decide_eq_true_iff, Finset.lt_fold_max]
  constructor
  · rintro (h | ⟨x, -, h⟩) he
    · exact absurd h (by simp)
    · rw [he, if_neg (by simp)] at h
      exact lt_irrefl _ h
  · intro hne
    right
    by_contra hc
    apply hne
    funext y
    obtain ⟨j, rfl⟩ := eq_row y
    by_contra hy
    refine hc ⟨(0, j), Finset.mem_univ _, ?_⟩
    show (0 : EReal) < if k1_pay6 S v k (ix2 0 j) ≠ k (ix2 0 j) then 1 else 0
    rw [if_pos hy]
    exact zero_lt_one

/-- Nothing suppresses a candidate at or before itself. -/
theorem sup_zero (a d : FVec Ideal S400x400 .f32) (x y : Fin 400) (h : y ≤ x) :
    k1_pay1 (F := Ideal) a (iota .tc S400x400 32 [0] iota_S400x400_d0_w32) (iota .tc S400x400 32 [1] iota_S400x400_d1_w32) d (ix2 x y) = 0 := by
  pointwise [k1_pay1]
  have hc : IntOp.cmpi CmpIPredicate.slt (BitVec.ofNat 32 x.val) (BitVec.ofNat 32 y.val) = 0#1 := by
    have hx := x.isLt
    have hy := y.isLt
    have hle : y.val ≤ x.val := h
    unfold IntOp.cmpi
    simp only [BitVec.slt]
    rw [BitVec.toInt_eq_toNat_of_lt (by rw [BitVec.toNat_ofNat]; omega), BitVec.toInt_eq_toNat_of_lt (by rw [BitVec.toNat_ofNat]; omega),
      BitVec.toNat_ofNat, BitVec.toNat_ofNat]
    rw [decide_eq_false (by omega)]
    rfl
  rw [hc]
  unfold IntOp.andi
  rw [BitVec.and_zero]
  show (((BitVec.setWidth 32 0#1).toInt : ℝ) : EReal) = 0
  norm_num

/-- The step at a column reads the kept set before it only, when nothing suppresses a candidate at or before itself. -/
theorem step_congr (S : FVec Ideal S400x400 .f32) (v k k' : FVec Ideal S1x400 .f32)
    (hS : ∀ x y : Fin 400, y ≤ x → S (ix2 x y) = 0) (j : Fin 400)
    (h : ∀ a : Fin 400, a < j → k (ix2 0 a) = k' (ix2 0 a)) :
    k1_pay6 S v k (ix2 0 j) = k1_pay6 S v k' (ix2 0 j) := by
  rw [step_apply, step_apply]
  have e : ∀ a ∈ (Finset.univ : Finset (Fin 400)), (k (ix2 0 a) * S (ix2 a j) : EReal) = k' (ix2 0 a) * S (ix2 a j) := by
    intro a _
    rcases lt_or_ge a j with hlt | hge
    · rw [h a hlt]
    · rw [hS a j hge]
      exact (mul_zero (M₀ := EReal) _).trans (mul_zero (M₀ := EReal) _).symm
  rw [Finset.sum_congr rfl e]

/-- Once the kept set and its step agree before position `p`, the loop stops within `401 - p` further steps. -/
theorem stops_of_prefix (S : FVec Ideal S400x400 .f32) (v : FVec Ideal S1x400 .f32)
    (hS : ∀ x y : Fin 400, y ≤ x → S (ix2 x y) = 0) :
    ∀ (n : ℕ) (k : FVec Ideal S1x400 .f32), (∀ a : Fin 400, a.val + n < 400 → k1_pay6 S v k (ix2 0 a) = k (ix2 0 a)) →
      NmsStops S v (n + 1) k := by
  intro n
  induction n with
  | zero =>
    intro k hk hf
    refine absurd ?_ ((flag_eq S v k).mp hf)
    funext y
    obtain ⟨j, rfl⟩ := eq_row y
    exact hk _ j.isLt
  | succ n ih =>
    intro k hk _
    refine ih (k1_pay6 S v k) fun a ha => ?_
    refine step_congr S v _ _ hS a fun b hb => hk b ?_
    have : b.val < a.val := hb
    omega

/-- The loop stops within its bound from any kept set. -/
theorem nmsStops (S : FVec Ideal S400x400 .f32) (v k : FVec Ideal S1x400 .f32)
    (hS : ∀ x y : Fin 400, y ≤ x → S (ix2 x y) = 0) : NmsStops S v 401 k :=
  stops_of_prefix S v hS 400 k fun a ha => absurd ha (by omega)

/-- Where the loop stops, its step changes nothing: the result is a fixed point of the step. -/
theorem nmsGo_fixed (S : FVec Ideal S400x400 .f32) (v : FVec Ideal S1x400 .f32) :
    ∀ (n : ℕ) (k : FVec Ideal S1x400 .f32), NmsStops S v n k → k1_pay6 S v (nmsGo S v n k) = nmsGo S v n k := by
  intro n
  induction n with
  | zero => intro k h; exact h.elim
  | succ n ih =>
    intro k h
    by_cases hf : nmsFlag S v k = 1#1
    · rw [show nmsGo S v (n + 1) k = nmsGo S v n (k1_pay6 S v k) from if_pos hf]
      exact ih _ (h hf)
    · rw [show nmsGo S v (n + 1) k = k1_pay6 S v k from if_neg hf]
      have : k1_pay6 S v k = k := by
        by_contra hne
        exact hf ((flag_eq S v k).mpr hne)
      rw [this, this]

/-- The loop's result is a fixed point of the step. -/
theorem nmsOut_fixed (S : FVec Ideal S400x400 .f32) (v : FVec Ideal S1x400 .f32)
    (hS : ∀ x y : Fin 400, y ≤ x → S (ix2 x y) = 0) : k1_pay6 S v (nmsOut S v) = nmsOut S v :=
  nmsGo_fixed S v 401 v (nmsStops S v v hS)

/-- The loop stops at the suppression matrix the kernel forms. -/
theorem nmsStops_sup (a d : FVec Ideal S400x400 .f32) (v k : FVec Ideal S1x400 .f32) :
    NmsStops (k1_pay1 (F := Ideal) a (iota .tc S400x400 32 [0] iota_S400x400_d0_w32) (iota .tc S400x400 32 [1] iota_S400x400_d1_w32) d) v 401 k :=
  nmsStops _ v k fun x y h => sup_zero a d x y h

end Cert.Proof.KRun

end
-- ==== Proof.KReg1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.PureOps.Ideal
public import proofs.«01_k».proof.Proof.NmsLoop

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section Regions
variable (V : (c : Dev nD) → (b : Ref sig .tc) → Buf (Elt Ideal) ((c : Thread nD τ).loc b))

/-! # REGION 1 of @main: custom_call 1, `cc1__class_kernel` (pipeline 1), at the entry contents `V` -/

/-! ## The windows' blocks -/

/-- Window `w`'s block at point `t`, read off its array as the region finds it (`V`). -/
def iblk1 (c : Dev nD) (w : Fin (cfg1 (F := Ideal)).W) (t : Fin (cfg1 (F := Ideal)).N) : (((cfg1 (F := Ideal)).win w).xblock ((cfg1 (F := Ideal)).grid.coords t)).Idx → Elt Ideal ((cfg1 (F := Ideal)).win w).elt :=
  (((cfg1 (F := Ideal)).win w).blk t).view.read (Elt Ideal) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt Ideal) Unit ℕ (UR sig nD τ) ℕ (cfg1 (F := Ideal)) c) (hA : dat.A 0 = V c (Pipeline.arrRef spec1 0))
    (hafter : ∀ t, dat.after 0 t = iblk1 V c 0 t) (t : Fin (cfg1 (F := Ideal)).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt Ideal) Unit ℕ (UR sig nD τ) ℕ (cfg1 (F := Ideal)) c) (hA : dat.A 1 = V c (Pipeline.arrRef spec1 1))
    (hafter : ∀ t, dat.after 1 t = iblk1 V c 1 t) (t : Fin (cfg1 (F := Ideal)).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt Ideal) Unit ℕ (UR sig nD τ) ℕ (cfg1 (F := Ideal)) c) (hA : dat.A 2 = V c (Pipeline.arrRef spec1 2))
    (hafter : ∀ t, dat.after 2 t = iblk1 V c 2 t) (t : Fin (cfg1 (F := Ideal)).N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1x5000 := Rect.unit (s := S1x1x5000) ![0, 0, 0] S1x1x5000.size inb_S1x1x5000_S1x1x5000_0_0_0
abbrev r1_1 : Rect S5000x20 := Rect.unit (s := S5000x20) ![0, 0] S5000x20.size inb_S5000x20_S5000x20_0_0
abbrev r1_2 : Rect S5000x4 := Rect.unit (s := S5000x4) ![0, 0] S5000x4.size inb_S5000x4_S5000x4_0_0
abbrev r1_3 : Rect S1x1x400 := Rect.unit (s := S1x1x400) ![0, 0, 0] S1x1x400.size inb_S1x1x400_S1x1x400_0_0_0
abbrev r1_4 : Rect S1x400x4 := Rect.unit (s := S1x400x4) ![0, 0, 0] S1x400x4.size inb_S1x400x4_S1x400x4_0_0_0

/-! ## What the body leaves in each output window's buffer -/

/-! ### Values of the body that the stores' payloads, spelt out, would write more than once

    Each is a vector the body binds (often a part call's result), stated over the input windows' blocks and
    numbered on from the skeleton's payload functions (`k1v11` …, after `k1_pay31`), so that
    `out1_W` and the values after it name it instead of spelling it out (`unfold_out out1_W` opens a canon
    with them, `unfold_payloads` opens them with the payloads); the comment after each is the printed function's
    name for the value (a count appended where that name is bound again). -/

def k1v11 (i : grid1.Coords) (x0 : Vec Ideal S5000x20 .f32) (x1 : Vec Ideal S1x1x5000 .f32) (x2 : Vec Ideal S5000x4 .f32) : IVec S1000x1 32 :=
  iota .tc S1000x1 32 [0] iota_S1000x1_d0_w32 -- `v11`
def k1v1 (i : grid1.Coords) (x0 : Vec Ideal S5000x20 .f32) (x1 : Vec Ideal S1x1x5000 .f32) (x2 : Vec Ideal S5000x4 .f32) : FVec Ideal S1x5000 .f32 :=
  k1_pay8 (View.ld x1 r1_0) -- `v1`
def k1v10 (i : grid1.Coords) (x0 : Vec Ideal S5000x20 .f32) (x1 : Vec Ideal S1x1x5000 .f32) (x2 : Vec Ideal S5000x4 .f32) : FVec Ideal S5000x1 .f32 :=
  k1_pay9 i (View.ld x0 r1_1) -- `v10`
def k1v15 (i : grid1.Coords) (x0 : Vec Ideal S5000x20 .f32) (x1 : Vec Ideal S1x1x5000 .f32) (x2 : Vec Ideal S5000x4 .f32) : IVec S1000x1000 1 :=
  k1_pay10 -- `v15`
def k1v18 (i : grid1.Coords) (x0 : Vec Ideal S5000x20 .f32) (x1 : Vec Ideal S1x1x5000 .f32) (x2 : Vec Ideal S5000x4 .f32) : IVec S1000x1000 1 :=
  k1_pay11 -- `v18`
def k1v207 (i : grid1.Coords) (x0 : Vec Ideal S5000x20 .f32) (x1 : Vec Ideal S1x1x5000 .f32) (x2 : Vec Ideal S5000x4 .f32) : IVec S5000x400 32 :=
  iota .tc S5000x400 32 [1] iota_S5000x400_d1_w32 -- `v207`
def k1v208 (i : grid1.Coords) (x0 : Vec Ideal S5000x20 .f32) (x1 : Vec Ideal S1x1x5000 .f32) (x2 : Vec Ideal S5000x4 .f32) : IVec S5000x1 32 :=
  k1_pay26 (k1v1 i x0 x1 x2) (k1v10 i x0 x1 x2) (k1v11 i x0 x1 x2) (k1v15 i x0 x1 x2) (k1v18 i x0 x1 x2) (k1_pay15 (k1_pay13 i (View.ld x1 r1_0) (View.ld x0 r1_1)) (k1_pay14 i (View.ld x1 r1_0) (View.ld x0 r1_1))) (k1_pay16 (k1v1 i x0 x1 x2) (k1v10 i x0 x1 x2) (k1v11 i x0 x1 x2) (k1v15 i x0 x1 x2) (k1v18 i x0 x1 x2)) (k1_pay21 (k1v1 i x0 x1 x2) (k1v18 i x0 x1 x2) (k1_pay17 (k1v10 i x0 x1 x2)) (k1_pay18 (k1v1 i x0 x1 x2)) (k1_pay19 (F := Ideal) (k1v11 i x0 x1 x2)) (k1_pay20 (k1v1 i x0 x1 x2) (k1v10 i x0 x1 x2) (k1v15 i x0 x1 x2))) (k1_pay22 (k1v10 i x0 x1 x2)) (k1_pay24 (k1v1 i x0 x1 x2) (k1v10 i x0 x1 x2) (k1v11 i x0 x1 x2) (k1v15 i x0 x1 x2)) (k1_pay25 (k1v1 i x0 x1 x2) (k1v10 i x0 x1 x2) (k1v18 i x0 x1 x2)) -- `v208`
def k1v215 (i : grid1.Coords) (x0 : Vec Ideal S5000x20 .f32) (x1 : Vec Ideal S1x1x5000 .f32) (x2 : Vec Ideal S5000x4 .f32) : FVec Ideal S1x400 .f32 :=
  k1_pay28 (k1v1 i x0 x1 x2) (k1v207 i x0 x1 x2) (k1v208 i x0 x1 x2) -- `v215`

/-- The suppression matrix of the class: row suppresses column. -/
def k1sup (i : grid1.Coords) (x0 : Vec Ideal S5000x20 .f32) (x1 : Vec Ideal S1x1x5000 .f32) (x2 : Vec Ideal S5000x4 .f32) : FVec Ideal S400x400 .f32 :=
  k1_pay1 (k1_pay30 (k1v207 i x0 x1 x2) (k1v208 i x0 x1 x2) (View.ld x2 r1_2)) (iota .tc S400x400 32 [0] iota_S400x400_d0_w32) (iota .tc S400x400 32 [1] iota_S400x400_d1_w32) (k1_pay31 (F := Ideal))

/-- Window 3's staging buffer after the body, from the input windows' blocks: its 1 store as pieces, LAST
    FIRST (Lib/Pipeline/FrameBody.lean `View.canon`; the payloads are the skeleton's and the values stated above). -/
def out1_3 (i : grid1.Coords) (x0 : Vec Ideal S5000x20 .f32) (x1 : Vec Ideal S1x1x5000 .f32) (x2 : Vec Ideal S5000x4 .f32) : Vec Ideal S1x1x400 .f32 :=
  View.canon [⟨r1_3, k1_pay3 (k1v215 i x0 x1 x2)⟩]

/-- Its stores tile the buffer (checked by evaluation), so they cover it. -/
theorem cover1_3 (p0 : Vec Ideal S1x1x400 .f32) (y : S1x1x400.Idx) :
    ∃ pc ∈ ([⟨r1_3, p0⟩] : List (View.Piece (Elt Ideal) S1x1x400 .f32)), y ∈ pc.1.set :=
  View.cover_of_tiled [⟨r1_3, p0⟩] S1x1x400.size (by rfl) y

/-- Window 4's staging buffer after the body, from the input windows' blocks: its 1 store as pieces, LAST
    FIRST (Lib/Pipeline/FrameBody.lean `View.canon`; the payloads are the skeleton's and the values stated above). -/
def out1_4 (i : grid1.Coords) (x0 : Vec Ideal S5000x20 .f32) (x1 : Vec Ideal S1x1x5000 .f32) (x2 : Vec Ideal S5000x4 .f32) : Vec Ideal S1x400x4 .f32 :=
  View.canon [⟨r1_4, k1_pay4 (k1_pay29 (k1v207 i x0 x1 x2) (k1v208 i x0 x1 x2) (View.ld x2 r1_2))⟩]

/-- Its stores tile the buffer (checked by evaluation), so they cover it. -/
theorem cover1_4 (p0 : Vec Ideal S1x400x4 .f32) (y : S1x400x4.Idx) :
    ∃ pc ∈ ([⟨r1_4, p0⟩] : List (View.Piece (Elt Ideal) S1x400x4 .f32)), y ∈ pc.1.set :=
  View.cover_of_tiled [⟨r1_4, p0⟩] S1x400x4.size (by rfl) y

/-- Window 5's staging buffer after the body, from the input windows' blocks: its 1 store as pieces, LAST
    FIRST (Lib/Pipeline/FrameBody.lean `View.canon`; the payloads are the skeleton's and the values stated above). -/
def out1_5 (i : grid1.Coords) (x0 : Vec Ideal S5000x20 .f32) (x1 : Vec Ideal S1x1x5000 .f32) (x2 : Vec Ideal S5000x4 .f32) : Vec Ideal S1x1x400 .f32 :=
  View.canon [⟨r1_3, k1_pay5 (nmsOut (k1sup i x0 x1 x2) (k1_pay2 (k1v215 i x0 x1 x2)))⟩]

/-- Its stores tile the buffer (checked by evaluation), so they cover it. -/
theorem cover1_5 (p0 : Vec Ideal S1x1x400 .f32) (y : S1x1x400.Idx) :
    ∃ pc ∈ ([⟨r1_3, p0⟩] : List (View.Piece (Elt Ideal) S1x1x400 .f32)), y ∈ pc.1.set :=
  View.cover_of_tiled [⟨r1_3, p0⟩] S1x1x400.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S5000x20 .f32) (harg1 : arg1.IsWhole) (arg2 : Memref sig .tc .vmem S1x1x5000 .f32) (harg2 : arg2.IsWhole) (arg3 : Memref sig .tc .vmem S5000x4 .f32) (harg3 : arg3.IsWhole) (arg4 : Memref sig .tc .vmem S1x1x400 .f32) (harg4 : arg4.IsWhole) (arg5 : Memref sig .tc .vmem S1x400x4 .f32) (harg5 : arg5.IsWhole) (arg6 : Memref sig .tc .vmem S1x1x400 .f32) (harg6 : arg6.IsWhole)
    (x0 : Vec Ideal S5000x20 .f32) (x1 : Vec Ideal S1x1x5000 .f32) (x2 : Vec Ideal S5000x4 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 i x0 x1 x2) ∗ owns (c : Thread nD τ) arg5 fullShare (out1_4 i x0 x1 x2) ∗ owns (c : Thread nD τ) arg6 fullShare (out1_5 i x0 x1 x2)) -∗ K ⟨⟩))
      ⊢ wp frame (wpE (defs₀ (F := Ideal)) Variants.nat c none) E (cc1__class_kernel i arg1 harg1 arg2 harg2 arg3 harg3 arg4 harg4 arg5 harg5 arg6 harg6) K := by
  simp only [cc1__class_kernel_eq_skeleton]; unfold cc1__class_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  iapply (wp_call_spec Variants.nat (c : Thread nD τ) none E
    (nmsRet (nmsOut (k1sup i (arg1.view.read (Elt Ideal) f0) (arg2.view.read (Elt Ideal) f1) (arg3.view.read (Elt Ideal) f2)) (k1_pay2 (k1v215 i (arg1.view.read (Elt Ideal) f0) (arg2.view.read (Elt Ideal) f1) (arg3.view.read (Elt Ideal) f2))))) 401
    (fun u hu => nomatch hu) (nms_call c E i _ _ (nmsStops_sup _ _ _ _)))
  rw [nmsRet_apply]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _)).trans ?_
    rfl
  isplitl [H4]
  · iexists _; isplitr
    swap; · iexact H4
    ipureintro
    refine (View.read_writes_eq_canon _ _ _ (cover1_4 _)).trans ?_
    rfl
  iexists _; isplitr
  swap; · iexact H5
  ipureintro
  refine (View.read_writes_eq_canon _ _ _ (cover1_5 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt Ideal) Unit ℕ (UR sig nD τ) ℕ (cfg1 (F := Ideal)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (grid1.coords t) (iblk1 V c 0 t) (iblk1 V c 1 t) (iblk1 V c 2 t)
    | ⟨4, _⟩ => out1_4 (grid1.coords t) (iblk1 V c 0 t) (iblk1 V c 1 t) (iblk1 V c 2 t)
    | ⟨5, _⟩ => out1_5 (grid1.coords t) (iblk1 V c 0 t) (iblk1 V c 1 t) (iblk1 V c 2 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin (cfg1 (F := Ideal)).W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin (cfg1 (F := Ideal)).N) : (dat1 V c).after 0 t = iblk1 V c 0 t := by dsimp only [dat1]
theorem after1_1 (c : Dev nD) (t : Fin (cfg1 (F := Ideal)).N) : (dat1 V c).after 1 t = iblk1 V c 1 t := by dsimp only [dat1]
theorem after1_2 (c : Dev nD) (t : Fin (cfg1 (F := Ideal)).N) : (dat1 V c).after 2 t = iblk1 V c 2 t := by dsimp only [dat1]
theorem after1_3 (c : Dev nD) (t : Fin (cfg1 (F := Ideal)).N) : (dat1 V c).after 3 t = out1_3 (grid1.coords t) (iblk1 V c 0 t) (iblk1 V c 1 t) (iblk1 V c 2 t) := by dsimp only [dat1]
theorem after1_4 (c : Dev nD) (t : Fin (cfg1 (F := Ideal)).N) : (dat1 V c).after 4 t = out1_4 (grid1.coords t) (iblk1 V c 0 t) (iblk1 V c 1 t) (iblk1 V c 2 t) := by dsimp only [dat1]
theorem after1_5 (c : Dev nD) (t : Fin (cfg1 (F := Ideal)).N) : (dat1 V c).after 5 t = out1_5 (grid1.coords t) (iblk1 V c 0 t) (iblk1 V c 1 t) (iblk1 V c 2 t) := by dsimp only [dat1]

/-- Each input's current staging buffer holds its block at every point, fetched there or not (`beforeK_W_of`). -/
theorem before1_0 (c : Dev nD) (t : Fin (cfg1 (F := Ideal)).N) (d) : (dat1 V c).before 0 t d = iblk1 V c 0 t :=
  before1_0_of V (dat1 V c) (A_eq1 V c 0) (after1_0 V c) t d
theorem before1_1 (c : Dev nD) (t : Fin (cfg1 (F := Ideal)).N) (d) : (dat1 V c).before 1 t d = iblk1 V c 1 t :=
  before1_1_of V (dat1 V c) (A_eq1 V c 1) (after1_1 V c) t d
theorem before1_2 (c : Dev nD) (t : Fin (cfg1 (F := Ideal)).N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin (cfg1 (F := Ideal)).N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin (cfg1 (F := Ideal)).N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant and
    the core's `owes` pass through unread. -/
theorem sound_body1 (c : Dev nD) (t : Fin (cfg1 (F := Ideal)).N) :
    bodyPre1 V c t ⊢ wp frame (wpE (defs₀ (F := Ideal)) Variants.nat c none) Set.univ (bodyAt1 (F := Ideal) t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin (cfg1 (F := Ideal)).N) :
    defs₀ (F := Ideal) .tc (cfg1 (F := Ideal)).body ((cfg1 (F := Ideal)).bodyArgs t ((cfg1 (F := Ideal)).slots t)) = bodyAt1 (F := Ideal) t := by
  unfold defs₀; rw [Defs.onTc_tc]

/-- The library's body obligation, at every point: the body's triple restated (Lib/Pipeline/FrameBody.lean `triple_restated`). -/
theorem body_obligation1 (c : Dev nD) : BodyObligation (dat1 V c) (defs₀ (F := Ideal)) Variants.nat () Set.univ := fun t => by
  rw [bigSep_W1, bigSep_W1, defs₀_row1]
  exact triple_restated (sound_body1 V c t) rfl .rfl fun _ => .rfl

end Regions

end Cert.Proof.KRun

end
-- ==== Proof.KReg2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.PureOps.Ideal

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

section Regions
variable (V : (c : Dev nD) → (b : Ref sig .tc) → Buf (Elt Ideal) ((c : Thread nD τ).loc b))

/-! # REGION 2 of @main: custom_call 2, `cc2__final_kernel` (pipeline 2), at the entry contents `V` — class R -/

/-! ## The windows' blocks -/

/-- Window `w`'s block at point `t`, read off its array as the region finds it (`V`). -/
def iblk2 (c : Dev nD) (w : Fin (cfg2 (F := Ideal)).W) (t : Fin (cfg2 (F := Ideal)).N) : (((cfg2 (F := Ideal)).win w).xblock ((cfg2 (F := Ideal)).grid.coords t)).Idx → Elt Ideal ((cfg2 (F := Ideal)).win w).elt :=
  (((cfg2 (F := Ideal)).win w).blk t).view.read (Elt Ideal) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt Ideal) Unit ℕ (UR sig nD τ) ℕ (cfg2 (F := Ideal)) c) (hA : dat.A 0 = V c (Pipeline.arrRef spec2 0))
    (hafter : ∀ t, dat.after 0 t = iblk2 V c 0 t) (t : Fin (cfg2 (F := Ideal)).N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt Ideal) Unit ℕ (UR sig nD τ) ℕ (cfg2 (F := Ideal)) c) (hA : dat.A 1 = V c (Pipeline.arrRef spec2 1))
    (hafter : ∀ t, dat.after 1 t = iblk2 V c 1 t) (t : Fin (cfg2 (F := Ideal)).N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt Ideal) Unit ℕ (UR sig nD τ) ℕ (cfg2 (F := Ideal)) c) (hA : dat.A 2 = V c (Pipeline.arrRef spec2 2))
    (hafter : ∀ t, dat.after 2 t = iblk2 V c 2 t) (t : Fin (cfg2 (F := Ideal)).N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt Ideal) Unit ℕ (UR sig nD τ) ℕ (cfg2 (F := Ideal)) c) (hA : dat.A 3 = V c (Pipeline.arrRef spec2 3))
    (hafter : ∀ t, dat.after 3 t = iblk2 V c 3 t) (t : Fin (cfg2 (F := Ideal)).N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt Ideal) Unit ℕ (UR sig nD τ) ℕ (cfg2 (F := Ideal)) c) (hA : dat.A 4 = V c (Pipeline.arrRef spec2 4))
    (hafter : ∀ t, dat.after 4 t = iblk2 V c 4 t) (t : Fin (cfg2 (F := Ideal)).N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 5, through which its contents are stated (`View.read_writes_of_cover`: the
    choice does not matter). -/
abbrev VO2_5 : View sig .tc .vmem S200x4 .f32 := (Memref.whole cc2_stg5_0 : Memref sig .tc .vmem S200x4 .f32).view
/-- One staging buffer of output window 6, through which its contents are stated (`View.read_writes_of_cover`: the
    choice does not matter). -/
abbrev VO2_6 : View sig .tc .vmem S1x200 .f32 := (Memref.whole cc2_stg6_0 : Memref sig .tc .vmem S1x200 .f32).view
/-- One staging buffer of output window 7, through which its contents are stated (`View.read_writes_of_cover`: the
    choice does not matter). -/
abbrev VO2_7 : View sig .tc .vmem S1x200 .i32 := (Memref.whole cc2_stg7_0 : Memref sig .tc .vmem S1x200 .i32).view
/-- Each window's current staging memref at point `t`, spelled as the pipeline passes it (`bodyAt2`), and its wholeness. -/
abbrev ms2_0 (t : Fin (cfg2 (F := Ideal)).N) : Memref sig .tc .vmem S1x8000 .f32 := win2_0.stage ((cfg2 (F := Ideal)).slots t 0)
abbrev hs2_0 (t : Fin (cfg2 (F := Ideal)).N) : (ms2_0 t).IsWhole := hstage2_0 0
abbrev ms2_1 (t : Fin (cfg2 (F := Ideal)).N) : Memref sig .tc .vmem S8000x1 .f32 := win2_1.stage ((cfg2 (F := Ideal)).slots t 1)
abbrev hs2_1 (t : Fin (cfg2 (F := Ideal)).N) : (ms2_1 t).IsWhole := hstage2_1 0
abbrev ms2_2 (t : Fin (cfg2 (F := Ideal)).N) : Memref sig .tc .vmem S1x8000 .f32 := win2_2.stage ((cfg2 (F := Ideal)).slots t 2)
abbrev hs2_2 (t : Fin (cfg2 (F := Ideal)).N) : (ms2_2 t).IsWhole := hstage2_2 0
abbrev ms2_3 (t : Fin (cfg2 (F := Ideal)).N) : Memref sig .tc .vmem S8000x1 .f32 := win2_3.stage ((cfg2 (F := Ideal)).slots t 3)
abbrev hs2_3 (t : Fin (cfg2 (F := Ideal)).N) : (ms2_3 t).IsWhole := hstage2_3 0
abbrev ms2_4 (t : Fin (cfg2 (F := Ideal)).N) : Memref sig .tc .vmem S8000x4 .f32 := win2_4.stage ((cfg2 (F := Ideal)).slots t 4)
abbrev hs2_4 (t : Fin (cfg2 (F := Ideal)).N) : (ms2_4 t).IsWhole := hstage2_4 0
abbrev ms2_5 (t : Fin (cfg2 (F := Ideal)).N) : Memref sig .tc .vmem S200x4 .f32 := win2_5.stage ((cfg2 (F := Ideal)).slots t 5)
abbrev hs2_5 (t : Fin (cfg2 (F := Ideal)).N) : (ms2_5 t).IsWhole := hstage2_5 0
abbrev ms2_6 (t : Fin (cfg2 (F := Ideal)).N) : Memref sig .tc .vmem S1x200 .f32 := win2_6.stage ((cfg2 (F := Ideal)).slots t 6)
abbrev hs2_6 (t : Fin (cfg2 (F := Ideal)).N) : (ms2_6 t).IsWhole := hstage2_6 0
abbrev ms2_7 (t : Fin (cfg2 (F := Ideal)).N) : Memref sig .tc .vmem S1x200 .i32 := win2_7.stage ((cfg2 (F := Ideal)).slots t 7)
abbrev hs2_7 (t : Fin (cfg2 (F := Ideal)).N) : (ms2_7 t).IsWhole := hstage2_7 0

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (arg0 : Memref sig .tc .vmem S1x8000 .f32) (harg0 : arg0.IsWhole) (arg1 : Memref sig .tc .vmem S8000x1 .f32) (harg1 : arg1.IsWhole) (arg2 : Memref sig .tc .vmem S1x8000 .f32) (harg2 : arg2.IsWhole) (arg3 : Memref sig .tc .vmem S8000x1 .f32) (harg3 : arg3.IsWhole) (arg4 : Memref sig .tc .vmem S8000x4 .f32) (harg4 : arg4.IsWhole) (arg5 : Memref sig .tc .vmem S200x4 .f32) (harg5 : arg5.IsWhole) (arg6 : Memref sig .tc .vmem S1x200 .f32) (harg6 : arg6.IsWhole) (arg7 : Memref sig .tc .vmem S1x200 .i32) (harg7 : arg7.IsWhole)
    (x0 : Vec Ideal S1x8000 .f32) (x1 : Vec Ideal S8000x1 .f32) (x2 : Vec Ideal S1x8000 .f32) (x3 : Vec Ideal S8000x1 .f32) (x4 : Vec Ideal S8000x4 .f32) :
    Σ' (L5 : List (View.Piece (Elt Ideal) S200x4 .f32)), Σ' (L6 : List (View.Piece (Elt Ideal) S1x200 .f32)), { L7 : List (View.Piece (Elt Ideal) S1x200 .i32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt Ideal) f L5) ∗ (∃ f, arg6.view.loc (c : Thread nD τ) ↦[arg6.view.set]{fullShare} arg6.view.writes (Elt Ideal) f L6) ∗ (∃ f, arg7.view.loc (c : Thread nD τ) ↦[arg7.view.set]{fullShare} arg7.view.writes (Elt Ideal) f L7)) -∗ K ⟨⟩))
          ⊢ wp frame (wpE (defs₀ (F := Ideal)) Variants.nat c none) E (cc2__final_kernel arg0 harg0 arg1 harg1 arg2 harg2 arg3 harg3 arg4 harg4 arg5 harg5 arg6 harg6 arg7 harg7) K } := by
  refine ⟨?_, ?_, ?_, fun E K => ?run⟩
  case run =>
    simp only [cc2__final_kernel_eq_skeleton]; unfold cc2__final_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg0.eq_unread hf0; obtain rfl := harg1.eq_unread hf1; obtain rfl := harg2.eq_unread hf2; obtain rfl := harg3.eq_unread hf3; obtain rfl := harg4.eq_unread hf4
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    iexists _; iexact H7

/-- The run's pieces for output 5 tile its block (1 store of `S200x4`, checked by the kernel's evaluation: Lib/Ring.lean `Piece.tiledL`, linear in the pieces, through a loop's `@[irreducible]` trip theorem too), so they cover it. -/
theorem cover2_A_5 (c : Dev nD) (arg0 : Memref sig .tc .vmem S1x8000 .f32) (harg0 : arg0.IsWhole) (arg1 : Memref sig .tc .vmem S8000x1 .f32) (harg1 : arg1.IsWhole) (arg2 : Memref sig .tc .vmem S1x8000 .f32) (harg2 : arg2.IsWhole) (arg3 : Memref sig .tc .vmem S8000x1 .f32) (harg3 : arg3.IsWhole) (arg4 : Memref sig .tc .vmem S8000x4 .f32) (harg4 : arg4.IsWhole) (arg5 : Memref sig .tc .vmem S200x4 .f32) (harg5 : arg5.IsWhole) (arg6 : Memref sig .tc .vmem S1x200 .f32) (harg6 : arg6.IsWhole) (arg7 : Memref sig .tc .vmem S1x200 .i32) (harg7 : arg7.IsWhole)
    (x0 : Vec Ideal S1x8000 .f32) (x1 : Vec Ideal S8000x1 .f32) (x2 : Vec Ideal S1x8000 .f32) (x3 : Vec Ideal S8000x1 .f32) (x4 : Vec Ideal S8000x4 .f32) (y : S200x4.Idx) :
    ∃ pc ∈ (kernelRun2_A c arg0 harg0 arg1 harg1 arg2 harg2 arg3 harg3 arg4 harg4 arg5 harg5 arg6 harg6 arg7 harg7 x0 x1 x2 x3 x4).1, y ∈ pc.1.set :=
  View.cover_of_tiledL (kernelRun2_A c arg0 harg0 arg1 harg1 arg2 harg2 arg3 harg3 arg4 harg4 arg5 harg5 arg6 harg6 arg7 harg7 x0 x1 x2 x3 x4).1 S200x4.size (by sl_kernel_rfl) y

/-- What the run leaves in output 5's staging buffer: its pieces read back over junk. -/
def out2_A_5 (c : Dev nD) (arg0 : Memref sig .tc .vmem S1x8000 .f32) (harg0 : arg0.IsWhole) (arg1 : Memref sig .tc .vmem S8000x1 .f32) (harg1 : arg1.IsWhole) (arg2 : Memref sig .tc .vmem S1x8000 .f32) (harg2 : arg2.IsWhole) (arg3 : Memref sig .tc .vmem S8000x1 .f32) (harg3 : arg3.IsWhole) (arg4 : Memref sig .tc .vmem S8000x4 .f32) (harg4 : arg4.IsWhole) (arg5 : Memref sig .tc .vmem S200x4 .f32) (harg5 : arg5.IsWhole) (arg6 : Memref sig .tc .vmem S1x200 .f32) (harg6 : arg6.IsWhole) (arg7 : Memref sig .tc .vmem S1x200 .i32) (harg7 : arg7.IsWhole)
    (x0 : Vec Ideal S1x8000 .f32) (x1 : Vec Ideal S8000x1 .f32) (x2 : Vec Ideal S1x8000 .f32) (x3 : Vec Ideal S8000x1 .f32) (x4 : Vec Ideal S8000x4 .f32) : Vec Ideal S200x4 .f32 :=
  VO2_5.read (Elt Ideal) (VO2_5.writes (Elt Ideal) VO2_5.junk (kernelRun2_A c arg0 harg0 arg1 harg1 arg2 harg2 arg3 harg3 arg4 harg4 arg5 harg5 arg6 harg6 arg7 harg7 x0 x1 x2 x3 x4).1)

/-- The run's pieces for output 6 tile its block (1 store of `S1x200`, checked by the kernel's evaluation: Lib/Ring.lean `Piece.tiledL`, linear in the pieces, through a loop's `@[irreducible]` trip theorem too), so they cover it. -/
theorem cover2_A_6 (c : Dev nD) (arg0 : Memref sig .tc .vmem S1x8000 .f32) (harg0 : arg0.IsWhole) (arg1 : Memref sig .tc .vmem S8000x1 .f32) (harg1 : arg1.IsWhole) (arg2 : Memref sig .tc .vmem S1x8000 .f32) (harg2 : arg2.IsWhole) (arg3 : Memref sig .tc .vmem S8000x1 .f32) (harg3 : arg3.IsWhole) (arg4 : Memref sig .tc .vmem S8000x4 .f32) (harg4 : arg4.IsWhole) (arg5 : Memref sig .tc .vmem S200x4 .f32) (harg5 : arg5.IsWhole) (arg6 : Memref sig .tc .vmem S1x200 .f32) (harg6 : arg6.IsWhole) (arg7 : Memref sig .tc .vmem S1x200 .i32) (harg7 : arg7.IsWhole)
    (x0 : Vec Ideal S1x8000 .f32) (x1 : Vec Ideal S8000x1 .f32) (x2 : Vec Ideal S1x8000 .f32) (x3 : Vec Ideal S8000x1 .f32) (x4 : Vec Ideal S8000x4 .f32) (y : S1x200.Idx) :
    ∃ pc ∈ (kernelRun2_A c arg0 harg0 arg1 harg1 arg2 harg2 arg3 harg3 arg4 harg4 arg5 harg5 arg6 harg6 arg7 harg7 x0 x1 x2 x3 x4).2.1, y ∈ pc.1.set :=
  View.cover_of_tiledL (kernelRun2_A c arg0 harg0 arg1 harg1 arg2 harg2 arg3 harg3 arg4 harg4 arg5 harg5 arg6 harg6 arg7 harg7 x0 x1 x2 x3 x4).2.1 S1x200.size (by sl_kernel_rfl) y

/-- What the run leaves in output 6's staging buffer: its pieces read back over junk. -/
def out2_A_6 (c : Dev nD) (arg0 : Memref sig .tc .vmem S1x8000 .f32) (harg0 : arg0.IsWhole) (arg1 : Memref sig .tc .vmem S8000x1 .f32) (harg1 : arg1.IsWhole) (arg2 : Memref sig .tc .vmem S1x8000 .f32) (harg2 : arg2.IsWhole) (arg3 : Memref sig .tc .vmem S8000x1 .f32) (harg3 : arg3.IsWhole) (arg4 : Memref sig .tc .vmem S8000x4 .f32) (harg4 : arg4.IsWhole) (arg5 : Memref sig .tc .vmem S200x4 .f32) (harg5 : arg5.IsWhole) (arg6 : Memref sig .tc .vmem S1x200 .f32) (harg6 : arg6.IsWhole) (arg7 : Memref sig .tc .vmem S1x200 .i32) (harg7 : arg7.IsWhole)
    (x0 : Vec Ideal S1x8000 .f32) (x1 : Vec Ideal S8000x1 .f32) (x2 : Vec Ideal S1x8000 .f32) (x3 : Vec Ideal S8000x1 .f32) (x4 : Vec Ideal S8000x4 .f32) : Vec Ideal S1x200 .f32 :=
  VO2_6.read (Elt Ideal) (VO2_6.writes (Elt Ideal) VO2_6.junk (kernelRun2_A c arg0 harg0 arg1 harg1 arg2 harg2 arg3 harg3 arg4 harg4 arg5 harg5 arg6 harg6 arg7 harg7 x0 x1 x2 x3 x4).2.1)

/-- The run's pieces for output 7 tile its block (1 store of `S1x200`, checked by the kernel's evaluation: Lib/Ring.lean `Piece.tiledL`, linear in the pieces, through a loop's `@[irreducible]` trip theorem too), so they cover it. -/
theorem cover2_A_7 (c : Dev nD) (arg0 : Memref sig .tc .vmem S1x8000 .f32) (harg0 : arg0.IsWhole) (arg1 : Memref sig .tc .vmem S8000x1 .f32) (harg1 : arg1.IsWhole) (arg2 : Memref sig .tc .vmem S1x8000 .f32) (harg2 : arg2.IsWhole) (arg3 : Memref sig .tc .vmem S8000x1 .f32) (harg3 : arg3.IsWhole) (arg4 : Memref sig .tc .vmem S8000x4 .f32) (harg4 : arg4.IsWhole) (arg5 : Memref sig .tc .vmem S200x4 .f32) (harg5 : arg5.IsWhole) (arg6 : Memref sig .tc .vmem S1x200 .f32) (harg6 : arg6.IsWhole) (arg7 : Memref sig .tc .vmem S1x200 .i32) (harg7 : arg7.IsWhole)
    (x0 : Vec Ideal S1x8000 .f32) (x1 : Vec Ideal S8000x1 .f32) (x2 : Vec Ideal S1x8000 .f32) (x3 : Vec Ideal S8000x1 .f32) (x4 : Vec Ideal S8000x4 .f32) (y : S1x200.Idx) :
    ∃ pc ∈ (kernelRun2_A c arg0 harg0 arg1 harg1 arg2 harg2 arg3 harg3 arg4 harg4 arg5 harg5 arg6 harg6 arg7 harg7 x0 x1 x2 x3 x4).2.2.1, y ∈ pc.1.set :=
  View.cover_of_tiledL (kernelRun2_A c arg0 harg0 arg1 harg1 arg2 harg2 arg3 harg3 arg4 harg4 arg5 harg5 arg6 harg6 arg7 harg7 x0 x1 x2 x3 x4).2.2.1 S1x200.size (by sl_kernel_rfl) y

/-- What the run leaves in output 7's staging buffer: its pieces read back over junk. -/
def out2_A_7 (c : Dev nD) (arg0 : Memref sig .tc .vmem S1x8000 .f32) (harg0 : arg0.IsWhole) (arg1 : Memref sig .tc .vmem S8000x1 .f32) (harg1 : arg1.IsWhole) (arg2 : Memref sig .tc .vmem S1x8000 .f32) (harg2 : arg2.IsWhole) (arg3 : Memref sig .tc .vmem S8000x1 .f32) (harg3 : arg3.IsWhole) (arg4 : Memref sig .tc .vmem S8000x4 .f32) (harg4 : arg4.IsWhole) (arg5 : Memref sig .tc .vmem S200x4 .f32) (harg5 : arg5.IsWhole) (arg6 : Memref sig .tc .vmem S1x200 .f32) (harg6 : arg6.IsWhole) (arg7 : Memref sig .tc .vmem S1x200 .i32) (harg7 : arg7.IsWhole)
    (x0 : Vec Ideal S1x8000 .f32) (x1 : Vec Ideal S8000x1 .f32) (x2 : Vec Ideal S1x8000 .f32) (x3 : Vec Ideal S8000x1 .f32) (x4 : Vec Ideal S8000x4 .f32) : Vec Ideal S1x200 .i32 :=
  VO2_7.read (Elt Ideal) (VO2_7.writes (Elt Ideal) VO2_7.junk (kernelRun2_A c arg0 harg0 arg1 harg1 arg2 harg2 arg3 harg3 arg4 harg4 arg5 harg5 arg6 harg6 arg7 harg7 x0 x1 x2 x3 x4).2.2.1)

/-! ## What the outputs hold after each point -/

/-- What the outputs' staging buffers hold after the body at point `t` (as a tuple, in window order): the run's contents at
    the point's memrefs and input blocks. -/
def outsAt2 (c : Dev nD) (t : Fin (cfg2 (F := Ideal)).N) : Vec Ideal S200x4 .f32 × Vec Ideal S1x200 .f32 × Vec Ideal S1x200 .i32 :=
  (out2_A_5 c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t), out2_A_6 c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t), out2_A_7 c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t))

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt Ideal) Unit ℕ (UR sig nD τ) ℕ (cfg2 (F := Ideal)) c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t).1
    | ⟨6, _⟩ => (outsAt2 V c t).2.1
    | ⟨7, _⟩ => (outsAt2 V c t).2.2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin (cfg2 (F := Ideal)).W) : (dat2 V c).A w = V c (Pipeline.arrRef spec2 w) := by
  dsimp only [dat2]

/-- What the body leaves, window by window (the proof data's `match` reduced by `dsimp`). -/
theorem after2_0 (c : Dev nD) (t : Fin (cfg2 (F := Ideal)).N) : (dat2 V c).after 0 t = iblk2 V c 0 t := by dsimp only [dat2]
theorem after2_1 (c : Dev nD) (t : Fin (cfg2 (F := Ideal)).N) : (dat2 V c).after 1 t = iblk2 V c 1 t := by dsimp only [dat2]
theorem after2_2 (c : Dev nD) (t : Fin (cfg2 (F := Ideal)).N) : (dat2 V c).after 2 t = iblk2 V c 2 t := by dsimp only [dat2]
theorem after2_3 (c : Dev nD) (t : Fin (cfg2 (F := Ideal)).N) : (dat2 V c).after 3 t = iblk2 V c 3 t := by dsimp only [dat2]
theorem after2_4 (c : Dev nD) (t : Fin (cfg2 (F := Ideal)).N) : (dat2 V c).after 4 t = iblk2 V c 4 t := by dsimp only [dat2]
theorem after2_5 (c : Dev nD) (t : Fin (cfg2 (F := Ideal)).N) : (dat2 V c).after 5 t = (outsAt2 V c t).1 := by dsimp only [dat2]
theorem after2_6 (c : Dev nD) (t : Fin (cfg2 (F := Ideal)).N) : (dat2 V c).after 6 t = (outsAt2 V c t).2.1 := by dsimp only [dat2]
theorem after2_7 (c : Dev nD) (t : Fin (cfg2 (F := Ideal)).N) : (dat2 V c).after 7 t = (outsAt2 V c t).2.2 := by dsimp only [dat2]

/-- Each input's current staging buffer holds its block at every point, fetched there or not (`beforeK_W_of`). -/
theorem before2_0 (c : Dev nD) (t : Fin (cfg2 (F := Ideal)).N) (d) : (dat2 V c).before 0 t d = iblk2 V c 0 t :=
  before2_0_of V (dat2 V c) (A_eq2 V c 0) (after2_0 V c) t d
theorem before2_1 (c : Dev nD) (t : Fin (cfg2 (F := Ideal)).N) (d) : (dat2 V c).before 1 t d = iblk2 V c 1 t :=
  before2_1_of V (dat2 V c) (A_eq2 V c 1) (after2_1 V c) t d
theorem before2_2 (c : Dev nD) (t : Fin (cfg2 (F := Ideal)).N) (d) : (dat2 V c).before 2 t d = iblk2 V c 2 t :=
  before2_2_of V (dat2 V c) (A_eq2 V c 2) (after2_2 V c) t d
theorem before2_3 (c : Dev nD) (t : Fin (cfg2 (F := Ideal)).N) (d) : (dat2 V c).before 3 t d = iblk2 V c 3 t :=
  before2_3_of V (dat2 V c) (A_eq2 V c 3) (after2_3 V c) t d
theorem before2_4 (c : Dev nD) (t : Fin (cfg2 (F := Ideal)).N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin (cfg2 (F := Ideal)).N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin (cfg2 (F := Ideal)).N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 800000 in
/-- The body at any point: the inputs' memrefs hold their blocks (`before2_W`); so the
    run applies; the invariant passes through unread; the core owes nothing throughout. -/
theorem sound_body2 (c : Dev nD) (t : Fin (cfg2 (F := Ideal)).N) :
    bodyPre2 V c t ⊢ wp frame (wpE (defs₀ (F := Ideal)) Variants.nat c none) Set.univ (bodyAt2 (F := Ideal) t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  unfold outsAt2
  unfold out2_A_5 out2_A_6 out2_A_7; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun2_A c _ _ _ _ _ _ _ _ _ _ _ _ _ _ _ _ (iblk2 V c 0 t) (iblk2 V c 1 t) (iblk2 V c 2 t) (iblk2 V c 3 t) (iblk2 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover2_A_5 c _ _ _ _ _ _ _ _ _ _ _ _ _ _ _ _ _ _ _ _ _)
  isplitl [H6]
  · unfold owns; iexists _; isplitr
    swap; · iexact H6
    ipureintro; exact View.read_writes_of_cover _ _ _ _ _ (cover2_A_6 c _ _ _ _ _ _ _ _ _ _ _ _ _ _ _ _ _ _ _ _ _)
  unfold owns; iexists _; isplitr
  swap; · iexact H7
  ipureintro; exact View.read_writes_of_cover _ _ _ _ _ (cover2_A_7 c _ _ _ _ _ _ _ _ _ _ _ _ _ _ _ _ _ _ _ _ _)

/-- The body table's row at point `t`'s slots is the body as `bodyAt2` spells it. -/
theorem defs₀_row2 (t : Fin (cfg2 (F := Ideal)).N) :
    defs₀ (F := Ideal) .tc (cfg2 (F := Ideal)).body ((cfg2 (F := Ideal)).bodyArgs t ((cfg2 (F := Ideal)).slots t)) = bodyAt2 (F := Ideal) t := by
  unfold defs₀; rw [Defs.onTc_tc]

/-- The library's body obligation, at every point: the body's triple restated (Lib/Pipeline/FrameBody.lean `triple_restated`). -/
theorem body_obligation2 (c : Dev nD) : BodyObligation (dat2 V c) (defs₀ (F := Ideal)) Variants.nat () Set.univ := fun t => by
  rw [bigSep_W2, bigSep_W2, defs₀_row2]
  exact triple_restated (sound_body2 V c t) rfl .rfl fun _ => .rfl

end Regions

end Cert.Proof.KRun

end
-- ==== Proof.KRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.PureOps.Ideal
public import proofs.«01_k».proof.Proof.KReg0
public import proofs.«01_k».proof.Proof.KReg1
public import proofs.«01_k».proof.Proof.KReg2

@[expose] public section

set_option maxRecDepth 16384

noncomputable section

namespace Cert.Proof.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps2` allocates a buffer. -/
theorem hostOps2_fresh : (hostOps2 : List (HloOp τ sig (Elt Ideal))).Forall fun op => op.fresh = ∅ := by
  simp only [List.Forall]; repeat' constructor
/-- The reference each operation of `hostOps2` writes, in order. -/
abbrev hostOps2_W : List (Ref sig .tc) := [main_v2, main_v3, main_v4, main_v5, main_v6]
theorem hostOps2_writes : (hostOps2 : List (HloOp τ sig (Elt Ideal))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt Ideal))).Forall fun op => op.fresh = ∅ := by
  simp only [List.Forall]; repeat' constructor
/-- The reference each operation of `hostOps3` writes, in order. -/
abbrev hostOps3_W : List (Ref sig .tc) := [main_v8, main_v9]
theorem hostOps3_writes : (hostOps3 : List (HloOp τ sig (Elt Ideal))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch (region 0's entry). -/
abbrev W0 : Dev nD → Valuation τ sig (Elt Ideal) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt Ideal) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`) (region 1's entry). -/
def W1 (c : Dev nD) : Valuation τ sig (Elt Ideal) :=
  Pipeline.withArrays spec0 c (W0 m ρ c) fun w => (dat0 (V0 m ρ) c).arrAt w (cfg0 (F := Ideal)).N
theorem W1_arr (c : Dev nD) (w : Fin (cfg0 (F := Ideal)).W) :
    W1 m ρ c (Proc.devRef .tc (Pipeline.arrRef spec0 w)) = (dat0 (V0 m ρ) c).arrAt w (cfg0 (F := Ideal)).N := by
  unfold W1; exact Pipeline.withArrays_arr spec0 (launch0 (F := Ideal)).win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin (cfg0 (F := Ideal)).W, Pipeline.arrRef spec0 w = r → ((cfg0 (F := Ideal)).win w).isOut = false) :
    W1 m ρ c (Proc.devRef .tc r) = W0 m ρ c (Proc.devRef .tc r) := by
  by_cases hw : ∃ w : Fin (cfg0 (F := Ideal)).W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin (cfg0 (F := Ideal)).W, Pipeline.arrRef spec0 w = a → ((cfg0 (F := Ideal)).win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt Ideal) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin (cfg0 (F := Ideal)).W) : (dat0 (V0 m ρ) c).arrAt w (cfg0 (F := Ideal)).N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W2 (c : Dev nD) : Valuation τ sig (Elt Ideal) :=
  Pipeline.withArrays spec1 c (W1 m ρ c) fun w => (dat1 (V1 m ρ) c).arrAt w (cfg1 (F := Ideal)).N
theorem W2_arr (c : Dev nD) (w : Fin (cfg1 (F := Ideal)).W) :
    W2 m ρ c (Proc.devRef .tc (Pipeline.arrRef spec1 w)) = (dat1 (V1 m ρ) c).arrAt w (cfg1 (F := Ideal)).N := by
  unfold W2; exact Pipeline.withArrays_arr spec1 (launch1 (F := Ideal)).win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin (cfg1 (F := Ideal)).W, Pipeline.arrRef spec1 w = r → ((cfg1 (F := Ideal)).win w).isOut = false) :
    W2 m ρ c (Proc.devRef .tc r) = W1 m ρ c (Proc.devRef .tc r) := by
  by_cases hw : ∃ w : Fin (cfg1 (F := Ideal)).W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin (cfg1 (F := Ideal)).W, Pipeline.arrRef spec1 w = a → ((cfg1 (F := Ideal)).win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt Ideal) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin (cfg1 (F := Ideal)).W) : (dat1 (V1 m ρ) c).arrAt w (cfg1 (F := Ideal)).N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After `hostOps2` (region 2's entry). -/
abbrev W3 : Dev nD → Valuation τ sig (Elt Ideal) := fun c => StableHlo.after hostOps2 (W2 m ρ c)
/-- A reference `hostOps2` does not write keeps its contents across it. -/
theorem W3_of (c : Dev nD) (r : Ref sig .tc) (h : r ∉ hostOps2_W) : W3 m ρ c (Proc.devRef .tc r) = W2 m ρ c (Proc.devRef .tc r) :=
  StableHlo.after_of_writes_sub hostOps2 _ hostOps2_writes h
theorem W3_args (c : Dev nD) : ∀ a ∈ argRefs, W3 m ρ c (Proc.devRef .tc a) = m ((c : Thread nD τ).loc a) :=
  fun a ha => (W3_of m ρ c a (hostOps2_args a ha)).trans (W2_args m ρ c a ha)
/-- The same read at the TensorCore's references (what region 2's proof data take). -/
abbrev V3 : (c : Dev nD) → (b : Ref sig .tc) → Buf (Elt Ideal) ((c : Thread nD τ).loc b) := fun c b => W3 m ρ c b
/-- At region 2's exit: its arrays at what the pipeline leaves (the inputs as entered, each output's write-backs
    folded: `Dat.arrAt … N`), every other buffer as entered (Lib/Pipeline/FrameSuffix.lean `withArrays`). -/
def W4 (c : Dev nD) : Valuation τ sig (Elt Ideal) :=
  Pipeline.withArrays spec2 c (W3 m ρ c) fun w => (dat2 (V3 m ρ) c).arrAt w (cfg2 (F := Ideal)).N
theorem W4_arr (c : Dev nD) (w : Fin (cfg2 (F := Ideal)).W) :
    W4 m ρ c (Proc.devRef .tc (Pipeline.arrRef spec2 w)) = (dat2 (V3 m ρ) c).arrAt w (cfg2 (F := Ideal)).N := by
  unfold W4; exact Pipeline.withArrays_arr spec2 (launch2 (F := Ideal)).win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin (cfg2 (F := Ideal)).W, Pipeline.arrRef spec2 w = r → ((cfg2 (F := Ideal)).win w).isOut = false) :
    W4 m ρ c (Proc.devRef .tc r) = W3 m ρ c (Proc.devRef .tc r) := by
  by_cases hw : ∃ w : Fin (cfg2 (F := Ideal)).W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin (cfg2 (F := Ideal)).W, Pipeline.arrRef spec2 w = a → ((cfg2 (F := Ideal)).win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt Ideal) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin (cfg2 (F := Ideal)).W) : (dat2 (V3 m ρ) c).arrAt w (cfg2 (F := Ideal)).N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt Ideal) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 3) → (pcfgs (F := Ideal) p).Adm := fun p => ((cfgs (F := Ideal)) p).toPCfg_adm
/-- Every pipeline's proof data, each at its region's entry contents — a literal `match`, so that the kit's
    `Pipeline.pin pcfgs adm p` at a numeral reduces to the printed configuration. -/
def pdats : (p : Fin 3) → (c : Dev nD) → Dat τ (Elt Ideal) Unit ℕ (UR sig nD τ) ℕ (Pipeline.pin (pcfgs (F := Ideal)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.nat
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · (cfg0 (F := Ideal)).N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · (cfg1 (F := Ideal)).N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := Ideal)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := Ideal)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · (cfg2 (F := Ideal)).N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := Ideal)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]
/-- @main is the run of the segments. -/
theorem main_run (c : Dev nD) : main (F := Ideal) c = Pipeline.Seg.run (segs m ρ) := (main_chain c).trans (by chain_rfl)

/-- The TensorCore has no unscoped semaphore. -/
theorem no_unscoped : ∀ sm : SemLoc sig, sm.isScoped .tc = true := by decide

/-- From any memory with zero counters every weakly fair execution of the idealized kernel's entry terminates with the
    argument arrays as launched, the three results at the last boundary's contents, and every counter at zero. -/
theorem krun : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v7_0) = W5 m ρ c (Proc.devRef .tc main_v7_0)
      ∧ r.2.mem ((c.tc : Thread nD τ).loc main_v8) = W5 m ρ c (Proc.devRef .tc main_v8)
      ∧ r.2.mem ((c.tc : Thread nD τ).loc main_v9) = W5 m ρ c (Proc.devRef .tc main_v9))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (cfgs (F := Ideal)) cellOf_inj) (Pipeline.launchToks (cfgs (F := Ideal)) cellOf_inj))
    (hu₀ := by
      iintro Hu; imodintro
      isplitl [Hu]
      · iapply (show (ownU (initOf (Pipeline.cells (cfgs (F := Ideal)) cellOf_inj) (Pipeline.launchToks (cfgs (F := Ideal)) cellOf_inj)) : sProp 𝕄)
            ⊢ BI.own (emb₁ (initOf (Pipeline.cells (cfgs (F := Ideal)) cellOf_inj) (Pipeline.launchToks (cfgs (F := Ideal)) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       h c _ (mem_uc main_v7_0 (by decide)),
       h c _ (mem_uc main_v8 (by decide)),
       h c _ (mem_uc main_v9 (by decide))⟩), funext fun g => hz g (.inr (no_unscoped g.2))⟩)

/-- The frame of the idealized kernel: it terminates with its argument arrays as launched and every counter at zero. -/
theorem kframe : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := Ideal)) _ _).mono (fun _ h => ⟨fun c => ⟨(h.1 c).1, (h.1 c).2.1, (h.1 c).2.2.1⟩, h.2⟩) (krun m ρ)

end Cert.Proof.KRun

end
-- ==== Proof.RRun.lean ====
/-
  The idealized reference: its run's final contents as a chain of stretches, and what each stretch leaves alone.
-/
module

public import proofs.«01_k».proof.Proof.Gen.ReferenceIdeal.Run
public import Idealize.ShloMosaic.PureOps.Ideal
public import Idealize.ShloMosaic.Lib.Quiescent

@[expose] public section

set_option maxRecDepth 16384

noncomputable section

namespace Cert.Proof.RRun

open Cert.ReferenceIdeal Cert.ReferenceIdeal.Gen Cert.ReferenceIdeal.Value
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The references stretch 13 writes, in order. -/
abbrev W13 : List (Ref sig .tc) := [main_c_35, main_v152, main_v153, main_c_36, main_v154, main_v155, main_v156, main_v157, main_v158, main_cst_37]
theorem writes13 : (hostOps0_13 : List (HloOp τ sig (Elt Ideal))).Forall fun op => op.writes ⊆ (W13.map (Proc.devRef (τ := τ) .tc)).toFinset :=
  StableHlo.forall_writes_sub_of_map rfl

/-- The references stretch 14 writes, in order. -/
abbrev W14 : List (Ref sig .tc) := [main_call6_v0, main_call6_v1, main_v159]
theorem writes14 : (hostOps0_14 : List (HloOp τ sig (Elt Ideal))).Forall fun op => op.writes ⊆ (W14.map (Proc.devRef (τ := τ) .tc)).toFinset :=
  StableHlo.forall_writes_sub_of_map rfl

/-- The references stretch 15 writes, in order. -/
abbrev W15 : List (Ref sig .tc) := [main_values_38, main_indices_39, main_c_40, main_v160, main_v161, main_c_41, main_v162, main_v163, main_v164, main_v165, main_v166, main_c_42, main_v167, main_v168, main_c_43, main_v169, main_v170, main_v171, main_v172, main_v173, main_c_44, main_v174, main_v175, main_c_45, main_v176, main_v177, main_v178, main_v179, main_v180, main_c_46, main_v181, main_v182, main_c_47, main_v183, main_v184, main_v185, main_v186, main_v187]
theorem writes15 : (hostOps0_15 : List (HloOp τ sig (Elt Ideal))).Forall fun op => op.writes ⊆ (W15.map (Proc.devRef (τ := τ) .tc)).toFinset :=
  StableHlo.forall_writes_sub_of_map rfl

/-- The contents at launch. -/
def A0 (c : Dev nD) : Valuation τ sig (Elt Ideal) := launchContents m c
/-- The contents after the first 1 stretches. -/
def A1 (c : Dev nD) : Valuation τ sig (Elt Ideal) := after hostOps0 (A0 m c)
theorem A1_of (c : Dev nD) (r : Ref sig .tc) (h : r ∉ hostOps0_W) :
    A1 m c (Proc.devRef .tc r) = A0 m c (Proc.devRef .tc r) := after_of_writes_sub hostOps0 _ hostOps0_writes h
/-- The contents after the first 2 stretches. -/
def A2 (c : Dev nD) : Valuation τ sig (Elt Ideal) := after hostOps0_1 (A1 m c)
theorem A2_of (c : Dev nD) (r : Ref sig .tc) (h : r ∉ hostOps0_1_W) :
    A2 m c (Proc.devRef .tc r) = A1 m c (Proc.devRef .tc r) := after_of_writes_sub hostOps0_1 _ hostOps0_1_writes h
/-- The contents after the first 3 stretches. -/
def A3 (c : Dev nD) : Valuation τ sig (Elt Ideal) := after hostOps0_2 (A2 m c)
theorem A3_of (c : Dev nD) (r : Ref sig .tc) (h : r ∉ hostOps0_2_W) :
    A3 m c (Proc.devRef .tc r) = A2 m c (Proc.devRef .tc r) := after_of_writes_sub hostOps0_2 _ hostOps0_2_writes h
/-- The contents after the first 4 stretches. -/
def A4 (c : Dev nD) : Valuation τ sig (Elt Ideal) := after hostOps0_3 (A3 m c)
theorem A4_of (c : Dev nD) (r : Ref sig .tc) (h : r ∉ hostOps0_3_W) :
    A4 m c (Proc.devRef .tc r) = A3 m c (Proc.devRef .tc r) := after_of_writes_sub hostOps0_3 _ hostOps0_3_writes h
/-- The contents after the first 5 stretches. -/
def A5 (c : Dev nD) : Valuation τ sig (Elt Ideal) := after hostOps0_4 (A4 m c)
theorem A5_of (c : Dev nD) (r : Ref sig .tc) (h : r ∉ hostOps0_4_W) :
    A5 m c (Proc.devRef .tc r) = A4 m c (Proc.devRef .tc r) := after_of_writes_sub hostOps0_4 _ hostOps0_4_writes h
/-- The contents after the first 6 stretches. -/
def A6 (c : Dev nD) : Valuation τ sig (Elt Ideal) := after hostOps0_5 (A5 m c)
theorem A6_of (c : Dev nD) (r : Ref sig .tc) (h : r ∉ hostOps0_5_W) :
    A6 m c (Proc.devRef .tc r) = A5 m c (Proc.devRef .tc r) := after_of_writes_sub hostOps0_5 _ hostOps0_5_writes h
/-- The contents after the first 7 stretches. -/
def A7 (c : Dev nD) : Valuation τ sig (Elt Ideal) := after hostOps0_6 (A6 m c)
theorem A7_of (c : Dev nD) (r : Ref sig .tc) (h : r ∉ hostOps0_6_W) :
    A7 m c (Proc.devRef .tc r) = A6 m c (Proc.devRef .tc r) := after_of_writes_sub hostOps0_6 _ hostOps0_6_writes h
/-- The contents after the first 8 stretches. -/
def A8 (c : Dev nD) : Valuation τ sig (Elt Ideal) := after hostOps0_7 (A7 m c)
theorem A8_of (c : Dev nD) (r : Ref sig .tc) (h : r ∉ hostOps0_7_W) :
    A8 m c (Proc.devRef .tc r) = A7 m c (Proc.devRef .tc r) := after_of_writes_sub hostOps0_7 _ hostOps0_7_writes h
/-- The contents after the first 9 stretches. -/
def A9 (c : Dev nD) : Valuation τ sig (Elt Ideal) := after hostOps0_8 (A8 m c)
theorem A9_of (c : Dev nD) (r : Ref sig .tc) (h : r ∉ hostOps0_8_W) :
    A9 m c (Proc.devRef .tc r) = A8 m c (Proc.devRef .tc r) := after_of_writes_sub hostOps0_8 _ hostOps0_8_writes h
/-- The contents after the first 10 stretches. -/
def A10 (c : Dev nD) : Valuation τ sig (Elt Ideal) := after hostOps0_9 (A9 m c)
theorem A10_of (c : Dev nD) (r : Ref sig .tc) (h : r ∉ hostOps0_9_W) :
    A10 m c (Proc.devRef .tc r) = A9 m c (Proc.devRef .tc r) := after_of_writes_sub hostOps0_9 _ hostOps0_9_writes h
/-- The contents after the first 11 stretches. -/
def A11 (c : Dev nD) : Valuation τ sig (Elt Ideal) := after hostOps0_10 (A10 m c)
theorem A11_of (c : Dev nD) (r : Ref sig .tc) (h : r ∉ hostOps0_10_W) :
    A11 m c (Proc.devRef .tc r) = A10 m c (Proc.devRef .tc r) := after_of_writes_sub hostOps0_10 _ hostOps0_10_writes h
/-- The contents after the first 12 stretches. -/
def A12 (c : Dev nD) : Valuation τ sig (Elt Ideal) := after hostOps0_11 (A11 m c)
theorem A12_of (c : Dev nD) (r : Ref sig .tc) (h : r ∉ hostOps0_11_W) :
    A12 m c (Proc.devRef .tc r) = A11 m c (Proc.devRef .tc r) := after_of_writes_sub hostOps0_11 _ hostOps0_11_writes h
/-- The contents after the first 13 stretches. -/
def A13 (c : Dev nD) : Valuation τ sig (Elt Ideal) := after hostOps0_12 (A12 m c)
theorem A13_of (c : Dev nD) (r : Ref sig .tc) (h : r ∉ hostOps0_12_W) :
    A13 m c (Proc.devRef .tc r) = A12 m c (Proc.devRef .tc r) := after_of_writes_sub hostOps0_12 _ hostOps0_12_writes h

theorem entry_eq (c : Dev nD) : entryContents preI m c = A13 m c := rfl

/-- The contents after the loop: its trips, then the failing condition. -/
def B (c : Dev nD) : Valuation τ sig (Elt Ideal) := after condOps (atK m 8000 c)

/-- A reference that neither the condition nor the body writes keeps its contents through any number of trips. -/
theorem atK_of (c : Dev nD) (r : Ref sig .tc) (h1 : r ∉ condOps_W) (h2 : r ∉ while0Ops0_W) :
    ∀ k, atK m k c (Proc.devRef .tc r) = A13 m c (Proc.devRef .tc r)
  | 0 => rfl
  | k + 1 => by
    show afterL bodyI (after condOps (atK m k c)) (Proc.devRef .tc r) = _
    rw [afterL_cons, afterL_nil]
    exact (after_of_writes_sub while0Ops0 _ while0Ops0_writes h2).trans
      ((after_of_writes_sub condOps _ condOps_writes h1).trans (atK_of c r h1 h2 k))

theorem B_of (c : Dev nD) (r : Ref sig .tc) (h1 : r ∉ condOps_W) (h2 : r ∉ while0Ops0_W) :
    B m c (Proc.devRef .tc r) = A13 m c (Proc.devRef .tc r) :=
  (after_of_writes_sub condOps _ condOps_writes h1).trans (atK_of m c r h1 h2 8000)

/-- The contents after the first, second and third stretch after the loop. -/
def C1 (c : Dev nD) : Valuation τ sig (Elt Ideal) := after hostOps0_13 (B m c)
def C2 (c : Dev nD) : Valuation τ sig (Elt Ideal) := after hostOps0_14 (C1 m c)
def C3 (c : Dev nD) : Valuation τ sig (Elt Ideal) := after hostOps0_15 (C2 m c)
theorem C1_of (c : Dev nD) (r : Ref sig .tc) (h : r ∉ W13) : C1 m c (Proc.devRef .tc r) = B m c (Proc.devRef .tc r) :=
  after_of_writes_sub hostOps0_13 _ writes13 h
theorem C2_of (c : Dev nD) (r : Ref sig .tc) (h : r ∉ W14) : C2 m c (Proc.devRef .tc r) = C1 m c (Proc.devRef .tc r) :=
  after_of_writes_sub hostOps0_14 _ writes14 h
theorem C3_of (c : Dev nD) (r : Ref sig .tc) (h : r ∉ W15) : C3 m c (Proc.devRef .tc r) = C2 m c (Proc.devRef .tc r) :=
  after_of_writes_sub hostOps0_15 _ writes15 h

theorem final_eq (c : Dev nD) : finalContents condOps preI bodyI postI 8000 m c = C3 m c := rfl

/-- A reference that nothing before the loop writes holds its launch contents at the loop's entry. -/
theorem entry_of (c : Dev nD) (r : Ref sig .tc)
    (h : r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W ∧ r ∉ hostOps0_9_W ∧ r ∉ hostOps0_10_W ∧ r ∉ hostOps0_11_W ∧ r ∉ hostOps0_12_W) :
    A13 m c (Proc.devRef .tc r) = m ((c.tc : Thread nD τ).loc r) := by
  obtain ⟨h0, h1, h2, h3, h4, h5, h6, h7, h8, h9, h10, h11, h12⟩ := h
  exact (A13_of m c r h12).trans <| (A12_of m c r h11).trans <| (A11_of m c r h10).trans <| (A10_of m c r h9).trans <| (A9_of m c r h8).trans <| (A8_of m c r h7).trans <| (A7_of m c r h6).trans <| (A6_of m c r h5).trans <| (A5_of m c r h4).trans <| (A4_of m c r h3).trans <| (A3_of m c r h2).trans <| (A2_of m c r h1).trans <| (A1_of m c r h0).trans <| rfl

theorem arg0 (c : Dev nD) : C3 m c (Proc.devRef .tc main_arg0) = m ((c.tc : Thread nD τ).loc main_arg0) :=
  (C3_of m c _ (by decide)).trans <| (C2_of m c _ (by decide)).trans <| (C1_of m c _ (by decide)).trans <|
    (B_of m c _ (by decide) (by decide)).trans (entry_of m c _ (by decide))
theorem arg1 (c : Dev nD) : C3 m c (Proc.devRef .tc main_arg1) = m ((c.tc : Thread nD τ).loc main_arg1) :=
  (C3_of m c _ (by decide)).trans <| (C2_of m c _ (by decide)).trans <| (C1_of m c _ (by decide)).trans <|
    (B_of m c _ (by decide) (by decide)).trans (entry_of m c _ (by decide))
theorem arg2 (c : Dev nD) : C3 m c (Proc.devRef .tc main_arg2) = m ((c.tc : Thread nD τ).loc main_arg2) :=
  (C3_of m c _ (by decide)).trans <| (C2_of m c _ (by decide)).trans <| (C1_of m c _ (by decide)).trans <|
    (B_of m c _ (by decide) (by decide)).trans (entry_of m c _ (by decide))

/-- From any memory with zero counters every weakly fair execution of the idealized reference terminates with its
    arguments as launched, its results at the last stretch's contents, and every counter at zero. -/
theorem rrun : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v173) = C3 m c (Proc.devRef .tc main_v173)
      ∧ r.2.mem ((c.tc : Thread nD τ).loc main_v180) = C3 m c (Proc.devRef .tc main_v180)
      ∧ r.2.mem ((c.tc : Thread nD τ).loc main_v187) = C3 m c (Proc.devRef .tc main_v187))
      ∧ r.2.sem = fun _ => 0) := by
  refine (θ_run (defs (F := Ideal)) _ _).mono (fun r h => ⟨fun c => ?_, sem_eq_zero_of_no_sems rfl _⟩) (run_fold m ρ)
  exact ⟨(h c main_arg0 (by decide)).trans (arg0 m c), (h c main_arg1 (by decide)).trans (arg1 m c),
    (h c main_arg2 (by decide)).trans (arg2 m c), h c main_v173 (by decide), h c main_v180 (by decide), h c main_v187 (by decide)⟩

/-- The frame of the idealized reference. -/
theorem rframe : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := Ideal)) _ _).mono (fun _ h => ⟨fun c => ⟨(h.1 c).1, (h.1 c).2.1, (h.1 c).2.2.1⟩, h.2⟩) (rrun m ρ)

end Cert.Proof.RRun

end
-- ==== Proof.SortMath.lean ====
module

public import Idealize.ShloMosaic.Lib.SortPrefix
public import Idealize.ShloMosaic.PureOps.Ideal

@[expose] public section

/-! Ranks and stable sorts: a stable sort by a key is the sort by the key and then the position, and the
number of entries before an entry is the place the sort puts it at. -/

namespace Cert.Proof.SortMath

open Idealize.ShloMosaic

/-- `a` comes before `b`: it has the greater key, or the same key and the lower position. -/
noncomputable def desc {n : ℕ} (s : Fin n → EReal) (a b : Fin n) : Bool := decide (s b < s a) || (decide (s a = s b) && decide (a < b))

theorem desc_iff {n : ℕ} (s : Fin n → EReal) (a b : Fin n) : desc s a b = true ↔ s b < s a ∨ (s a = s b ∧ a < b) := by
  simp [desc]

/-- The order by descending key and then position is a strict total order. -/
theorem desc_total {n : ℕ} (s : Fin n → EReal) : StrictTotalBefore (desc s) where
  irrefl a := by simp [desc]
  trans a b c := by
    simp only [desc_iff]
    rintro (h1 | ⟨h1, h1'⟩) (h2 | ⟨h2, h2'⟩)
    · exact Or.inl (h2.trans h1)
    · exact Or.inl (h2 ▸ h1)
    · exact Or.inl (h1.symm ▸ h2)
    · exact Or.inr ⟨h1.trans h2, h1'.trans h2'⟩
  total a b hne := by
    simp only [desc_iff]
    rcases lt_trichotomy (s a) (s b) with h | h | h
    · exact Or.inr (Or.inl h)
    · rcases lt_or_gt_of_ne hne with h' | h'
      · exact Or.inl (Or.inr ⟨h, h'⟩)
      · exact Or.inr (Or.inr ⟨h.symm, h'⟩)
    · exact Or.inl (Or.inl h)

/-- Two relations that agree from a later list element to an earlier one sort the list alike. -/
theorem stableSort_congr_later {ι : Type} (R R' : ι → ι → Bool) :
    ∀ l : List ι, l.Pairwise (fun a b => R b a = R' b a) → stableSort R l = stableSort R' l
  | [], _ => rfl
  | a :: l, h => by
    rw [List.pairwise_cons] at h
    show insertBefore R a (stableSort R l) = insertBefore R' a (stableSort R' l)
    rw [stableSort_congr_later R R' l h.2]
    exact insertBefore_congr R R' a _ fun b hb => h.1 b ((perm_stableSort R' l).mem_iff.mp hb)

/-- A stable sort by a descending key is the sort by the key and then the position. -/
theorem sortedFrom_key {n : ℕ} (s : Fin n → EReal) : sortedFrom (fun a b => decide (s b < s a)) = sortedFrom (desc s) := by
  have h : sortPositions n (fun a b => decide (s b < s a)) = sortPositions n (desc s) := by
    refine stableSort_congr_later _ _ _ ?_
    refine List.Pairwise.imp ?_ (List.pairwise_lt_finRange n)
    intro a b hab
    have : ¬ b < a := not_lt.mpr hab.le
    simp [desc, this]
  funext k
  unfold sortedFrom
  rw [List.get_of_eq h]
  rfl

/-- In a sort by a strict total order, earlier places hold earlier entries. -/
theorem before_iff {n : ℕ} {B : Fin n → Fin n → Bool} (hB : StrictTotalBefore B) (a b : Fin n) :
    B (sortedFrom B a) (sortedFrom B b) = true ↔ a < b := by
  have key : ∀ i j : Fin n, i < j → B (sortedFrom B j) (sortedFrom B i) = false := fun i j hij =>
    sortedFrom_noInversion B B (fun a b h => hB.asymm a b h) (fun _ _ h => h) hB.negTrans i j hij
  constructor
  · intro h
    rcases lt_trichotomy a b with h' | h' | h'
    · exact h'
    · subst h'; rw [hB.irrefl] at h; exact absurd h (by decide)
    · rw [key _ _ h'] at h; exact absurd h (by decide)
  · intro h
    rcases hB.total (sortedFrom B a) (sortedFrom B b) (fun e => absurd (sortedFrom_injective B e) h.ne) with h' | h'
    · exact h'
    · rw [key _ _ h] at h'; exact absurd h' (by decide)

/-- How many entries come before entry `i`. -/
def rank {n : ℕ} (B : Fin n → Fin n → Bool) (i : Fin n) : ℕ := (Finset.univ.filter fun j => B j i = true).card

theorem rank_sortedFrom {n : ℕ} {B : Fin n → Fin n → Bool} (hB : StrictTotalBefore B) (r : Fin n) :
    rank B (sortedFrom B r) = r := by
  have : (Finset.univ.filter fun j => B j (sortedFrom B r) = true) = (Finset.Iio r).map ⟨sortedFrom B, sortedFrom_injective B⟩ := by
    ext j
    obtain ⟨j', rfl⟩ := sortedFrom_surjective B j
    simp only [Finset.mem_filter, Finset.mem_univ, true_and, before_iff hB, Finset.mem_map, Finset.mem_Iio, Function.Embedding.coeFn_mk]
    exact ⟨fun h => ⟨j', h, rfl⟩, fun ⟨x, hx, e⟩ => sortedFrom_injective B e ▸ hx⟩
  rw [rank, this, Finset.card_map, Fin.card_Iio]

/-- Entry `i` has rank `r` exactly when the sort puts it at place `r`. -/
theorem rank_eq_iff {n : ℕ} {B : Fin n → Fin n → Bool} (hB : StrictTotalBefore B) (i r : Fin n) :
    rank B i = r ↔ i = sortedFrom B r := by
  obtain ⟨r', rfl⟩ := sortedFrom_surjective B i
  rw [rank_sortedFrom hB]
  exact ⟨fun h => by rw [Fin.ext h], fun h => by rw [sortedFrom_injective B h]⟩

/-- The sort is the only arrangement in which earlier places hold earlier entries. -/
theorem sortedFrom_unique {n : ℕ} {B : Fin n → Fin n → Bool} (hB : StrictTotalBefore B) (σ : Fin n → Fin n)
    (hord : ∀ i j : Fin n, i < j → B (σ i) (σ j) = true) (i : Fin n) : sortedFrom B i = σ i := by
  have hinj : Function.Injective σ := by
    intro a b h
    by_contra hne
    rcases lt_or_gt_of_ne hne with h' | h'
    · have := hord _ _ h'; rw [h, hB.irrefl] at this; exact absurd this (by decide)
    · have := hord _ _ h'; rw [h, hB.irrefl] at this; exact absurd this (by decide)
  have hsurj : Function.Surjective σ := Finite.injective_iff_surjective.mp hinj
  have := hB.sortedFrom_eq_of_prefix (le_refl n) σ hinj (fun i j hij => hB.asymm _ _ (hord i j hij))
    (fun i p hp => absurd (hsurj p) (by rintro ⟨j, hj⟩; exact hp j hj)) i
  exact this

/-- The order depends only on how the keys compare. -/
theorem desc_congr {n : ℕ} (s t : Fin n → EReal) (h : ∀ a b, s a < s b ↔ t a < t b) : desc s = desc t := by
  have he : ∀ a b, s a = s b ↔ t a = t b := fun a b => by
    constructor
    · intro e
      rcases lt_trichotomy (t a) (t b) with h' | h' | h'
      · exact absurd e ((h a b).mpr h').ne
      · exact h'
      · exact absurd e ((h b a).mpr h').ne'
    · intro e
      rcases lt_trichotomy (s a) (s b) with h' | h' | h'
      · exact absurd e ((h a b).mp h').ne
      · exact h'
      · exact absurd e ((h b a).mp h').ne'
  funext a b
  simp only [desc, h, he]

/-- A sum of zeros and ones over a finite index is the count of the ones. -/
theorem sum_ind {ι : Type} [Fintype ι] (p : ι → Prop) [DecidablePred p] :
    (∑ j, (if p j then (1 : EReal) else 0)) = ((Finset.univ.filter p).card : ℝ) := by
  rw [← Finset.sum_filter]
  simp

/-- A sum that selects one entry is that entry. -/
theorem sum_pick {ι : Type} [Fintype ι] [DecidableEq ι] (f : ι → EReal) (a : ι) :
    (∑ j, f j * (if j = a then (1 : EReal) else 0)) = f a := by
  rw [Finset.sum_eq_single a]
  · simp
  · intro b _ hb; simp [hb]
  · intro h; exact absurd (Finset.mem_univ a) h

end Cert.Proof.SortMath

end
-- ==== Proof.Words.lean ====
module

public import proofs.«01_k».proof.Proof.SortMath
public import Idealize.ShloMosaic.Lib.Pointwise
public import Idealize.ShloMosaic.Lib.WordCmp
public import Idealize.ShloMosaic.Lib.IdealHost

@[expose] public section

noncomputable section

/-! Words and bits at the extended reals: conversions of small counts, comparisons of small words. -/

namespace Cert.Proof.Words

open Idealize.ShloMosaic Idealize.ShloMosaic.WordCmp

/-- A bit read as a number is one or zero. -/
theorem bit_num (p : Prop) [Decidable p] :
    (FloatOps.sitofp FTy.f32 (BitVec.setWidth 32 (BitVec.ofBool (decide p))) : Ideal .f32) = if p then (1 : EReal) else 0 := by
  by_cases h : p
  · simp only [h, decide_true, BitVec.ofBool_true, if_true]
    show (((BitVec.setWidth 32 1#1).toInt : ℝ) : EReal) = 1
    norm_num
  · simp only [h, decide_false, BitVec.ofBool_false, if_false]
    show (((BitVec.setWidth 32 0#1).toInt : ℝ) : EReal) = 0
    norm_num

theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem or_bit (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem toInt_small {a : ℕ} (h : a < 2 ^ 31) : (BitVec.ofNat 32 a).toInt = (a : ℤ) := by
  rw [BitVec.toInt_ofNat']
  exact Int.bmod_eq_of_le (by omega) (by omega)

theorem slt_small {a b : ℕ} (ha : a < 2 ^ 31) (hb : b < 2 ^ 31) :
    IntOp.cmpi .slt (BitVec.ofNat 32 a) (BitVec.ofNat 32 b) = BitVec.ofBool (decide (a < b)) := by
  rw [cmpi_slt_eq, toInt_small ha, toInt_small hb]
  congr 1
  simp

theorem sgt_small {a b : ℕ} (ha : a < 2 ^ 31) (hb : b < 2 ^ 31) :
    IntOp.cmpi .sgt (BitVec.ofNat 32 a) (BitVec.ofNat 32 b) = BitVec.ofBool (decide (b < a)) := by
  rw [cmpi_sgt_eq, toInt_small ha, toInt_small hb]
  congr 1
  simp

theorem eq_small {a b : ℕ} (ha : a < 2 ^ 31) (hb : b < 2 ^ 31) :
    IntOp.cmpi .eq (BitVec.ofNat 32 a) (BitVec.ofNat 32 b) = BitVec.ofBool (decide (a = b)) := by
  rw [cmpi_eq_eq]
  congr 1
  have : BitVec.ofNat 32 a = BitVec.ofNat 32 b ↔ a = b := by
    constructor
    · intro h
      have := congrArg BitVec.toInt h
      rw [toInt_small ha, toInt_small hb] at this
      exact_mod_cast this
    · rintro rfl; rfl
  simp [this]

/-- A small count as a number. -/
theorem num_small {a : ℕ} (h : a < 2 ^ 31) :
    (FloatOps.sitofp FTy.f32 (BitVec.ofNat 32 a) : Ideal .f32) = ((a : ℝ) : EReal) := by
  show (((BitVec.ofNat 32 a).toInt : ℝ) : EReal) = _
  rw [toInt_small h]
  norm_cast

/-- A number between a small count and the next converts to the count. -/
theorem word_floor {a : ℕ} (h : a < 2 ^ 31) (x : ℝ) (h0 : (a : ℝ) ≤ x) (h1 : x < a + 1) :
    (FloatOps.fptosi (F := Ideal) (φ := .f32) 32 (x : EReal) : BitVec 32) = BitVec.ofNat 32 a := by
  have hx : (0 : ℝ) ≤ x := le_trans (Nat.cast_nonneg a) h0
  have hf : ⌊x⌋ = (a : ℤ) := by
    rw [Int.floor_eq_iff]
    exact ⟨by exact_mod_cast h0, by exact_mod_cast h1⟩
  show Ideal.fptosi 32 _ = _
  rw [Ideal.fptosi, Ideal.toIntClamped_coe, if_pos hx, hf]
  have : max (-((2 ^ (32 - 1) : ℕ) : ℤ)) (min (((2 ^ (32 - 1) : ℕ) : ℤ) - 1) (a : ℤ)) = (a : ℤ) := by
    norm_num
    omega
  rw [this]
  exact BitVec.ofInt_natCast ..

/-- A small count converts to itself. -/
theorem word_small {a : ℕ} (h : a < 2 ^ 31) :
    (FloatOps.fptosi (F := Ideal) (φ := .f32) 32 ((a : ℝ) : EReal) : BitVec 32) = BitVec.ofNat 32 a :=
  word_floor h a le_rfl (by linarith)

/-- A choice by a bit. -/
theorem select_bit {α : Type} (p : Prop) [Decidable p] (x y : α) :
    Scalar.select (BitVec.ofBool (decide p)) x y = if p then x else y := by
  by_cases h : p <;> simp [h, Scalar.select]

end Cert.Proof.Words

end

end
-- ==== Proof.NmsMath.lean ====
module

public import proofs.«01_k».proof.Proof.SortMath

@[expose] public section

noncomputable section

/-! Non-maximum suppression as mathematics: the greedy choice, the overlap of two boxes. -/

namespace Cert.Proof.NmsMath

open Idealize.ShloMosaic Cert.Proof.SortMath

/-- The intersection of two boxes. -/
def inter (a b : Fin 4 → EReal) : EReal := max (min (a 2) (b 2) - max (a 0) (b 0)) 0 * max (min (a 3) (b 3) - max (a 1) (b 1)) 0

/-- The ratio of the intersection of two boxes to their union, the union bounded below. -/
def iou (a b : Fin 4 → EReal) : EReal :=
  Ideal.div (inter a b) (max ((a 2 - a 0) * (a 3 - a 1) + (b 2 - b 0) * (b 3 - b 1) - inter a b) (Ideal.ofBits .f32 814313567#32))

/-- The overlap above which a box suppresses another. -/
def thresh : EReal := Ideal.ofBits .f32 1055286886#32

/-- A set chosen greedily: an entry is in exactly when it is allowed and no earlier chosen entry suppresses it. -/
def IsGreedy {n : ℕ} (val : Fin n → Prop) (sup : Fin n → Fin n → Prop) (K : Fin n → Prop) : Prop :=
  ∀ i, K i ↔ val i ∧ ∀ j, j < i → K j → ¬ sup j i

/-- The greedy choice is unique. -/
theorem IsGreedy.unique {n : ℕ} {val : Fin n → Prop} {sup : Fin n → Fin n → Prop} {K L : Fin n → Prop}
    (hK : IsGreedy val sup K) (hL : IsGreedy val sup L) (i : Fin n) : K i ↔ L i := by
  induction i using WellFoundedLT.induction with
  | ind i ih =>
    rw [hK i, hL i]
    refine and_congr Iff.rfl (forall_congr' fun j => forall_congr' fun hj => ?_)
    rw [ih j hj]

theorem ofBits_half : Ideal.ofBits .f32 0x3F000000#32 = (((1 / 2 : ℝ)) : EReal) := by
  simp [Ideal.ofBits, Ideal.ieee]
  rw [← EReal.coe_mul]
  congr 1
  norm_num

/-- A fixed point of the suppression step is the greedy choice. -/
theorem greedy_of_step {n : ℕ} (val : Fin n → Prop) (sup : Fin n → Fin n → Prop) [DecidablePred val] [∀ a b, Decidable (sup a b)]
    (w : Fin n → EReal)
    (hstep : ∀ j, w j = (if val j then (1 : EReal) else 0) *
      (if (∑ a, w a * (if sup a j ∧ a < j then (1 : EReal) else 0) : EReal) < Ideal.ofBits .f32 0x3F000000#32 then (1 : EReal) else 0)) :
    IsGreedy val sup (fun j => w j = 1) ∧ ∀ j, w j ≠ 1 → w j = 0 := by
  have h01 : ∀ j, w j = if w j = 1 then (1 : EReal) else 0 := by
    intro j
    have h : w j = 1 ∨ w j = 0 := by
      rw [hstep]
      by_cases h1 : val j
      · rw [if_pos h1, one_mul]
        exact (em _).imp (fun h => if_pos h) (fun h => if_neg h)
      · rw [if_neg h1, zero_mul]; exact Or.inr rfl
    rcases h with h | h
    · rw [if_pos h, h]
    · rw [if_neg (by rw [h]; exact zero_ne_one), h]
  have hsum : ∀ j, (∑ a, w a * (if sup a j ∧ a < j then (1 : EReal) else 0) : EReal)
      = (((Finset.univ.filter fun a => w a = 1 ∧ sup a j ∧ a < j).card : ℝ) : EReal) := by
    intro j
    rw [← sum_ind]
    refine Finset.sum_congr rfl fun a _ => ?_
    rw [h01 a]
    by_cases h1 : w a = 1 <;> by_cases h2 : sup a j ∧ a < j <;> simp [h1, h2]
  refine ⟨fun j => ?_, fun j hj => (h01 j).trans (if_neg hj)⟩
  have hc : ((((Finset.univ.filter fun a => w a = 1 ∧ sup a j ∧ a < j).card : ℝ) : EReal) < Ideal.ofBits .f32 0x3F000000#32)
      ↔ ∀ a, a < j → w a = 1 → ¬ sup a j := by
    rw [ofBits_half, EReal.coe_lt_coe_iff]
    have : ∀ k : ℕ, ((k : ℝ) < 1 / 2) ↔ k = 0 := by
      intro k
      constructor
      · intro h
        by_contra h0
        have : (1 : ℝ) ≤ k := by exact_mod_cast Nat.one_le_iff_ne_zero.mpr h0
        linarith
      · rintro rfl; norm_num
    rw [this, Finset.card_eq_zero, Finset.filter_eq_empty_iff]
    constructor
    · intro h a ha hw hs; exact h (Finset.mem_univ a) ⟨hw, hs, ha⟩
    · rintro h a - ⟨hw, hs, ha⟩; exact h a ha hw hs
  show w j = 1 ↔ _
  rw [← hc, ← hsum]
  rw [hstep j]
  by_cases h1 : val j
  · by_cases h2 : (∑ a, w a * (if sup a j ∧ a < j then (1 : EReal) else 0) : EReal) < Ideal.ofBits .f32 0x3F000000#32
    · simp only [h1, if_true, h2, true_and, iff_true, mul_one]
    · simp only [h1, if_true, if_neg h2, true_and, mul_zero, zero_ne_one, false_iff]; exact h2
  · simp [h1]

end Cert.Proof.NmsMath

end

end
-- ==== Proof.Spec.lean ====
module

public import proofs.«01_k».proof.Proof.NmsMath

@[expose] public section

noncomputable section

/-! What the detector computes from one anchor: the class probabilities and the clipped box. -/

namespace Cert.Proof.Spec

open Idealize.ShloMosaic Cert.Proof.SortMath Cert.Proof.NmsMath

/-- The largest logit. -/
def top (x : Fin 21 → EReal) : EReal := Finset.fold max (Ideal.ofBits .f32 4286578688#32) (fun k => x k) Finset.univ

/-- The probability of foreground class `j`. -/
def prob (x : Fin 21 → EReal) (j : Fin 20) : EReal :=
  Ideal.div (Ideal.exp (x ⟨1 + j, by omega⟩ - top x)) (∑ k, Ideal.exp (x k - top x))

/-- The score below which a class is no candidate. -/
def lowest : EReal := Ideal.ofBits .f32 1008981770#32

/-- The stand-in score of a class that is no candidate. -/
def none30 : EReal := Ideal.ofBits .f32 4048155338#32

/-- The level under which a score marks no candidate. -/
def floor30 : EReal := Ideal.ofBits .f32 4020342536#32

/-- The score the kernels carry. -/
def scoreK (x : Fin 21 → EReal) (j : Fin 20) : EReal := if lowest < prob x j then prob x j else none30

/-- The score the plain program carries. -/
def scoreR (x : Fin 21 → EReal) (j : Fin 20) : EReal := if lowest < prob x j then prob x j else ⊥

/-- The centre of the decoded box along one axis. -/
def mid (r a : Fin 4 → EReal) (p q : Fin 4) : EReal :=
  Ideal.div (r p) (Ideal.ofBits .f32 1092616192#32) * (a q - a p) + (a p + Ideal.ofBits .f32 1056964608#32 * (a q - a p))

/-- Half the extent of the decoded box along one axis. -/
def half (r a : Fin 4 → EReal) (p q : Fin 4) : EReal :=
  Ideal.ofBits .f32 1056964608#32 * (Ideal.exp (min (Ideal.div (r q) (Ideal.ofBits .f32 1084227584#32)) (Ideal.ofBits .f32 1082413897#32)) * (a q - a p))

/-- A coordinate kept inside the image. -/
def clip (x : EReal) : EReal := min (Ideal.ofBits .f32 1134559232#32) (max 0 x)

/-- The decoded box, unclipped. -/
def raw (r a : Fin 4 → EReal) : Fin 4 → EReal :=
  ![mid r a 0 2 - half r a 0 2, mid r a 1 3 - half r a 1 3, mid r a 0 2 + half r a 0 2, mid r a 1 3 + half r a 1 3]

/-- The decoded and clipped box. -/
def box (r a : Fin 4 → EReal) (q : Fin 4) : EReal := clip (raw r a q)

theorem bits_320 : Ideal.ofBits .f32 1134559232#32 = ((320 : ℝ) : EReal) := by
  simp [Ideal.ofBits, Ideal.ieee]
  rw [← EReal.coe_mul]
  congr 1
  norm_num

theorem bits_bot : Ideal.ofBits .f32 4286578688#32 = ⊥ := by
  simp [Ideal.ofBits, Ideal.ieee]

/-- A clipped coordinate is a real number between zero and the image's side. -/
theorem clip_real (x : EReal) : ∃ r : ℝ, clip x = (r : EReal) ∧ 0 ≤ r ∧ r ≤ 320 := by
  have h0 : (0 : EReal) ≤ clip x := by
    rw [clip, bits_320]
    exact le_min (by exact_mod_cast (by norm_num : (0 : ℝ) ≤ 320)) (le_max_left _ _)
  have h1 : clip x ≤ ((320 : ℝ) : EReal) := by
    rw [clip, bits_320]; exact min_le_left _ _
  have hr : ((clip x).toReal : EReal) = clip x :=
    EReal.coe_toReal (ne_top_of_le_ne_top (EReal.coe_ne_top _) h1) (ne_bot_of_le_ne_bot EReal.zero_ne_bot h0)
  refine ⟨(clip x).toReal, hr.symm, ?_, ?_⟩
  · rw [← hr] at h0; exact_mod_cast h0
  · rw [← hr] at h1; exact_mod_cast h1

theorem lowest_real : ∃ r : ℝ, lowest = (r : EReal) ∧ 0 < r := by
  refine ⟨10737418 / 1073741824, ?_, by norm_num⟩
  simp [lowest, Ideal.ofBits, Ideal.ieee]
  rw [← EReal.coe_mul]
  congr 1
  norm_num

theorem none30_real : ∃ r : ℝ, none30 = (r : EReal) ∧ r < -(2 ^ 99 : ℝ) := by
  refine ⟨-(13234890 * 2 ^ 76 : ℝ), ?_, by norm_num⟩
  simp [none30, Ideal.ofBits, Ideal.ieee]
  first
  | done
  | (rw [← EReal.coe_mul, ← EReal.coe_neg]; congr 1; norm_num)
  | (norm_num; done)

theorem floor30_real : ∃ r : ℝ, floor30 = (r : EReal) ∧ -(2 ^ 99 : ℝ) ≤ r ∧ r < 0 := by
  refine ⟨-(10587912 * 2 ^ 73 : ℝ), ?_, by norm_num, by norm_num⟩
  simp [floor30, Ideal.ofBits, Ideal.ieee]
  first
  | done
  | (rw [← EReal.coe_mul, ← EReal.coe_neg]; congr 1; norm_num)
  | (norm_num; done)

theorem none_lt_floor : none30 < floor30 := by
  obtain ⟨a, ha, ha'⟩ := none30_real
  obtain ⟨b, hb, hb', -⟩ := floor30_real
  rw [ha, hb, EReal.coe_lt_coe_iff]
  linarith

theorem floor_lt_lowest : floor30 < lowest := by
  obtain ⟨a, ha, ha'⟩ := lowest_real
  obtain ⟨b, hb, -, hb'⟩ := floor30_real
  rw [ha, hb, EReal.coe_lt_coe_iff]
  linarith

theorem bot_lt_none : ⊥ < none30 := by
  obtain ⟨a, ha, ha'⟩ := none30_real
  rw [ha]; exact EReal.bot_lt_coe a

/-- A candidate's score is above the level, in the kernels and in the plain program. -/
theorem valid_iff (x : Fin 21 → EReal) (j : Fin 20) : floor30 < scoreK x j ↔ ⊥ < scoreR x j := by
  unfold scoreK scoreR
  split_ifs with h
  · exact ⟨fun _ => lt_of_le_of_lt bot_le h, fun _ => floor_lt_lowest.trans h⟩
  · exact ⟨fun h' => absurd h' (not_lt.mpr none_lt_floor.le), fun h' => absurd h' (lt_irrefl _)⟩

/-- A candidate's score is the same in the kernels and in the plain program. -/
theorem score_eq (x : Fin 21 → EReal) (j : Fin 20) (h : ⊥ < scoreR x j) : scoreK x j = scoreR x j := by
  unfold scoreK scoreR at *
  split_ifs at * with h'
  · rfl
  · exact absurd h (lt_irrefl _)

theorem score_bot (x : Fin 21 → EReal) (j : Fin 20) (h : ¬ ⊥ < scoreR x j) : scoreK x j = none30 ∧ scoreR x j = ⊥ := by
  have h' : scoreR x j = ⊥ := le_bot_iff.mp (not_lt.mp h)
  refine ⟨?_, h'⟩
  unfold scoreK scoreR at *
  split_ifs at * with h''
  · exact absurd (h' ▸ h'' : lowest < ⊥) not_lt_bot
  · rfl

/-- The two scores compare alike. -/
theorem score_lt (x y : Fin 21 → EReal) (i j : Fin 20) : scoreK x i < scoreK y j ↔ scoreR x i < scoreR y j := by
  by_cases hx : ⊥ < scoreR x i <;> by_cases hy : ⊥ < scoreR y j
  · rw [score_eq x i hx, score_eq y j hy]
  · rw [(score_bot y j hy).1, (score_bot y j hy).2]
    refine ⟨fun h => absurd (h.trans none_lt_floor) (not_lt.mpr ((valid_iff x i).mpr hx).le), fun h => absurd h not_lt_bot⟩
  · rw [(score_bot x i hx).1, (score_bot x i hx).2]
    exact ⟨fun _ => hy, fun _ => none_lt_floor.trans ((valid_iff y j).mpr hy)⟩
  · rw [(score_bot x i hx).1, (score_bot x i hx).2, (score_bot y j hy).1, (score_bot y j hy).2]
    exact ⟨fun h => absurd h (lt_irrefl _), fun h => absurd h (lt_irrefl _)⟩

end Cert.Proof.Spec

end

end
-- ==== Proof.PrepVal.lean ====
module

public import proofs.«01_k».proof.Proof.KReg0
public import Idealize.ShloMosaic.Lib.Pointwise
public import Idealize.ShloMosaic.Lib.IdealHost
public import proofs.«01_k».proof.Proof.Words
public import proofs.«01_k».proof.Proof.Spec

@[expose] public section

set_option maxRecDepth 16384
noncomputable section
namespace Cert.Proof.KRun
open Cert.KernelIdeal Cert.KernelIdeal.Gen Idealize.ShloMosaic Idealize.ShloMosaic.Tactic
open Cert.Proof.Words Cert.Proof.Spec

/-! The first kernel's values. -/

variable (x0 : Vec Ideal S5000x4 .f32) (x1 : Vec Ideal S5000x21 .f32) (x2 : Vec Ideal S5000x4 .f32)

theorem fg_eq (i : Fin 5000) (j : Fin 20) : k0_pay2 (F := Ideal) x1 (ix2 i j) = scoreK (fun k => x1 (ix2 i k)) j := by
  pointwise [k0_pay2]
  rfl

theorem out0_3_eq (i : Fin 5000) (j : Fin 20) : out0_3 x0 x1 x2 (ix2 i j) = scoreK (fun k => x1 (ix2 i k)) j := by
  unfold out0_3
  rw [show ∀ w, View.canon [⟨r0_1, w⟩] = w from fun w => View.canon_unit_zero (by decide) _ w,
    show View.ld x1 r0_0 = x1 from View.ld_unit_zero (by decide) _ x1]
  exact fg_eq x1 i j

theorem out0_4_eq (i : Fin 5000) (j : Fin 20) : out0_4 x0 x1 x2 (ix3 j 0 i) = scoreK (fun k => x1 (ix2 i k)) j := by
  unfold out0_4
  rw [show ∀ w, View.canon [⟨r0_2, w⟩] = w from fun w => View.canon_unit_zero (by decide) _ w,
    show View.ld x1 r0_0 = x1 from View.ld_unit_zero (by decide) _ x1, ← fg_eq x1 i j]
  pointwise [k0_pay3]

theorem out0_5_q0 (i : Fin 5000) : out0_5 x0 x1 x2 (ix2 i (0 : Fin 4)) = box (fun q => x0 (ix2 i q)) (fun q => x2 (ix2 i q)) 0 := by
  unfold out0_5
  simp only [show ∀ w, View.canon [⟨r0_3, w⟩] = w from fun w => View.canon_unit_zero (by decide) _ w,
    show ∀ w : Vec Ideal S5000x4 .f32, View.ld w r0_3 = w from fun w => View.ld_unit_zero (by decide) _ w, k0_pay18, k0_pay19, k0_pay20, k0_pay21, k0_pay22, k0_pay23]
  pointwise [k0_pay1, k0_pay14, k0_pay15, k0_pay16, k0_pay17, k0_pay4, k0_pay5, k0_pay6, k0_pay7, k0_pay8, k0_pay9, k0_pay10, k0_pay11, k0_pay12, k0_pay13]
  rfl

theorem out0_5_q1 (i : Fin 5000) : out0_5 x0 x1 x2 (ix2 i (1 : Fin 4)) = box (fun q => x0 (ix2 i q)) (fun q => x2 (ix2 i q)) 1 := by
  unfold out0_5
  simp only [show ∀ w, View.canon [⟨r0_3, w⟩] = w from fun w => View.canon_unit_zero (by decide) _ w,
    show ∀ w : Vec Ideal S5000x4 .f32, View.ld w r0_3 = w from fun w => View.ld_unit_zero (by decide) _ w, k0_pay18, k0_pay19, k0_pay20, k0_pay21, k0_pay22, k0_pay23]
  pointwise [k0_pay1, k0_pay14, k0_pay15, k0_pay16, k0_pay17, k0_pay4, k0_pay5, k0_pay6, k0_pay7, k0_pay8, k0_pay9, k0_pay10, k0_pay11, k0_pay12, k0_pay13]
  rfl

theorem out0_5_q2 (i : Fin 5000) : out0_5 x0 x1 x2 (ix2 i (2 : Fin 4)) = box (fun q => x0 (ix2 i q)) (fun q => x2 (ix2 i q)) 2 := by
  unfold out0_5
  simp only [show ∀ w, View.canon [⟨r0_3, w⟩] = w from fun w => View.canon_unit_zero (by decide) _ w,
    show ∀ w : Vec Ideal S5000x4 .f32, View.ld w r0_3 = w from fun w => View.ld_unit_zero (by decide) _ w, k0_pay18, k0_pay19, k0_pay20, k0_pay21, k0_pay22, k0_pay23]
  pointwise [k0_pay1, k0_pay14, k0_pay15, k0_pay16, k0_pay17, k0_pay4, k0_pay5, k0_pay6, k0_pay7, k0_pay8, k0_pay9, k0_pay10, k0_pay11, k0_pay12, k0_pay13]
  rfl

theorem out0_5_q3 (i : Fin 5000) : out0_5 x0 x1 x2 (ix2 i (3 : Fin 4)) = box (fun q => x0 (ix2 i q)) (fun q => x2 (ix2 i q)) 3 := by
  unfold out0_5
  simp only [show ∀ w, View.canon [⟨r0_3, w⟩] = w from fun w => View.canon_unit_zero (by decide) _ w,
    show ∀ w : Vec Ideal S5000x4 .f32, View.ld w r0_3 = w from fun w => View.ld_unit_zero (by decide) _ w, k0_pay18, k0_pay19, k0_pay20, k0_pay21, k0_pay22, k0_pay23]
  pointwise [k0_pay1, k0_pay14, k0_pay15, k0_pay16, k0_pay17, k0_pay4, k0_pay5, k0_pay6, k0_pay7, k0_pay8, k0_pay9, k0_pay10, k0_pay11, k0_pay12, k0_pay13]
  rfl

theorem out0_5_eq (i : Fin 5000) (q : Fin 4) : out0_5 x0 x1 x2 (ix2 i q) = box (fun q => x0 (ix2 i q)) (fun q => x2 (ix2 i q)) q := by
  fin_cases q
  · exact out0_5_q0 x0 x1 x2 i
  · exact out0_5_q1 x0 x1 x2 i
  · exact out0_5_q2 x0 x1 x2 i
  · exact out0_5_q3 x0 x1 x2 i

end Cert.Proof.KRun
end
end
-- ==== Proof.RankMath.lean ====
module

public import proofs.«01_k».proof.Proof.SortMath

@[expose] public section

noncomputable section

/-! A rank counted chunk by chunk: inside its chunk an entry's position is corrected by the entries
before it that are smaller and the entries after it that are larger, the entries of the earlier chunks that are
smaller are taken off and the entries of the later chunks that are larger are added. -/

namespace Cert.Proof.RankMath

open Cert.Proof.SortMath

/-- A sum of ones and zeros over the extended reals is the sum over the reals. -/
theorem sum_coe {n : ℕ} (p : Fin n → Prop) [DecidablePred p] :
    (∑ x, if p x then (1 : EReal) else 0) = ((∑ x, if p x then (1 : ℝ) else 0 : ℝ) : EReal) := by
  rw [sum_ind]
  simp

theorem sum_lt {w : ℕ} (a : ℕ) (h : a ≤ w) : (∑ x : Fin w, if (x : ℕ) < a then (1 : ℝ) else 0) = a := by
  rw [Finset.sum_boole]
  congr 1
  rw [Fin.card_filter_val_lt]
  omega

/-- The rank counted over the reals, chunk by chunk. -/
theorem rank_real {lo w r : ℕ} (s : Fin (lo + w + r) → EReal) (i : Fin w) :
    ((rank (desc s) (Fin.castAdd r (Fin.natAdd lo i)) : ℕ) : ℝ)
      = (lo + i : ℕ)
        - (∑ x : Fin w, if s (Fin.castAdd r (Fin.natAdd lo x)) < s (Fin.castAdd r (Fin.natAdd lo i)) ∧ x < i then (1 : ℝ) else 0)
        + (∑ x : Fin w, if s (Fin.castAdd r (Fin.natAdd lo i)) < s (Fin.castAdd r (Fin.natAdd lo x)) ∧ i < x then (1 : ℝ) else 0)
        - (∑ x : Fin lo, if s (Fin.castAdd r (Fin.castAdd w x)) < s (Fin.castAdd r (Fin.natAdd lo i)) then (1 : ℝ) else 0)
        + (∑ x : Fin r, if s (Fin.castAdd r (Fin.natAdd lo i)) < s (Fin.natAdd (lo + w) x) then (1 : ℝ) else 0) := by
  set t := Fin.castAdd r (Fin.natAdd lo i) with ht
  have h0 : ((rank (desc s) t : ℕ) : ℝ) = ∑ j, if desc s j t = true then (1 : ℝ) else 0 := by
    rw [rank, Finset.sum_boole]
  rw [h0, Fin.sum_univ_add, Fin.sum_univ_add]
  have h1 : (∑ x : Fin lo, if desc s (Fin.castAdd r (Fin.castAdd w x)) t = true then (1 : ℝ) else 0)
      = lo - ∑ x : Fin lo, if s (Fin.castAdd r (Fin.castAdd w x)) < s t then (1 : ℝ) else 0 := by
    rw [eq_sub_iff_add_eq, ← Finset.sum_add_distrib]
    rw [Finset.sum_congr rfl (g := fun _ => (1 : ℝ))]
    · simp
    · intro x _
      have hx : Fin.castAdd r (Fin.castAdd w x) < t := by
        simp only [ht, Fin.lt_def, Fin.val_castAdd, Fin.val_natAdd]; omega
      rcases lt_trichotomy (s (Fin.castAdd r (Fin.castAdd w x))) (s t) with h | h | h
      · simp [desc, h, h.ne, h.le, not_lt.mpr h.le]
      · simp [desc, h, hx]
      · simp [desc, h, h.ne', h.le, not_lt.mpr h.le]
  have h3 : (∑ x : Fin r, if desc s (Fin.natAdd (lo + w) x) t = true then (1 : ℝ) else 0)
      = ∑ x : Fin r, if s t < s (Fin.natAdd (lo + w) x) then (1 : ℝ) else 0 := by
    refine Finset.sum_congr rfl fun x _ => ?_
    have hx : ¬ Fin.natAdd (lo + w) x < t := by
      simp only [ht, Fin.lt_def, Fin.val_castAdd, Fin.val_natAdd]; omega
    simp [desc, hx]
  have h2 : (∑ x : Fin w, if desc s (Fin.castAdd r (Fin.natAdd lo x)) t = true then (1 : ℝ) else 0)
      = i - (∑ x : Fin w, if s (Fin.castAdd r (Fin.natAdd lo x)) < s t ∧ x < i then (1 : ℝ) else 0)
        + ∑ x : Fin w, if s t < s (Fin.castAdd r (Fin.natAdd lo x)) ∧ i < x then (1 : ℝ) else 0 := by
    rw [← sum_lt (w := w) i i.isLt.le, ← Finset.sum_sub_distrib, ← Finset.sum_add_distrib]
    refine Finset.sum_congr rfl fun x _ => ?_
    have hx : Fin.castAdd r (Fin.natAdd lo x) < t ↔ x < i := by
      simp only [ht, Fin.lt_def, Fin.val_castAdd, Fin.val_natAdd]; omega
    have hv : (x : ℕ) < i ↔ x < i := Iff.rfl
    by_cases he : x = i
    · subst he; simp [desc, ht]
    rcases lt_or_gt_of_ne he with g | g
    · have g' : ¬ i < x := not_lt.mpr g.le
      rcases lt_trichotomy (s (Fin.castAdd r (Fin.natAdd lo x))) (s t) with h | h | h
      · simp [desc, hx, hv, g, g', h, h.ne, not_lt.mpr h.le]
      · simp [desc, hx, hv, g, g', h]
      · simp [desc, hx, hv, g, g', h, h.ne', not_lt.mpr h.le]
    · have g' : ¬ x < i := not_lt.mpr g.le
      simp [desc, hx, hv, g, g']
  rw [h1, h2, h3]
  push_cast
  ring

/-- The same count over the extended reals. -/
theorem rank_ereal {lo w r : ℕ} (s : Fin (lo + w + r) → EReal) (i : Fin w) :
    (((lo + i : ℕ) : ℝ) : EReal)
        - (∑ x : Fin w, if s (Fin.castAdd r (Fin.natAdd lo x)) < s (Fin.castAdd r (Fin.natAdd lo i)) ∧ x < i then (1 : EReal) else 0)
        + (∑ x : Fin w, if s (Fin.castAdd r (Fin.natAdd lo i)) < s (Fin.castAdd r (Fin.natAdd lo x)) ∧ i < x then (1 : EReal) else 0)
        - (∑ x : Fin lo, if s (Fin.castAdd r (Fin.castAdd w x)) < s (Fin.castAdd r (Fin.natAdd lo i)) then (1 : EReal) else 0)
        + (∑ x : Fin r, if s (Fin.castAdd r (Fin.natAdd lo i)) < s (Fin.natAdd (lo + w) x) then (1 : EReal) else 0)
      = (((rank (desc s) (Fin.castAdd r (Fin.natAdd lo i)) : ℕ) : ℝ) : EReal) := by
  simp only [sum_coe, ← EReal.coe_sub, ← EReal.coe_add]
  rw [rank_real s i]

end Cert.Proof.RankMath

end

end
-- ==== Proof.ClassVal.lean ====
module

public import proofs.«01_k».proof.Proof.KReg1
public import proofs.«01_k».proof.Proof.KReg0
public import Idealize.ShloMosaic.Lib.Pointwise
public import Idealize.ShloMosaic.Lib.IdealHost
public import proofs.«01_k».proof.Proof.Words
public import proofs.«01_k».proof.Proof.RankMath
public import proofs.«01_k».proof.Proof.Spec

@[expose] public section

set_option maxRecDepth 16384
noncomputable section
namespace Cert.Proof.KRun
open Cert.KernelIdeal Cert.KernelIdeal.Gen Idealize.ShloMosaic Idealize.ShloMosaic.Tactic
open Cert.Proof.NmsMath Cert.Proof.Spec Cert.Proof.SortMath Cert.Proof.RankMath Cert.Proof.Words Idealize.ShloMosaic.WordCmp

/-! The class kernel's values: its ranks are the places of the stable sort by score, its one-hot products
select the sorted scores and boxes. -/

theorem slt_pos (x i : Fin 1000) :
    IntOp.cmpi .slt (BitVec.ofNat 32 x) (BitVec.ofNat 32 i) = BitVec.ofBool (decide (x < i)) :=
  slt_small (by omega) (by omega)

theorem sgt_pos (x i : Fin 1000) :
    IntOp.cmpi .sgt (BitVec.ofNat 32 x) (BitVec.ofNat 32 i) = BitVec.ofBool (decide (i < x)) :=
  sgt_small (by omega) (by omega)

theorem num_pos (a : ℕ) (i : Fin 1000) (h : a < 5000) :
    (FloatOps.sitofp FTy.f32 (IntOp.addi (BitVec.ofNat 32 a) (BitVec.ofNat 32 i)) : Ideal .f32) = (((a + i : ℕ) : ℝ) : EReal) := by
  rw [addi_ofNat, num_small (by omega)]

section Rank

variable (s : Fin 5000 → EReal)

/-- The place the sort by score gives entry `i`, as a number. -/
def place (i : Fin 5000) : EReal := ((rank (desc s) i : ℕ) : ℝ)

variable (v1 : FVec Ideal S1x5000 .f32) (v10 : FVec Ideal S5000x1 .f32)
  (h1 : ∀ j, v1 (ix2 0 j) = s j) (h10 : ∀ j, v10 (ix2 j 0) = s j)

include h1 h10

theorem chunk1 (i : Fin 1000) :
    k1_pay16 v1 v10 (iota .tc S1000x1 32 [0] iota_S1000x1_d0_w32) k1_pay10 k1_pay11 (ix2 i 0) = place s ⟨1000 + i, by omega⟩ := by
  pointwise [k1_pay16, k1_pay10, k1_pay11]
  simp only [h1, h10, slt_pos, sgt_pos, and_bit, bit_num, num_pos 1000 i (by norm_num)]
  exact rank_ereal (lo := 1000) (w := 1000) (r := 3000) s i

theorem chunk2 (i : Fin 1000) :
    k1_pay21 v1 k1_pay11 (k1_pay17 v10) (k1_pay18 v1) (k1_pay19 (F := Ideal) (iota .tc S1000x1 32 [0] iota_S1000x1_d0_w32)) (k1_pay20 v1 v10 k1_pay10) (ix2 i 0) = place s ⟨2000 + i, by omega⟩ := by
  pointwise [k1_pay21, k1_pay17, k1_pay18, k1_pay19, k1_pay20, k1_pay10, k1_pay11]
  simp only [h1, h10, slt_pos, sgt_pos, and_bit, bit_num, num_pos 2000 i (by norm_num)]
  exact rank_ereal (lo := 2000) (w := 1000) (r := 2000) s i

end Rank

theorem chunk0 (s : Fin 5000 → EReal) (g : grid1.Coords) (x1 : Vec Ideal S1x1x5000 .f32) (x0 : Vec Ideal S5000x20 .f32)
    (h1 : ∀ j, k1_pay8 x1 (ix2 0 j) = s j) (h10 : ∀ j, k1_pay9 g x0 (ix2 j 0) = s j) (i : Fin 1000) :
    k1_pay15 (k1_pay13 g x1 x0) (k1_pay14 g x1 x0) (ix2 i 0) = place s ⟨i, by omega⟩ := by
  have h12 : k1_pay12 g x0 (ix2 i 0) = s ⟨i, by omega⟩ := by
    rw [← h10]
    pointwise [k1_pay12]
  have ha : k1_pay13 g x1 x0 (ix2 i 0) = (((0 + i : ℕ) : ℝ) : EReal)
        - (∑ x : Fin 1000, if s ⟨x, by omega⟩ < s ⟨i, by omega⟩ ∧ x < i then (1 : EReal) else 0)
        + (∑ x : Fin 1000, if s ⟨i, by omega⟩ < s ⟨x, by omega⟩ ∧ i < x then (1 : EReal) else 0) := by
    pointwise [k1_pay13, k1_pay10, k1_pay11]
    simp only [h1, h12, slt_pos, sgt_pos, and_bit, bit_num, num_pos 0 i (by norm_num), Nat.zero_add]
  have hb : ∀ j : Fin 4000, k1_pay14 g x1 x0 (ix2 i j) = if s ⟨i, by omega⟩ < s ⟨1000 + j, by omega⟩ then (1 : EReal) else 0 := by
    intro j
    pointwise [k1_pay14, k1_pay10, k1_pay11]
    simp only [h1, h12, bit_num]
  have h := rank_ereal (lo := 0) (w := 1000) (r := 4000) (fun j => s ⟨j, by omega⟩) i
  have e0 : (∑ x : Fin 1000, if s ⟨x, by omega⟩ < s ⟨i, by omega⟩ ∧ x < i then (1 : EReal) else 0)
      = (∑ x : Fin 1000, if s ⟨0 + x, by omega⟩ < s ⟨0 + i, by omega⟩ ∧ x < i then (1 : EReal) else 0) := by
    simp only [Nat.zero_add]
  have hgoal : k1_pay15 (k1_pay13 g x1 x0) (k1_pay14 g x1 x0) (ix2 i 0)
      = k1_pay13 g x1 x0 (ix2 i 0) + ∑ j, k1_pay14 g x1 x0 (ix2 i j) := by
    pointwise [k1_pay15]
  rw [hgoal, ha]
  simp only [hb]
  rw [Finset.univ_eq_empty (α := Fin 0), Finset.sum_empty, sub_zero] at h
  have hi : (⟨i, by omega⟩ : Fin 5000) = Fin.castAdd 4000 (Fin.natAdd 0 i) := Fin.ext (Nat.zero_add _).symm
  have hx : ∀ x : Fin 1000, (⟨x, by omega⟩ : Fin 5000) = (⟨(Fin.castAdd 4000 (Fin.natAdd 0 x) : Fin (0 + 1000 + 4000)).val, by omega⟩ : Fin 5000) :=
    fun x => Fin.ext (Nat.zero_add _).symm
  have hy : ∀ x : Fin 4000, (⟨1000 + x, by omega⟩ : Fin 5000) = (⟨(Fin.natAdd (0 + 1000) x : Fin (0 + 1000 + 4000)).val, by simp; omega⟩ : Fin 5000) :=
    fun x => Fin.ext (by simp)
  simp only [hx, hy]
  exact h

theorem piece0 (v1 : FVec Ideal S1x5000 .f32) (v10 : FVec Ideal S5000x1 .f32) (v11 v15 v18 v50 v91 v132 v133 v146 v154) (r : Fin 1000) :
    k1_pay26 v1 v10 v11 v15 v18 v50 v91 v132 v133 v146 v154 (ix2 (⟨r, by omega⟩ : Fin 5000) 0) = FloatOps.fptosi 32 (v50 (ix2 r 0)) := by
  pointwise [k1_pay26]

theorem piece1 (v1 : FVec Ideal S1x5000 .f32) (v10 : FVec Ideal S5000x1 .f32) (v11 v15 v18 v50 v91 v132 v133 v146 v154) (r : Fin 1000) :
    k1_pay26 v1 v10 v11 v15 v18 v50 v91 v132 v133 v146 v154 (ix2 (⟨1000 + r, by omega⟩ : Fin 5000) 0) = FloatOps.fptosi 32 (v91 (ix2 r 0)) := by
  pointwise [k1_pay26]

theorem piece2 (v1 : FVec Ideal S1x5000 .f32) (v10 : FVec Ideal S5000x1 .f32) (v11 v15 v18 v50 v91 v132 v133 v146 v154) (r : Fin 1000) :
    k1_pay26 v1 v10 v11 v15 v18 v50 v91 v132 v133 v146 v154 (ix2 (⟨2000 + r, by omega⟩ : Fin 5000) 0) = FloatOps.fptosi 32 (v132 (ix2 r 0)) := by
  pointwise [k1_pay26]
  have e1 : ¬ 2000 + (r : ℕ) < 1000 := by omega
  have e2 : ¬ 2000 + (r : ℕ) - 1000 < 1000 := by omega
  have e3 : 2000 + (r : ℕ) - 1000 - 1000 < 1000 := by omega
  rw [dif_neg e1, dif_neg e2, dif_pos e3]
  have e : 2000 + (r : ℕ) - 1000 - 1000 = r := by omega
  simp only [e]

theorem chunk3 (s : Fin 5000 → EReal) (v1 : FVec Ideal S1x5000 .f32) (v10 : FVec Ideal S5000x1 .f32)
    (h1 : ∀ j, v1 (ix2 0 j) = s j) (h10 : ∀ j, v10 (ix2 j 0) = s j) (v50 v91 v132) (i : Fin 1000) :
    k1_pay26 v1 v10 (iota .tc S1000x1 32 [0] iota_S1000x1_d0_w32) k1_pay10 k1_pay11 v50 v91 v132 (k1_pay22 v10) (k1_pay24 v1 v10 (iota .tc S1000x1 32 [0] iota_S1000x1_d0_w32) k1_pay10) (k1_pay25 v1 v10 k1_pay11) (ix2 (⟨3000 + i, by omega⟩ : Fin 5000) 0)
      = FloatOps.fptosi (F := Ideal) (φ := .f32) 32 (place s ⟨3000 + i, by omega⟩) := by
  pointwise [k1_pay26, k1_pay22, k1_pay23, k1_pay24, k1_pay25, k1_pay10, k1_pay11]
  have e1 : ¬ 3000 + (i : ℕ) < 1000 := by omega
  have e2 : ¬ 3000 + (i : ℕ) - 1000 < 1000 := by omega
  have e3 : ¬ 3000 + (i : ℕ) - 1000 - 1000 < 1000 := by omega
  have e4 : 3000 + (i : ℕ) - 1000 - 1000 - 1000 < 1000 := by omega
  rw [dif_neg e1, dif_neg e2, dif_neg e3, dif_pos e4]
  have e : 3000 + (i : ℕ) - 1000 - 1000 - 1000 = i := by omega
  simp only [e]
  simp only [h1, h10, slt_pos, sgt_pos, and_bit, bit_num, num_pos 3000 i (by norm_num)]
  exact congrArg _ (rank_ereal (lo := 3000) (w := 1000) (r := 1000) s i)

theorem chunk4 (s : Fin 5000 → EReal) (v1 : FVec Ideal S1x5000 .f32) (v10 : FVec Ideal S5000x1 .f32)
    (h1 : ∀ j, v1 (ix2 0 j) = s j) (h10 : ∀ j, v10 (ix2 j 0) = s j) (v50 v91 v132 v133 v146 v154) (i : Fin 1000) :
    k1_pay26 v1 v10 (iota .tc S1000x1 32 [0] iota_S1000x1_d0_w32) k1_pay10 k1_pay11 v50 v91 v132 v133 v146 v154 (ix2 (⟨4000 + i, by omega⟩ : Fin 5000) 0)
      = FloatOps.fptosi (F := Ideal) (φ := .f32) 32 (place s ⟨4000 + i, by omega⟩) := by
  pointwise [k1_pay26, k1_pay10, k1_pay11]
  have e1 : ¬ 4000 + (i : ℕ) < 1000 := by omega
  have e2 : ¬ 4000 + (i : ℕ) - 1000 < 1000 := by omega
  have e3 : ¬ 4000 + (i : ℕ) - 1000 - 1000 < 1000 := by omega
  have e4 : ¬ 4000 + (i : ℕ) - 1000 - 1000 - 1000 < 1000 := by omega
  rw [dif_neg e1, dif_neg e2, dif_neg e3, dif_neg e4]
  have e : 4000 + (i : ℕ) - 1000 - 1000 - 1000 - 1000 = i := by omega
  simp only [e]
  simp only [h1, h10, slt_pos, sgt_pos, and_bit, bit_num, num_pos 4000 i (by norm_num)]
  have h := rank_ereal (lo := 4000) (w := 1000) (r := 0) s i
  rw [Finset.univ_eq_empty (α := Fin 0), Finset.sum_empty, add_zero] at h
  exact congrArg _ h

/-- Every entry's rank, as the class kernel counts it. -/
theorem rank_word (s : Fin 5000 → EReal) (g : grid1.Coords) (x0 : Vec Ideal S5000x20 .f32) (x1 : Vec Ideal S1x1x5000 .f32) (x2 : Vec Ideal S5000x4 .f32)
    (h1 : ∀ j, k1v1 g x0 x1 x2 (ix2 0 j) = s j) (h10 : ∀ j, k1v10 g x0 x1 x2 (ix2 j 0) = s j) (i : Fin 5000) :
    k1v208 g x0 x1 x2 (ix2 i 0) = BitVec.ofNat 32 (rank (desc s) i) := by
  have hw : ∀ j : Fin 5000, (FloatOps.fptosi (F := Ideal) (φ := .f32) 32 (place s j) : BitVec 32) = BitVec.ofNat 32 (rank (desc s) j) := by
    intro j
    refine word_small ?_
    have : rank (desc s) j ≤ 5000 := by
      rw [rank]; exact (Finset.card_le_univ _).trans (by simp)
    omega
  rw [← hw]
  unfold k1v208
  have hcase : (∃ r : Fin 1000, i = ⟨r, by omega⟩) ∨ (∃ r : Fin 1000, i = ⟨1000 + r, by omega⟩) ∨ (∃ r : Fin 1000, i = ⟨2000 + r, by omega⟩)
      ∨ (∃ r : Fin 1000, i = ⟨3000 + r, by omega⟩) ∨ (∃ r : Fin 1000, i = ⟨4000 + r, by omega⟩) := by
    have hi := i.isLt
    by_cases h1 : (i : ℕ) < 1000
    · exact Or.inl ⟨⟨i, h1⟩, rfl⟩
    by_cases h2 : (i : ℕ) < 2000
    · exact Or.inr (Or.inl ⟨⟨i - 1000, by omega⟩, Fin.ext (by simp; omega)⟩)
    by_cases h3 : (i : ℕ) < 3000
    · exact Or.inr (Or.inr (Or.inl ⟨⟨i - 2000, by omega⟩, Fin.ext (by simp; omega)⟩))
    by_cases h4 : (i : ℕ) < 4000
    · exact Or.inr (Or.inr (Or.inr (Or.inl ⟨⟨i - 3000, by omega⟩, Fin.ext (by simp; omega)⟩)))
    · exact Or.inr (Or.inr (Or.inr (Or.inr ⟨⟨i - 4000, by omega⟩, Fin.ext (by simp; omega)⟩)))
  rcases hcase with ⟨r, rfl⟩ | ⟨r, rfl⟩ | ⟨r, rfl⟩ | ⟨r, rfl⟩ | ⟨r, rfl⟩
  · rw [piece0, chunk0 s g _ _ h1 h10]
  · rw [piece1]; exact congrArg _ (chunk1 s _ _ h1 h10 r)
  · rw [piece2]; exact congrArg _ (chunk2 s _ _ h1 h10 r)
  · exact chunk3 s _ _ h1 h10 _ _ _ r
  · exact chunk4 s _ _ h1 h10 _ _ _ _ _ _ r

/-- The one-hot matrix of the ranks: column `k` marks the entry the sort puts at place `k`. -/
theorem onehot (s : Fin 5000 → EReal) (v208 : IVec S5000x1 32) (h : ∀ i, v208 (ix2 i 0) = BitVec.ofNat 32 (rank (desc s) i)) (i : Fin 5000) (k : Fin 400) :
    k1_pay27 (F := Ideal) (iota .tc S5000x400 32 [1] iota_S5000x400_d1_w32) v208 (ix2 i k)
      = if i = sortedFrom (desc s) ⟨k, by omega⟩ then (1 : EReal) else 0 := by
  have hr : rank (desc s) i ≤ 5000 := by
    rw [rank]; exact (Finset.card_le_univ _).trans (by simp)
  have he : ((k : ℕ) = rank (desc s) i) ↔ i = sortedFrom (desc s) ⟨k, by omega⟩ := by
    rw [← rank_eq_iff (desc_total s)]
    exact eq_comm
  pointwise [k1_pay27]
  rw [h, eq_small (by omega) (by omega), bit_num]
  simp only [he]

/-- A sum over the entries whose position is a given word is that entry. -/
theorem pick_word (f : Fin 20 → EReal) (c : Fin 20) :
    (∑ k : Fin 20, Scalar.select (IntOp.cmpi .eq (BitVec.ofNat 32 k) (BitVec.ofNat 32 c)) (f k) 0) = f c := by
  have : ∀ k : Fin 20, Scalar.select (IntOp.cmpi .eq (BitVec.ofNat 32 k) (BitVec.ofNat 32 c)) (f k) 0
      = if k = c then f k else (0 : EReal) := by
    intro k
    rw [eq_small (by omega) (by omega), select_bit]
    simp only [Fin.ext_iff]
  simp only [this]
  rw [Finset.sum_eq_single c]
  · simp
  · intro b _ hb; rw [if_neg hb]
  · intro h; exact absurd (Finset.mem_univ _) h

variable (s : Fin 5000 → EReal) (g : grid1.Coords) (x0 : Vec Ideal S5000x20 .f32) (x1 : Vec Ideal S1x1x5000 .f32) (x2 : Vec Ideal S5000x4 .f32)
  (h1 : ∀ j, x1 (ix3 0 0 j) = s j) (h10 : ∀ j, x0 (ix2 j (g 0)) = s j)

theorem row_eq (h1 : ∀ j, x1 (ix3 0 0 j) = s j) (j : Fin 5000) : k1v1 g x0 x1 x2 (ix2 0 j) = s j := by
  rw [← h1]
  unfold k1v1
  rw [show View.ld x1 r1_0 = x1 from View.ld_unit_zero (by decide) _ x1]
  pointwise [k1_pay8]

theorem col_eq (h10 : ∀ j, x0 (ix2 j (g 0)) = s j) (j : Fin 5000) : k1v10 g x0 x1 x2 (ix2 j 0) = s j := by
  rw [← h10]
  unfold k1v10
  rw [show View.ld x0 r1_1 = x0 from View.ld_unit_zero (by decide) _ x0]
  pointwise [k1_pay9]
  have hg : (g 0 : ℕ) < 20 := (g 0).isLt
  exact pick_word (fun k => x0 (ix2 j k)) (g 0)

include h1 h10

theorem top_eq (k : Fin 400) : k1v215 g x0 x1 x2 (ix2 0 k) = s (sortedFrom (desc s) ⟨k, by omega⟩) := by
  unfold k1v215 k1v207
  pointwise [k1_pay28]
  simp only [onehot s _ (rank_word s g x0 x1 x2 (row_eq s g x0 x1 x2 h1) (col_eq s g x0 x1 x2 h10)), row_eq s g x0 x1 x2 h1]
  exact sum_pick s _

theorem box_eq (k : Fin 400) (q : Fin 4) :
    k1_pay29 (k1v207 g x0 x1 x2) (k1v208 g x0 x1 x2) (View.ld x2 r1_2) (ix2 k q) = x2 (ix2 (sortedFrom (desc s) ⟨k, by omega⟩) q) := by
  rw [show View.ld x2 r1_2 = x2 from View.ld_unit_zero (by decide) _ x2]
  unfold k1v207
  pointwise [k1_pay29]
  simp only [onehot s _ (rank_word s g x0 x1 x2 (row_eq s g x0 x1 x2 h1) (col_eq s g x0 x1 x2 h10)), mul_comm _ (x2 _)]
  exact sum_pick (fun x => x2 (ix2 x q)) _

theorem out3_eq (k : Fin 400) : out1_3 g x0 x1 x2 (ix3 0 0 k) = s (sortedFrom (desc s) ⟨k, by omega⟩) := by
  unfold out1_3
  rw [show ∀ w, View.canon [⟨r1_3, w⟩] = w from fun w => View.canon_unit_zero (by decide) _ w, ← top_eq s g x0 x1 x2 h1 h10]
  pointwise [k1_pay3]

theorem out4_eq (k : Fin 400) (q : Fin 4) : out1_4 g x0 x1 x2 (ix3 0 k q) = x2 (ix2 (sortedFrom (desc s) ⟨k, by omega⟩) q) := by
  unfold out1_4
  rw [show ∀ w, View.canon [⟨r1_4, w⟩] = w from fun w => View.canon_unit_zero (by decide) _ w, ← box_eq s g x0 x1 x2 h1 h10]
  pointwise [k1_pay4]

/-- The suppression matrix. -/
theorem sup_eq (a b : Fin 400) : k1sup g x0 x1 x2 (ix2 a b)
    = if thresh < iou (fun q => x2 (ix2 (sortedFrom (desc s) ⟨a, by omega⟩) q)) (fun q => x2 (ix2 (sortedFrom (desc s) ⟨b, by omega⟩) q)) ∧ a < b
      then (1 : EReal) else 0 := by
  unfold k1sup
  pointwise [k1_pay1, k1_pay31]
  rw [slt_small (by omega) (by omega), and_bit, bit_num]
  have : k1_pay30 (k1v207 g x0 x1 x2) (k1v208 g x0 x1 x2) (View.ld x2 r1_2) (ix2 a b)
      = iou (fun q => x2 (ix2 (sortedFrom (desc s) ⟨a, by omega⟩) q)) (fun q => x2 (ix2 (sortedFrom (desc s) ⟨b, by omega⟩) q)) := by
    pointwise [k1_pay30]
    simp only [box_eq s g x0 x1 x2 h1 h10]
    rfl
  rw [this]
  rfl

theorem out5_eq : ∃ K : Fin 400 → Prop,
    IsGreedy (fun k => floor30 < s (sortedFrom (desc s) ⟨k, by omega⟩))
      (fun a b => thresh < iou (fun q => x2 (ix2 (sortedFrom (desc s) ⟨a, by omega⟩) q)) (fun q => x2 (ix2 (sortedFrom (desc s) ⟨b, by omega⟩) q))) K
    ∧ (∀ k, K k → out1_5 g x0 x1 x2 (ix3 0 0 k) = (1 : EReal)) ∧ (∀ k, ¬ K k → out1_5 g x0 x1 x2 (ix3 0 0 k) = (0 : EReal)) := by
  set S := k1sup g x0 x1 x2 with hS
  set v := k1_pay2 (k1v215 g x0 x1 x2) with hv
  have hv' : ∀ k : Fin 400, v (ix2 0 k) = if floor30 < s (sortedFrom (desc s) ⟨k, by omega⟩) then (1 : EReal) else 0 := by
    intro k
    rw [hv, ← top_eq s g x0 x1 x2 h1 h10]
    pointwise [k1_pay2]
    rw [bit_num]
    rfl
  have hS' := sup_eq s g x0 x1 x2 h1 h10
  have hfix := nmsOut_fixed S v (fun x y hxy => by rw [hS, hS', if_neg]; exact fun h => absurd h.2 (not_lt.mpr hxy))
  set w := nmsOut S v with hw
  have hstep : ∀ j : Fin 400, w (ix2 0 j) = v (ix2 0 j) *
      (if (∑ a : Fin 400, w (ix2 0 a) * S (ix2 a j) : EReal) < Ideal.ofBits .f32 0x3F000000#32 then (1 : EReal) else 0) := by
    intro j
    rw [← step_apply, hfix]
  have h5 : ∀ k, out1_5 g x0 x1 x2 (ix3 0 0 k) = w (ix2 0 k) := by
    intro k
    unfold out1_5
    rw [show ∀ w, View.canon [⟨r1_3, w⟩] = w from fun w => View.canon_unit_zero (by decide) _ w]
    pointwise [k1_pay5]
    rfl
  simp only [hv', hS, hS'] at hstep
  obtain ⟨hg, h0⟩ := greedy_of_step _ _ (fun j : Fin 400 => w (ix2 0 j)) hstep
  exact ⟨_, hg, fun k hk => (h5 k).trans hk, fun k hk => (h5 k).trans (h0 k hk)⟩

end Cert.Proof.KRun
end
end
-- ==== Proof.Rows.lean ====
module

public import proofs.«01_k».proof.Proof.SortMath
public import proofs.«01_k».proof.Proof.NmsMath
public import proofs.«01_k».proof.Proof.Spec

@[expose] public section

noncomputable section
namespace Cert.Proof.Rows
open Idealize.ShloMosaic Cert.Proof.SortMath Cert.Proof.NmsMath Cert.Proof.Spec

/-! The eight thousand candidates: four hundred of each of the twenty classes. -/

/-- The class of candidate `f`. -/
def cls (f : Fin 8000) : Fin 20 := ⟨f / 400, by omega⟩

/-- The place of candidate `f` within its class. -/
def pos (f : Fin 8000) : Fin 400 := ⟨f % 400, by omega⟩

/-- The candidate at a class and a place. -/
def flat (j : Fin 20) (r : Fin 400) : Fin 8000 := ⟨j * 400 + r, by omega⟩

theorem cls_flat (j : Fin 20) (r : Fin 400) : cls (flat j r) = j := Fin.ext (by show (j.val * 400 + r.val) / 400 = j.val; omega)
theorem pos_flat (j : Fin 20) (r : Fin 400) : pos (flat j r) = r := Fin.ext (by show (j.val * 400 + r.val) % 400 = r.val; omega)
theorem flat_eta (f : Fin 8000) : flat (cls f) (pos f) = f := Fin.ext (by show f.val / 400 * 400 + f.val % 400 = f.val; omega)

/-- The anchor behind candidate `f`: the one whose score is at place `f % 400` of its class. -/
def chosen (s : Fin 20 → Fin 5000 → EReal) (f : Fin 8000) : Fin 5000 := sortedFrom (desc (s (cls f))) ⟨pos f, by omega⟩

/-- Within a class the candidates' scores do not increase. -/
theorem chosen_mono (s : Fin 20 → Fin 5000 → EReal) (f g : Fin 8000) (hc : cls f = cls g) (h : pos f < pos g) :
    s (cls g) (chosen s g) ≤ s (cls f) (chosen s f) := by
  have h1 : desc (s (cls g)) (sortedFrom (desc (s (cls g))) ⟨pos f, by omega⟩) (sortedFrom (desc (s (cls g))) ⟨pos g, by omega⟩) = true :=
    (before_iff (desc_total _) _ _).mpr h
  unfold chosen
  rw [hc]
  rcases (desc_iff _ _ _).mp h1 with h | ⟨h, -⟩
  · exact h.le
  · exact h.ge

end Cert.Proof.Rows
end
end
-- ==== Proof.Ahead.lean ====
module

public import proofs.«01_k».proof.Proof.SortMath
public import proofs.«01_k».proof.Proof.Spec
public import proofs.«01_k».proof.Proof.Rows

@[expose] public section

noncomputable section

/-! The order in which the final kernel ranks the candidates. -/

namespace Cert.Proof.Ahead

open Idealize.ShloMosaic Cert.Proof.SortMath Cert.Proof.Spec Cert.Proof.Rows
open Classical

/-- A candidate's key: its score when kept, and the floor otherwise. -/
def cut {n : ℕ} (s : Fin n → EReal) (K : Fin n → Prop) (f : Fin n) : EReal := if K f then s f else none30

/-- The final order: by key, then by score, then by position. -/
def ahead {n : ℕ} (s : Fin n → EReal) (K : Fin n → Prop) (f g : Fin n) : Bool :=
  decide (cut s K g < cut s K f ∨ (cut s K f = cut s K g ∧ (s g < s f ∨ (s f = s g ∧ f < g))))

theorem ahead_iff {n : ℕ} (s : Fin n → EReal) (K : Fin n → Prop) (f g : Fin n) :
    ahead s K f g = true ↔ cut s K g < cut s K f ∨ (cut s K f = cut s K g ∧ desc s f g = true) := by
  rw [ahead, decide_eq_true_iff, desc_iff]

theorem ahead_total {n : ℕ} (s : Fin n → EReal) (K : Fin n → Prop) : StrictTotalBefore (ahead s K) where
  irrefl a := by
    rw [Bool.eq_false_iff, Ne, ahead_iff]
    rintro (h | ⟨-, h⟩)
    · exact lt_irrefl _ h
    · rw [(desc_total s).irrefl] at h
      exact absurd h (by decide)
  trans a b c := by
    simp only [ahead_iff]
    rintro (h1 | ⟨h1, h1'⟩) (h2 | ⟨h2, h2'⟩)
    · exact Or.inl (h2.trans h1)
    · exact Or.inl (h2 ▸ h1)
    · exact Or.inl (h1 ▸ h2)
    · exact Or.inr ⟨h1.trans h2, (desc_total s).trans a b c h1' h2'⟩
  total a b h := by
    simp only [ahead_iff]
    rcases lt_trichotomy (cut s K a) (cut s K b) with h' | h' | h'
    · exact Or.inr (Or.inl h')
    · exact ((desc_total s).total a b h).imp (fun g => Or.inr ⟨h', g⟩) (fun g => Or.inr ⟨h'.symm, g⟩)
    · exact Or.inl (Or.inl h')

/-- The candidates, by class and place. -/
def flatEquiv : Fin 20 × Fin 400 ≃ Fin 8000 where
  toFun p := flat p.1 p.2
  invFun f := (cls f, pos f)
  left_inv p := by
    show (cls (flat p.1 p.2), pos (flat p.1 p.2)) = p
    rw [cls_flat, pos_flat]
  right_inv f := flat_eta f

/-- A count over the candidates is the sum of the counts over the classes. -/
theorem sum_flat (h : Fin 8000 → EReal) : (∑ i : Fin 20, ∑ a : Fin 400, h (flat i a)) = ∑ f, h f := by
  rw [← Fintype.sum_prod_type' (f := fun i a => h (flat i a))]
  exact Fintype.sum_equiv flatEquiv _ _ fun p => rfl

/-- The number of entries ahead of one, as a sum of ones. -/
theorem count_ahead {n : ℕ} (s : Fin n → EReal) (K : Fin n → Prop) (f : Fin n) :
    (∑ g, if ahead s K g f = true then (1 : EReal) else 0) = ((rank (ahead s K) f : ℕ) : ℝ) := by
  rw [sum_ind, rank]

end Cert.Proof.Ahead
end
end
-- ==== Proof.FinalPay.lean ====
module

public import proofs.«01_k».proof.Proof.KReg2
public import Idealize.ShloMosaic.Lib.Pointwise
public import Idealize.ShloMosaic.Lib.IdealHost
public import Idealize.ShloMosaic.Lib.Routing.Words
public import proofs.«01_k».proof.Proof.Words
public import proofs.«01_k».proof.Proof.NmsMath
public import proofs.«01_k».proof.Proof.Ahead

@[expose] public section

set_option maxRecDepth 16384
noncomputable section
namespace Cert.Proof.KRun
open Cert.KernelIdeal Cert.KernelIdeal.Gen Idealize.ShloMosaic Idealize.ShloMosaic.Tactic
open Cert.Proof.SortMath Cert.Proof.Words Cert.Proof.Spec Cert.Proof.Rows Cert.Proof.NmsMath Cert.Proof.Ahead Idealize.ShloMosaic.WordCmp
open Classical

/-! The final kernel's steps: a chunk of the rank, the one-hot rows, the selected boxes, scores and labels. -/

/-- A mark as a number exceeds one half exactly when it is set. -/
theorem mark_half (p : Prop) [Decidable p] (a : EReal) (h1 : p → a = 1) (h0 : ¬ p → a = 0) : Ideal.ofBits FTy.f32 1056964608#32 < a ↔ p := by
  rw [show Ideal.ofBits FTy.f32 1056964608#32 = (((1 / 2 : ℝ)) : EReal) from ofBits_half]
  by_cases h : p
  · rw [h1 h]
    exact ⟨fun _ => h, fun _ => by exact_mod_cast (by norm_num : (1 / 2 : ℝ) < 1)⟩
  · rw [h0 h]
    exact ⟨fun g => absurd g (not_lt.mpr (by exact_mod_cast (by norm_num : (0 : ℝ) ≤ 1 / 2))), fun g => absurd g h⟩

theorem chunk_word (k : Fin k2_t1_loop.trips) (hk : k.val < 20) (a : Fin 400) :
    IntOp.addi (Scalar.muli (Scf.iv 0#32 1#32 k.val) 400#32) (BitVec.ofNat 32 a) = BitVec.ofNat 32 (flat ⟨k, hk⟩ a) := by
  have h : Scf.iv 0#32 1#32 k.val = BitVec.ofNat 32 k.val := by
    simp [Scf.iv]
  rw [h]
  show BitVec.ofNat 32 k.val * 400#32 + BitVec.ofNat 32 a = BitVec.ofNat 32 (k.val * 400 + a.val)
  rw [BitVec.ofNat_add, BitVec.ofNat_mul]

section Chunk

variable (s : Fin 8000 → EReal) (K : Fin 8000 → Prop)

/-- One trip adds the number of the chunk's candidates ahead of each candidate. -/
theorem pay4_at (v0 v2 : Vec Ideal S1x8000 .f32) (k : Fin k2_t1_loop.trips) (hk : k.val < 20) (acc : FVec Ideal S1x8000 .f32) (v62 v66 : Vec Ideal S400x1 .f32) (f : Fin 8000)
    (h0 : ∀ f, v0 (ix2 0 f) = s f) (h2 : ∀ f, (K f → v2 (ix2 0 f) = (1 : EReal)) ∧ (¬ K f → v2 (ix2 0 f) = (0 : EReal)))
    (h62 : ∀ a, v62 (ix2 a 0) = s (flat ⟨k, hk⟩ a)) (h66 : ∀ a, (K (flat ⟨k, hk⟩ a) → v66 (ix2 a 0) = (1 : EReal)) ∧ (¬ K (flat ⟨k, hk⟩ a) → v66 (ix2 a 0) = (0 : EReal))) :
    k2_pay4 v0 v2 k acc v62 v66 (ix2 0 f) = acc (ix2 0 f) + ∑ a, if ahead s K (flat ⟨k, hk⟩ a) f = true then (1 : EReal) else 0 := by
  have e2 : ∀ f, Ideal.ofBits FTy.f32 1056964608#32 < v2 (ix2 0 f) ↔ K f := fun f => mark_half _ _ (h2 f).1 (h2 f).2
  have e6 : ∀ a, Ideal.ofBits FTy.f32 1056964608#32 < v66 (ix2 a 0) ↔ K (flat ⟨k, hk⟩ a) := fun a => mark_half _ _ (h66 a).1 (h66 a).2
  unfold k2_pay4 k2_pay2
  pointwise []
  refine congrArg (acc (ix2 0 f) + ·) (Finset.sum_congr rfl fun a _ => ?_)
  rw [chunk_word k hk a, slt_small (by omega) (by omega)]
  simp only [and_bit, or_bit, bit_num, h0, h62, e2, e6]
  refine if_congr ?_ rfl rfl
  rw [ahead_iff, desc_iff]
  unfold cut
  rfl

end Chunk

theorem pay5_at (v : FVec Ideal S1x8000 .f32) (B : Fin 8000 → Fin 8000 → Bool) (hB : StrictTotalBefore B)
    (hv : ∀ f, v (ix2 0 f) = (((rank B f : ℕ) : ℝ) : EReal)) (r : Fin 200) (f : Fin 8000) :
    k2_pay5 v (ix2 r f) = if f = sortedFrom B ⟨r, by omega⟩ then (1 : EReal) else 0 := by
  have hr : rank B f ≤ 8000 := by
    rw [rank]; exact (Finset.card_le_univ _).trans (by simp)
  have he : ((r : ℕ) = rank B f) ↔ f = sortedFrom B ⟨r, by omega⟩ := by
    rw [← rank_eq_iff hB]
    exact eq_comm
  unfold k2_pay5
  pointwise []
  rw [hv, word_small (by omega), eq_small (by omega) (by omega), bit_num]
  exact if_congr he rfl rfl

section Pick

variable (v : FVec Ideal S1x8000 .f32) (r : Fin 200) (κ : Fin 8000)
  (h : ∀ f, k2_pay5 v (ix2 r f) = if f = κ then (1 : EReal) else 0)

include h

theorem pay6_at (w : Vec Ideal S8000x4 .f32) (q : Fin 4) : k2_pay6 v w (ix2 r q) = w (ix2 κ q) := by
  unfold k2_pay6
  pointwise []
  simp only [h, mul_comm _ (w _)]
  exact sum_pick (fun f => w (ix2 f q)) κ

theorem pay7_at (w : FVec Ideal S1x8000 .f32) :
    k2_pay7 w v (ix2 0 r) = if w (ix2 0 κ) ≤ floor30 then (⊥ : EReal) else w (ix2 0 κ) := by
  unfold k2_pay7 k2_pay2
  pointwise []
  simp only [h]
  rw [sum_pick (fun f => w (ix2 0 f)) κ, bits_bot]
  rfl

end Pick

theorem label_word (x : Fin 8000) :
    IntOp.addi
      (Scalar.select
        (IntOp.andi
          (IntOp.cmpi CmpIPredicate.ne
            (IntOp.subi (BitVec.setWidth 32 (IntOp.cmpi CmpIPredicate.sgt (BitVec.ofNat 32 ↑x) 0#32))
              (BitVec.setWidth 32 (IntOp.cmpi CmpIPredicate.slt (BitVec.ofNat 32 ↑x) 0#32)))
            (Scalar.subi (Scalar.extui (Scalar.cmpi CmpIPredicate.sgt 400#32 0#32))
              (Scalar.extui (Scalar.cmpi CmpIPredicate.slt 400#32 0#32))))
          (IntOp.cmpi CmpIPredicate.ne (IntOp.remsi ArithUnit.vector (BitVec.ofNat 32 ↑x) 400#32) 0#32))
        (IntOp.subi (IntOp.divsi ArithUnit.vector (BitVec.ofNat 32 ↑x) 400#32) 1#32)
        (IntOp.divsi ArithUnit.vector (BitVec.ofNat 32 ↑x) 400#32))
      1#32 = BitVec.ofNat 32 (x.val / 400 + 1) := by
  rw [show (400#32) = BitVec.ofNat 32 400 from rfl, Routing.divsi_word .vector (by omega) (by norm_num) (by norm_num), Routing.remsi_word .vector (by omega) (by norm_num) (by norm_num)]
  rw [show (0#32) = BitVec.ofNat 32 0 from rfl, sgt_small (by omega) (by norm_num), slt_small (by omega) (by norm_num)]
  have hc : (Scalar.subi (Scalar.extui (Scalar.cmpi CmpIPredicate.sgt (BitVec.ofNat 32 400) (BitVec.ofNat 32 0)))
              (Scalar.extui (Scalar.cmpi CmpIPredicate.slt (BitVec.ofNat 32 400) (BitVec.ofNat 32 0)))) = 1#32 := by decide
  rw [hc]
  have hs : Scalar.select
        (IntOp.andi
          (IntOp.cmpi CmpIPredicate.ne
            (IntOp.subi (BitVec.setWidth 32 (BitVec.ofBool (decide (0 < x.val))))
              (BitVec.setWidth 32 (BitVec.ofBool (decide (x.val < 0))))) 1#32)
          (IntOp.cmpi CmpIPredicate.ne (BitVec.ofNat 32 (x.val % 400)) (BitVec.ofNat 32 0)))
        (IntOp.subi (BitVec.ofNat 32 (x.val / 400)) 1#32) (BitVec.ofNat 32 (x.val / 400)) = BitVec.ofNat 32 (x.val / 400) := by
    rcases Nat.eq_zero_or_pos x.val with h | h
    · rw [h]; decide
    · have h' : ¬ x.val < 0 := by omega
      simp only [h, h', decide_true, decide_false]
      have : ∀ b : BitVec 1, IntOp.andi (IntOp.cmpi CmpIPredicate.ne (IntOp.subi (BitVec.setWidth 32 (BitVec.ofBool true)) (BitVec.setWidth 32 (BitVec.ofBool false))) 1#32) b = 0#1 := by decide
      rw [this]
      rfl
  rw [hs]
  show BitVec.ofNat 32 (x.val / 400) + BitVec.ofNat 32 1 = _
  rw [← BitVec.ofNat_add]

theorem pay1_at (v : FVec Ideal S200x8000 .f32) (r : Fin 200) (κ : Fin 8000) (h : ∀ f, v (ix2 r f) = if f = κ then (1 : EReal) else 0) :
    k2_pay1 (iota .tc S1x8000 32 [1] iota_S1x8000_d1_w32) v 400#32 k2_pay8 k2_pay9 k2_pay10 (ix2 0 r) = BitVec.ofNat 32 (κ.val / 400 + 1) := by
  unfold k2_pay1 k2_pay8 k2_pay9 k2_pay10
  pointwise []
  simp only [label_word, h]
  rw [sum_pick (fun f : Fin 8000 => (FloatOps.sitofp FTy.f32 (BitVec.ofNat 32 (f.val / 400 + 1)) : Ideal .f32)) κ, num_small (by omega),
    show Ideal.ofBits FTy.f32 1056964608#32 = (((1 / 2 : ℝ)) : EReal) from ofBits_half]
  have : ((((κ.val / 400 + 1 : ℕ) : ℝ) : EReal) + (((1 / 2 : ℝ)) : EReal)) = ((((κ.val / 400 + 1 : ℕ) : ℝ) + 1 / 2 : ℝ) : EReal) := (EReal.coe_add _ _).symm
  rw [this]
  exact word_floor (by omega) _ (by linarith) (by linarith)

end Cert.Proof.KRun
end
end
-- ==== Proof.FinalVal.lean ====
module

public import proofs.«01_k».proof.Proof.FinalPay
public import Idealize.ShloMosaic.Lib.WholeRead

@[expose] public section

set_option maxRecDepth 16384
noncomputable section
namespace Cert.Proof.KRun
open Cert.KernelIdeal Cert.KernelIdeal.Gen Idealize.ShloMosaic Idealize.ShloMosaic.Tactic
open Cert.Proof.SortMath Cert.Proof.Words Cert.Proof.Spec Cert.Proof.Rows Cert.Proof.NmsMath Cert.Proof.Ahead Idealize.ShloMosaic.WordCmp
open Classical

/-! The final kernel's results: the two hundred candidates at the head of the final order. -/

theorem trips20 : k2_t1_loop.trips = 20 := by decide +kernel

theorem trips_lit : Scf.trips (0#32) (Scalar.addi 0#32 20#32) 1#32 = 20 := by decide +kernel

/-- A whole load of a buffer read at known contents. -/
theorem whole_load {κ : Kind} {sp : Space} {s : Shape} {e : EltTy} (m : Memref sig κ sp s e) (h : m.IsWhole) (off : Fin s.rank → ℕ) (h0 : ∀ a, off a = 0)
    (inb : ∀ a, off a + s.size a ≤ s.size a) (X : s.Idx → Elt Ideal e) :
    View.readAt (Elt Ideal) m.view (Rect.unit (s := s) off s.size inb).toLoadRect (h.unread X) = X := by
  funext x
  refine (h.readAt_unread X _ x).trans (congrArg X (funext fun a => Fin.ext ?_))
  show off a + 1 * (x a).val = (x a).val
  rw [h0]
  omega

theorem chunk_load (m : Memref sig .tc .vmem S8000x1 .f32) (h : m.IsWhole) (k : Fin k2_t1_loop.trips) (hk : k.val < 20) (inb) (X : Vec Ideal S8000x1 .f32) (a : Fin 400) :
    View.readAt (Elt Ideal) m.view (Rect.unit (s := S8000x1) (k2_off1 k) ![400, 1] inb).toLoadRect (h.unread X) (ix2 a 0 : S400x1.Idx) = X (ix2 (flat ⟨k, hk⟩ a) 0) := by
  refine (h.readAt_unread X (Rect.unit (s := S8000x1) (k2_off1 k) ![400, 1] inb).toLoadRect (ix2 a 0 : S400x1.Idx)).trans (congrArg X (funext fun b => Fin.ext ?_))
  show k2_off1 k b + 1 * ((ix2 a 0 : S400x1.Idx) b).val = _
  rw [k2_off1_eq]
  fin_cases b
  · show 400 * k.val + 1 * a.val = k.val * 400 + a.val
    omega
  · rfl

section Loop

variable (c : Dev nD) (arg0 : Memref sig .tc .vmem S1x8000 .f32) (harg0 : arg0.IsWhole) (arg1 : Memref sig .tc .vmem S8000x1 .f32) (harg1 : arg1.IsWhole) (arg2 : Memref sig .tc .vmem S1x8000 .f32) (harg2 : arg2.IsWhole) (arg3 : Memref sig .tc .vmem S8000x1 .f32) (harg3 : arg3.IsWhole) (arg4 : Memref sig .tc .vmem S8000x4 .f32) (harg4 : arg4.IsWhole) (arg5 : Memref sig .tc .vmem S200x4 .f32) (harg5 : arg5.IsWhole) (arg6 : Memref sig .tc .vmem S1x200 .f32) (harg6 : arg6.IsWhole) (arg7 : Memref sig .tc .vmem S1x200 .i32) (harg7 : arg7.IsWhole)
    (x0 : Vec Ideal S1x8000 .f32) (x1 : Vec Ideal S8000x1 .f32) (x2 : Vec Ideal S1x8000 .f32) (x3 : Vec Ideal S8000x1 .f32) (x4 : Vec Ideal S8000x4 .f32)

variable (s : Fin 8000 → EReal) (K : Fin 8000 → Prop)
  (h0 : ∀ f, x0 (ix2 0 f) = s f) (h1 : ∀ f, x1 (ix2 f 0) = s f)
  (h2 : ∀ f, (K f → x2 (ix2 0 f) = (1 : EReal)) ∧ (¬ K f → x2 (ix2 0 f) = (0 : EReal)))
  (h3 : ∀ f, (K f → x3 (ix2 f 0) = (1 : EReal)) ∧ (¬ K f → x3 (ix2 f 0) = (0 : EReal)))

/-- The carried ranks before a trip. -/
def ranks (k : ℕ) : FVec Ideal S1x8000 .f32 :=
  st_k2_t1 Variants.nat c none arg0 harg0 arg1 harg1 arg2 harg2 arg3 harg3 arg4 harg4 arg5 harg5 arg6 harg6 arg7 harg7 x0 x2 (harg1.unread x1) (harg3.unread x3) k2_pay3 k

include h0 h1 h2 h3

theorem ranks_succ (k : ℕ) (hk : k < 20) (f : Fin 8000) :
    ranks c arg0 harg0 arg1 harg1 arg2 harg2 arg3 harg3 arg4 harg4 arg5 harg5 arg6 harg6 arg7 harg7 x0 x1 x2 x3 (k + 1) (ix2 0 f)
      = ranks c arg0 harg0 arg1 harg1 arg2 harg2 arg3 harg3 arg4 harg4 arg5 harg5 arg6 harg6 arg7 harg7 x0 x1 x2 x3 k (ix2 0 f)
        + ∑ a, if ahead s K (flat ⟨k, hk⟩ a) f = true then (1 : EReal) else 0 := by
  have hk' : k < k2_t1_loop.trips := by rw [trips20]; exact hk
  unfold ranks
  refine (congrFun (st_k2_t1_succ Variants.nat c none arg0 harg0 arg1 harg1 arg2 harg2 arg3 harg3 arg4 harg4 arg5 harg5 arg6 harg6 arg7 harg7 x0 x2 (harg1.unread x1) (harg3.unread x3) k2_pay3 ⟨k, hk'⟩) (ix2 0 f)).trans ?_
  unfold tripR_k2_t1 trip_k2_t1
  dsimp only
  exact pay4_at s K x0 x2 ⟨k, hk'⟩ hk _ _ _ f h0 h2 (fun a => (chunk_load arg1 harg1 ⟨k, hk'⟩ hk _ x1 a).trans (h1 _))
    (fun a => ⟨fun h => (chunk_load arg3 harg3 ⟨k, hk'⟩ hk _ x3 a).trans ((h3 _).1 h), fun h => (chunk_load arg3 harg3 ⟨k, hk'⟩ hk _ x3 a).trans ((h3 _).2 h)⟩)

theorem ranks_eq (k : ℕ) (hk : k ≤ 20) (f : Fin 8000) :
    ranks c arg0 harg0 arg1 harg1 arg2 harg2 arg3 harg3 arg4 harg4 arg5 harg5 arg6 harg6 arg7 harg7 x0 x1 x2 x3 k (ix2 0 f)
      = ∑ i : Fin k, ∑ a, if ahead s K (flat ⟨i, by omega⟩ a) f = true then (1 : EReal) else 0 := by
  induction k with
  | zero =>
    rw [Finset.univ_eq_empty, Finset.sum_empty]
    unfold ranks
    rw [st_k2_t1_zero]
    unfold k2_pay3
    pointwise []
  | succ k ih =>
    rw [ranks_succ c arg0 harg0 arg1 harg1 arg2 harg2 arg3 harg3 arg4 harg4 arg5 harg5 arg6 harg6 arg7 harg7 x0 x1 x2 x3 s K h0 h1 h2 h3 k (by omega) f, ih (by omega)]
    exact (Fin.sum_univ_castSucc (fun i : Fin (k + 1) => ∑ a, if ahead s K (flat ⟨i, by omega⟩ a) f = true then (1 : EReal) else 0)).symm

/-- After the loop a candidate's rank is the number of candidates ahead of it. -/
theorem ranks_all (f : Fin 8000) :
    ranks c arg0 harg0 arg1 harg1 arg2 harg2 arg3 harg3 arg4 harg4 arg5 harg5 arg6 harg6 arg7 harg7 x0 x1 x2 x3 20 (ix2 0 f)
      = (((rank (ahead s K) f : ℕ) : ℝ) : EReal) := by
  rw [ranks_eq c arg0 harg0 arg1 harg1 arg2 harg2 arg3 harg3 arg4 harg4 arg5 harg5 arg6 harg6 arg7 harg7 x0 x1 x2 x3 s K h0 h1 h2 h3 20 le_rfl f,
    ← count_ahead, ← sum_flat]

theorem sel_at (r : Fin 200) (f : Fin 8000) :
    k2_pay5 (ranks c arg0 harg0 arg1 harg1 arg2 harg2 arg3 harg3 arg4 harg4 arg5 harg5 arg6 harg6 arg7 harg7 x0 x1 x2 x3 20) (ix2 r f)
      = if f = sortedFrom (ahead s K) ⟨r, by omega⟩ then (1 : EReal) else 0 :=
  pay5_at _ _ (ahead_total s K) (ranks_all c arg0 harg0 arg1 harg1 arg2 harg2 arg3 harg3 arg4 harg4 arg5 harg5 arg6 harg6 arg7 harg7 x0 x1 x2 x3 s K h0 h1 h2 h3) r f

/-- The final kernel's boxes. -/
theorem fin5_eq (r : Fin 200) (q : Fin 4) :
    out2_A_5 c arg0 harg0 arg1 harg1 arg2 harg2 arg3 harg3 arg4 harg4 arg5 harg5 arg6 harg6 arg7 harg7 x0 x1 x2 x3 x4 (ix2 r q) = x4 (ix2 (sortedFrom (ahead s K) ⟨r, by omega⟩) q) := by
  unfold out2_A_5
  rw [View.read_writes_junk_eq_canon]
  unfold kernelRun2_A
  dsimp only
  refine (congrFun (View.canon_unit_zero (by decide) _ _) (ix2 r q)).trans ?_
  rw [trips_lit, show View.readAt (Elt Ideal) arg0.view (Rect.unit (s := S1x8000) ![0, 0] ![1, 8000] inb_S1x8000_S1x8000_0_0).toLoadRect (harg0.unread x0) = x0 from whole_load arg0 harg0 _ (by decide) _ x0,
    show View.readAt (Elt Ideal) arg2.view (Rect.unit (s := S1x8000) ![0, 0] ![1, 8000] inb_S1x8000_S1x8000_0_0).toLoadRect (harg2.unread x2) = x2 from whole_load arg2 harg2 _ (by decide) _ x2,
    show View.readAt (Elt Ideal) arg4.view (Rect.unit (s := S8000x4) ![0, 0] ![8000, 4] inb_S8000x4_S8000x4_0_0).toLoadRect (harg4.unread x4) = x4 from whole_load arg4 harg4 _ (by decide) _ x4]
  exact pay6_at _ r _ (sel_at c arg0 harg0 arg1 harg1 arg2 harg2 arg3 harg3 arg4 harg4 arg5 harg5 arg6 harg6 arg7 harg7 x0 x1 x2 x3 s K h0 h1 h2 h3 r) x4 q

/-- The final kernel's scores. -/
theorem fin6_eq (r : Fin 200) :
    out2_A_6 c arg0 harg0 arg1 harg1 arg2 harg2 arg3 harg3 arg4 harg4 arg5 harg5 arg6 harg6 arg7 harg7 x0 x1 x2 x3 x4 (ix2 0 r)
      = if s (sortedFrom (ahead s K) ⟨r, by omega⟩) ≤ floor30 then (⊥ : EReal) else s (sortedFrom (ahead s K) ⟨r, by omega⟩) := by
  unfold out2_A_6
  rw [View.read_writes_junk_eq_canon]
  unfold kernelRun2_A
  dsimp only
  refine (congrFun (View.canon_unit_zero (by decide) _ _) (ix2 0 r)).trans ?_
  rw [trips_lit, show View.readAt (Elt Ideal) arg0.view (Rect.unit (s := S1x8000) ![0, 0] ![1, 8000] inb_S1x8000_S1x8000_0_0).toLoadRect (harg0.unread x0) = x0 from whole_load arg0 harg0 _ (by decide) _ x0,
    show View.readAt (Elt Ideal) arg2.view (Rect.unit (s := S1x8000) ![0, 0] ![1, 8000] inb_S1x8000_S1x8000_0_0).toLoadRect (harg2.unread x2) = x2 from whole_load arg2 harg2 _ (by decide) _ x2]
  refine (pay7_at _ r _ (sel_at c arg0 harg0 arg1 harg1 arg2 harg2 arg3 harg3 arg4 harg4 arg5 harg5 arg6 harg6 arg7 harg7 x0 x1 x2 x3 s K h0 h1 h2 h3 r) x0).trans ?_
  rw [h0]

/-- The final kernel's labels. -/
theorem fin7_eq (r : Fin 200) :
    out2_A_7 c arg0 harg0 arg1 harg1 arg2 harg2 arg3 harg3 arg4 harg4 arg5 harg5 arg6 harg6 arg7 harg7 x0 x1 x2 x3 x4 (ix2 0 r) = BitVec.ofNat 32 ((sortedFrom (ahead s K) ⟨r, by omega⟩).val / 400 + 1) := by
  unfold out2_A_7
  rw [View.read_writes_junk_eq_canon]
  unfold kernelRun2_A
  dsimp only
  refine (congrFun (View.canon_unit_zero (by decide) _ _) (ix2 0 r)).trans ?_
  unfold kernelRun2_A.sl.v8 kernelRun2_A.sl.r
  rw [trips_lit, show View.readAt (Elt Ideal) arg0.view (Rect.unit (s := S1x8000) ![0, 0] ![1, 8000] inb_S1x8000_S1x8000_0_0).toLoadRect (harg0.unread x0) = x0 from whole_load arg0 harg0 _ (by decide) _ x0,
    show View.readAt (Elt Ideal) arg2.view (Rect.unit (s := S1x8000) ![0, 0] ![1, 8000] inb_S1x8000_S1x8000_0_0).toLoadRect (harg2.unread x2) = x2 from whole_load arg2 harg2 _ (by decide) _ x2]
  exact pay1_at _ r _ (sel_at c arg0 harg0 arg1 harg1 arg2 harg2 arg3 harg3 arg4 harg4 arg5 harg5 arg6 harg6 arg7 harg7 x0 x1 x2 x3 s K h0 h1 h2 h3 r)

end Loop

end Cert.Proof.KRun
end
end
-- ==== Proof.GreedyLoop.lean ====
module

public import proofs.«01_k».proof.Proof.NmsMath

@[expose] public section

noncomputable section
namespace Cert.Proof.NmsMath

/-! The greedy choice made one entry at a time. -/

/-- The marks after the first `k` entries have suppressed the later ones they overlap. -/
def marks {n : ℕ} (val : Fin n → Prop) (sup : Fin n → Fin n → Prop) : ℕ → Fin n → Prop
  | 0, p => val p
  | k + 1, p => marks val sup k p ∧ ¬ ∃ h : k < n, sup ⟨k, h⟩ p ∧ (⟨k, h⟩ : Fin n) < p ∧ marks val sup k ⟨k, h⟩

theorem marks_iff {n : ℕ} (val : Fin n → Prop) (sup : Fin n → Fin n → Prop) (k : ℕ) (p : Fin n) :
    marks val sup k p ↔ val p ∧ ∀ j : Fin n, j.val < k → j < p → marks val sup j.val j → ¬ sup j p := by
  induction k with
  | zero => exact ⟨fun h => ⟨h, fun j hj => absurd hj (Nat.not_lt_zero _)⟩, fun h => h.1⟩
  | succ k ih =>
    show marks val sup k p ∧ _ ↔ _
    rw [ih]
    constructor
    · rintro ⟨⟨hv, h⟩, hn⟩
      refine ⟨hv, fun j hj hjp hm hs => ?_⟩
      rcases Nat.lt_succ_iff_lt_or_eq.mp hj with h' | h'
      · exact h j h' hjp hm hs
      · subst h'
        exact hn ⟨j.isLt, hs, hjp, hm⟩
    · rintro ⟨hv, h⟩
      refine ⟨⟨hv, fun j hj => h j (Nat.lt_succ_of_lt hj)⟩, ?_⟩
      rintro ⟨hk, hs, hlt, hm⟩
      exact h ⟨k, hk⟩ (Nat.lt_succ_self k) hlt hm hs

/-- After all entries the marks are the greedy choice. -/
theorem marks_greedy {n : ℕ} (val : Fin n → Prop) (sup : Fin n → Fin n → Prop) : IsGreedy val sup (marks val sup n) := by
  have hfin : ∀ j : Fin n, marks val sup n j ↔ marks val sup j.val j := by
    intro j
    rw [marks_iff, marks_iff val sup j.val j]
    exact and_congr Iff.rfl ⟨fun h i hi => h i i.isLt, fun h i _ hij => h i hij hij⟩
  intro i
  rw [marks_iff]
  exact and_congr Iff.rfl ⟨fun h j hj hm => h j j.isLt hj ((hfin j).mp hm), fun h j _ hj hm => h j hj ((hfin j).mpr hm)⟩

end Cert.Proof.NmsMath
end
end
-- ==== Proof.KVal.lean ====
module

public import proofs.«01_k».proof.Proof.KRun
public import proofs.«01_k».proof.Proof.PrepVal
public import proofs.«01_k».proof.Proof.ClassVal
public import proofs.«01_k».proof.Proof.FinalVal
public import proofs.«01_k».proof.Proof.GreedyLoop
public import Idealize.ShloMosaic.Lib.Pipeline.ValueKit.Geometry

@[expose] public section

set_option maxRecDepth 16384
noncomputable section
namespace Cert.Proof.KRun
open Cert.KernelIdeal Cert.KernelIdeal.Gen Idealize.ShloMosaic Idealize.ShloMosaic.TcCoe Idealize.ShloMosaic.Tactic
open Cert.Proof.SortMath Cert.Proof.Words Cert.Proof.Spec Cert.Proof.Rows Cert.Proof.NmsMath Cert.Proof.Ahead Idealize.ShloMosaic.WordCmp
open Classical

/-! The kernel's arrays, region by region, as mathematics of the arguments. -/

variable (m : (ℓ : Loc nD τ sig) → Buf (Elt Ideal) ℓ) (ρ : Dev nD → PrngReg)

/-- The logits of anchor `i`. -/
def lgK (c : Dev nD) (i : Fin 5000) : Fin 21 → EReal := fun k => W0 m ρ c (Proc.devRef .tc main_arg1) (ix2 i k)
/-- The regression codes of anchor `i`. -/
def rgK (c : Dev nD) (i : Fin 5000) : Fin 4 → EReal := fun k => W0 m ρ c (Proc.devRef .tc main_arg0) (ix2 i k)
/-- The corners of anchor `i`. -/
def anK (c : Dev nD) (i : Fin 5000) : Fin 4 → EReal := fun k => W0 m ρ c (Proc.devRef .tc main_arg2) (ix2 i k)
/-- The kernel's score of anchor `i` for class `j`. -/
def sK (c : Dev nD) (j : Fin 20) (i : Fin 5000) : EReal := scoreK (lgK m ρ c i) j
/-- The box of anchor `i`. -/
def bK (c : Dev nD) (i : Fin 5000) (q : Fin 4) : EReal := box (rgK m ρ c i) (anK m ρ c i) q

theorem id0_0 (t : Fin (cfg0 (F := Ideal)).N) (x) : (win0_0.blk t).view.emb x = x := by
  have e := (by decide +kernel : ∀ t : Fin grid0.N, win0_0.index t = ![0, 0]) t
  blk_ext [e]

theorem id0_1 (t : Fin (cfg0 (F := Ideal)).N) (x) : (win0_1.blk t).view.emb x = x := by
  have e := (by decide +kernel : ∀ t : Fin grid0.N, win0_1.index t = ![0, 0]) t
  blk_ext [e]

theorem id0_2 (t : Fin (cfg0 (F := Ideal)).N) (x) : (win0_2.blk t).view.emb x = x := by
  have e := (by decide +kernel : ∀ t : Fin grid0.N, win0_2.index t = ![0, 0]) t
  blk_ext [e]

theorem id0_3 (t : Fin (cfg0 (F := Ideal)).N) (x) : (win0_3.blk t).view.emb x = x := by
  have e := (by decide +kernel : ∀ t : Fin grid0.N, win0_3.index t = ![0, 0]) t
  blk_ext [e]

theorem id0_4 (t : Fin (cfg0 (F := Ideal)).N) (x) : (win0_4.blk t).view.emb x = x := by
  have e := (by decide +kernel : ∀ t : Fin grid0.N, win0_4.index t = ![0, 0, 0]) t
  blk_ext [e]

theorem id0_5 (t : Fin (cfg0 (F := Ideal)).N) (x) : (win0_5.blk t).view.emb x = x := by
  have e := (by decide +kernel : ∀ t : Fin grid0.N, win0_5.index t = ![0, 0]) t
  blk_ext [e]

theorem b0_0 (V) (c : Dev nD) (t : Fin (cfg0 (F := Ideal)).N) : iblk0 V c 0 t = V c main_arg0 := by
  funext x
  unfold iblk0
  blk_simp
  rw [id0_0]

theorem b0_1 (V) (c : Dev nD) (t : Fin (cfg0 (F := Ideal)).N) : iblk0 V c 1 t = V c main_arg1 := by
  funext x
  unfold iblk0
  blk_simp
  rw [id0_1]

theorem b0_2 (V) (c : Dev nD) (t : Fin (cfg0 (F := Ideal)).N) : iblk0 V c 2 t = V c main_arg2 := by
  funext x
  unfold iblk0
  blk_simp
  rw [id0_2]

theorem w1_3 (c : Dev nD) : W1 m ρ c (Proc.devRef .tc main_v0_0) = out0_3 (W0 m ρ c (Proc.devRef .tc main_arg0)) (W0 m ρ c (Proc.devRef .tc main_arg1)) (W0 m ρ c (Proc.devRef .tc main_arg2)) := by
  refine (W1_arr m ρ c 3).trans ?_
  refine (dat0 (V0 m ρ) c).arrAt_eq_of_covers 3 _ (by decide +kernel) fun t hf y => ?_
  blk_simp
  rw [after0_3, b0_0, b0_1, b0_2]
  exact congrArg _ (id0_3 t y).symm

theorem w1_4 (c : Dev nD) : W1 m ρ c (Proc.devRef .tc main_v0_1) = out0_4 (W0 m ρ c (Proc.devRef .tc main_arg0)) (W0 m ρ c (Proc.devRef .tc main_arg1)) (W0 m ρ c (Proc.devRef .tc main_arg2)) := by
  refine (W1_arr m ρ c 4).trans ?_
  refine (dat0 (V0 m ρ) c).arrAt_eq_of_covers 4 _ (by decide +kernel) fun t hf y => ?_
  blk_simp
  rw [after0_4, b0_0, b0_1, b0_2]
  exact congrArg _ (id0_4 t y).symm

theorem w1_5 (c : Dev nD) : W1 m ρ c (Proc.devRef .tc main_v0_2) = out0_5 (W0 m ρ c (Proc.devRef .tc main_arg0)) (W0 m ρ c (Proc.devRef .tc main_arg1)) (W0 m ρ c (Proc.devRef .tc main_arg2)) := by
  refine (W1_arr m ρ c 5).trans ?_
  refine (dat0 (V0 m ρ) c).arrAt_eq_of_covers 5 _ (by decide +kernel) fun t hf y => ?_
  blk_simp
  rw [after0_5, b0_0, b0_1, b0_2]
  exact congrArg _ (id0_5 t y).symm

theorem scores1 (c : Dev nD) (i : Fin 5000) (j : Fin 20) : W1 m ρ c (Proc.devRef .tc main_v0_0) (ix2 i j) = sK m ρ c j i :=
  (congrFun (w1_3 m ρ c) (ix2 i j)).trans (out0_3_eq _ _ _ i j)

theorem rows1 (c : Dev nD) (i : Fin 5000) (j : Fin 20) : W1 m ρ c (Proc.devRef .tc main_v0_1) (ix3 j 0 i) = sK m ρ c j i :=
  (congrFun (w1_4 m ρ c) (ix3 j 0 i)).trans (out0_4_eq _ _ _ i j)

theorem boxes1 (c : Dev nD) (i : Fin 5000) (q : Fin 4) : W1 m ρ c (Proc.devRef .tc main_v0_2) (ix2 i q) = bK m ρ c i q :=
  (congrFun (w1_5 m ρ c) (ix2 i q)).trans (out0_5_eq _ _ _ i q)

theorem id1_0 (t : Fin (cfg1 (F := Ideal)).N) (x) : (win1_0.blk t).view.emb x = x := by
  have e := (by decide +kernel : ∀ t : Fin grid1.N, win1_0.index t = ![0, 0]) t
  blk_ext [e]

theorem b1_0 (V) (c : Dev nD) (t : Fin (cfg1 (F := Ideal)).N) : iblk1 V c 0 t = V c main_v0_0 := by
  funext x
  unfold iblk1
  blk_simp
  rw [id1_0]

theorem id1_2 (t : Fin (cfg1 (F := Ideal)).N) (x) : (win1_2.blk t).view.emb x = x := by
  have e := (by decide +kernel : ∀ t : Fin grid1.N, win1_2.index t = ![0, 0]) t
  blk_ext [e]

theorem b1_2 (V) (c : Dev nD) (t : Fin (cfg1 (F := Ideal)).N) : iblk1 V c 2 t = V c main_v0_2 := by
  funext x
  unfold iblk1
  blk_simp
  rw [id1_2]

theorem at1_1 (t : Fin (cfg1 (F := Ideal)).N) (j : Fin 5000) : (win1_1.blk t).view.emb (ix3 0 0 j : S1x1x5000.Idx) = (ix3 (grid1.coords t 0) 0 j : S20x1x5000.Idx) := by
  have e := (by decide +kernel : ∀ t : Fin grid1.N, win1_1.index t = ![(grid1.coords t 0).val, 0, 0]) t
  blk_ext [e]

theorem b1_1 (V) (c : Dev nD) (t : Fin (cfg1 (F := Ideal)).N) (j : Fin 5000) : iblk1 V c 1 t (ix3 0 0 j) = V c main_v0_1 (ix3 (grid1.coords t 0) 0 j) := by
  unfold iblk1
  blk_simp
  rw [at1_1]

theorem at1_3 (t : Fin (cfg1 (F := Ideal)).N) (k : Fin 400) : (win1_3.blk t).view.emb (ix3 0 0 k : S1x1x400.Idx) = (ix3 (grid1.coords t 0) 0 k : S20x1x400.Idx) := by
  have e := (by decide +kernel : ∀ t : Fin grid1.N, win1_3.index t = ![(grid1.coords t 0).val, 0, 0]) t
  blk_ext [e]

theorem at1_4 (t : Fin (cfg1 (F := Ideal)).N) (k : Fin 400) (q : Fin 4) : (win1_4.blk t).view.emb (ix3 0 k q : S1x400x4.Idx) = (ix3 (grid1.coords t 0) k q : S20x400x4.Idx) := by
  have e := (by decide +kernel : ∀ t : Fin grid1.N, win1_4.index t = ![(grid1.coords t 0).val, 0, 0]) t
  blk_ext [e]

theorem at1_5 (t : Fin (cfg1 (F := Ideal)).N) (k : Fin 400) : (win1_5.blk t).view.emb (ix3 0 0 k : S1x1x400.Idx) = (ix3 (grid1.coords t 0) 0 k : S20x1x400.Idx) := by
  have e := (by decide +kernel : ∀ t : Fin grid1.N, win1_5.index t = ![(grid1.coords t 0).val, 0, 0]) t
  blk_ext [e]

theorem h1 (c : Dev nD) (t : Fin (cfg1 (F := Ideal)).N) (j : Fin 5000) : iblk1 (V1 m ρ) c 1 t (ix3 0 0 j) = sK m ρ c (grid1.coords t 0) j :=
  (b1_1 _ c t j).trans (rows1 m ρ c j _)

theorem h10 (c : Dev nD) (t : Fin (cfg1 (F := Ideal)).N) (j : Fin 5000) : iblk1 (V1 m ρ) c 0 t (ix2 j (grid1.coords t 0)) = sK m ρ c (grid1.coords t 0) j :=
  (congrFun (b1_0 _ c t) _).trans (scores1 m ρ c j _)

/-- The anchor at place `k` of class `j`. -/
def top (c : Dev nD) (j : Fin 20) (k : Fin 400) : Fin 5000 := sortedFrom (desc (sK m ρ c j)) ⟨k, by omega⟩

/-- The kept marks of class `j`. -/
def keptK (c : Dev nD) (j : Fin 20) : Fin 400 → Prop :=
  marks (fun k => floor30 < sK m ρ c j (top m ρ c j k)) (fun a b => thresh < iou (bK m ρ c (top m ρ c j a)) (bK m ρ c (top m ρ c j b))) 400

theorem keptK_greedy (c : Dev nD) (j : Fin 20) :
    IsGreedy (fun k => floor30 < sK m ρ c j (top m ρ c j k)) (fun a b => thresh < iou (bK m ρ c (top m ρ c j a)) (bK m ρ c (top m ρ c j b))) (keptK m ρ c j) :=
  marks_greedy _ _

/-- The score array of the class region. -/
def g3 (c : Dev nD) (j : Fin 20) (k : Fin 400) : EReal := sK m ρ c j (top m ρ c j k)
/-- The box array of the class region. -/
def g4 (c : Dev nD) (j : Fin 20) (k : Fin 400) (q : Fin 4) : EReal := bK m ρ c (top m ρ c j k) q
/-- The mark array of the class region. -/
def g5 (c : Dev nD) (j : Fin 20) (k : Fin 400) : EReal := if keptK m ρ c j k then 1 else 0

theorem boxRow (c : Dev nD) (t : Fin (cfg1 (F := Ideal)).N) (i : Fin 5000) (q : Fin 4) : iblk1 (V1 m ρ) c 2 t (ix2 i q) = bK m ρ c i q :=
  (congrFun (b1_2 _ c t) _).trans (boxes1 m ρ c i q)

theorem p3 (c : Dev nD) (t : Fin (cfg1 (F := Ideal)).N) (k : Fin 400) :
    out1_3 (grid1.coords t) (iblk1 (V1 m ρ) c 0 t) (iblk1 (V1 m ρ) c 1 t) (iblk1 (V1 m ρ) c 2 t) (ix3 0 0 k) = g3 m ρ c (grid1.coords t 0) k :=
  out3_eq (sK m ρ c (grid1.coords t 0)) _ _ _ _ (h1 m ρ c t) (h10 m ρ c t) k

theorem p4 (c : Dev nD) (t : Fin (cfg1 (F := Ideal)).N) (k : Fin 400) (q : Fin 4) :
    out1_4 (grid1.coords t) (iblk1 (V1 m ρ) c 0 t) (iblk1 (V1 m ρ) c 1 t) (iblk1 (V1 m ρ) c 2 t) (ix3 0 k q) = g4 m ρ c (grid1.coords t 0) k q :=
  (out4_eq (sK m ρ c (grid1.coords t 0)) _ _ _ _ (h1 m ρ c t) (h10 m ρ c t) k q).trans (boxRow m ρ c t _ q)

theorem p5 (c : Dev nD) (t : Fin (cfg1 (F := Ideal)).N) (k : Fin 400) :
    out1_5 (grid1.coords t) (iblk1 (V1 m ρ) c 0 t) (iblk1 (V1 m ρ) c 1 t) (iblk1 (V1 m ρ) c 2 t) (ix3 0 0 k) = g5 m ρ c (grid1.coords t 0) k := by
  obtain ⟨K, hK, h1', h0'⟩ := out5_eq (sK m ρ c (grid1.coords t 0)) (grid1.coords t) (iblk1 (V1 m ρ) c 0 t) (iblk1 (V1 m ρ) c 1 t) (iblk1 (V1 m ρ) c 2 t) (h1 m ρ c t) (h10 m ρ c t)
  have hb : ∀ i : Fin 5000, (fun q => iblk1 (V1 m ρ) c 2 t (ix2 i q)) = bK m ρ c i := fun i => funext fun q => boxRow m ρ c t i q
  have hu : K k ↔ keptK m ρ c (grid1.coords t 0) k := by
    refine IsGreedy.unique hK ?_ k
    intro i
    rw [keptK_greedy m ρ c (grid1.coords t 0) i]
    refine and_congr Iff.rfl (forall_congr' fun a => forall_congr' fun _ => forall_congr' fun _ => not_congr ?_)
    exact Iff.of_eq (congrArg (thresh < ·) (congrArg₂ iou (hb _) (hb _)).symm)
  unfold g5
  by_cases h : keptK m ρ c (grid1.coords t 0) k
  · rw [if_pos h]; exact h1' k (hu.mpr h)
  · rw [if_neg h]; exact h0' k fun h' => h (hu.mp h')

theorem w2_3 (c : Dev nD) : W2 m ρ c (Proc.devRef .tc main_v1_0) = (fun y : S20x1x400.Idx => g3 m ρ c (y 0) (y 2)) := by
  refine (W2_arr m ρ c 3).trans ?_
  refine (dat1 (V1 m ρ) c).arrAt_eq_of_covers 3 _ (by decide +kernel) fun t hf y => ?_
  blk_simp
  rw [after1_3]
  have hy : y = (ix3 0 0 (y 2) : S1x1x400.Idx) := (ValueIdx.eq_ix3 (n0 := 1) (n1 := 1) (n2 := 400) y).trans (by congr 1 <;> exact Subsingleton.elim (α := Fin 1) _ _)
  rw [hy]
  exact (p3 m ρ c t (y 2)).trans (congrArg (fun z : S20x1x400.Idx => g3 m ρ c (z 0) (z 2)) (at1_3 t (y 2))).symm

theorem w2_5 (c : Dev nD) : W2 m ρ c (Proc.devRef .tc main_v1_2) = (fun y : S20x1x400.Idx => g5 m ρ c (y 0) (y 2)) := by
  refine (W2_arr m ρ c 5).trans ?_
  refine (dat1 (V1 m ρ) c).arrAt_eq_of_covers 5 _ (by decide +kernel) fun t hf y => ?_
  blk_simp
  rw [after1_5]
  have hy : y = (ix3 0 0 (y 2) : S1x1x400.Idx) := (ValueIdx.eq_ix3 (n0 := 1) (n1 := 1) (n2 := 400) y).trans (by congr 1 <;> exact Subsingleton.elim (α := Fin 1) _ _)
  rw [hy]
  exact (p5 m ρ c t (y 2)).trans (congrArg (fun z : S20x1x400.Idx => g5 m ρ c (z 0) (z 2)) (at1_5 t (y 2))).symm

theorem w2_4 (c : Dev nD) : W2 m ρ c (Proc.devRef .tc main_v1_1) = (fun y : S20x400x4.Idx => g4 m ρ c (y 0) (y 1) (y 2)) := by
  refine (W2_arr m ρ c 4).trans ?_
  refine (dat1 (V1 m ρ) c).arrAt_eq_of_covers 4 _ (by decide +kernel) fun t hf y => ?_
  blk_simp
  rw [after1_4]
  have hy : y = (ix3 0 (y 1) (y 2) : S1x400x4.Idx) := (ValueIdx.eq_ix3 (n0 := 1) (n1 := 400) (n2 := 4) y).trans (by congr 1 <;> exact Subsingleton.elim (α := Fin 1) _ _)
  rw [hy]
  exact (p4 m ρ c t (y 1) (y 2)).trans (congrArg (fun z : S20x400x4.Idx => g4 m ρ c (z 0) (z 1) (z 2)) (at1_4 t (y 1) (y 2))).symm

theorem w3_2 (c : Dev nD) (f : Fin 8000) : W3 m ρ c (Proc.devRef .tc main_v2) (ix2 0 f) = g3 m ρ c (cls f) (pos f) := by
  have e : W3 m ρ c (Proc.devRef .tc main_v2) = shapeCast S1x8000 (W2 m ρ c (Proc.devRef .tc main_v1_0)) (by decide) := by
    show StableHlo.after hostOps2 (W2 m ρ c) _ = _
    after_results
    rfl
  rw [e, w2_3]
  pointwise
  rfl

theorem w3_3 (c : Dev nD) (f : Fin 8000) : W3 m ρ c (Proc.devRef .tc main_v3) (ix2 f 0) = g3 m ρ c (cls f) (pos f) := by
  have e : W3 m ρ c (Proc.devRef .tc main_v3) = shapeCast S8000x1 (W2 m ρ c (Proc.devRef .tc main_v1_0)) (by decide) := by
    show StableHlo.after hostOps2 (W2 m ρ c) _ = _
    after_results
    rfl
  rw [e, w2_3]
  pointwise
  rfl

theorem w3_4 (c : Dev nD) (f : Fin 8000) : W3 m ρ c (Proc.devRef .tc main_v4) (ix2 0 f) = g5 m ρ c (cls f) (pos f) := by
  have e : W3 m ρ c (Proc.devRef .tc main_v4) = shapeCast S1x8000 (W2 m ρ c (Proc.devRef .tc main_v1_2)) (by decide) := by
    show StableHlo.after hostOps2 (W2 m ρ c) _ = _
    after_results
    rfl
  rw [e, w2_5]
  pointwise
  rfl

theorem w3_5 (c : Dev nD) (f : Fin 8000) : W3 m ρ c (Proc.devRef .tc main_v5) (ix2 f 0) = g5 m ρ c (cls f) (pos f) := by
  have e : W3 m ρ c (Proc.devRef .tc main_v5) = shapeCast S8000x1 (W2 m ρ c (Proc.devRef .tc main_v1_2)) (by decide) := by
    show StableHlo.after hostOps2 (W2 m ρ c) _ = _
    after_results
    rfl
  rw [e, w2_5]
  pointwise
  rfl

theorem w3_6 (c : Dev nD) (f : Fin 8000) (q : Fin 4) : W3 m ρ c (Proc.devRef .tc main_v6) (ix2 f q) = g4 m ρ c (cls f) (pos f) q := by
  have e : W3 m ρ c (Proc.devRef .tc main_v6) = shapeCast S8000x4 (W2 m ρ c (Proc.devRef .tc main_v1_1)) (by decide) := by
    show StableHlo.after hostOps2 (W2 m ρ c) _ = _
    after_results
    rfl
  rw [e, w2_4]
  pointwise
  rfl

theorem id2_0 (t : Fin (cfg2 (F := Ideal)).N) (x) : (win2_0.blk t).view.emb x = x := by
  have e := (by decide +kernel : ∀ t : Fin grid2.N, win2_0.index t = ![0, 0]) t
  blk_ext [e]

theorem id2_1 (t : Fin (cfg2 (F := Ideal)).N) (x) : (win2_1.blk t).view.emb x = x := by
  have e := (by decide +kernel : ∀ t : Fin grid2.N, win2_1.index t = ![0, 0]) t
  blk_ext [e]

theorem id2_2 (t : Fin (cfg2 (F := Ideal)).N) (x) : (win2_2.blk t).view.emb x = x := by
  have e := (by decide +kernel : ∀ t : Fin grid2.N, win2_2.index t = ![0, 0]) t
  blk_ext [e]

theorem id2_3 (t : Fin (cfg2 (F := Ideal)).N) (x) : (win2_3.blk t).view.emb x = x := by
  have e := (by decide +kernel : ∀ t : Fin grid2.N, win2_3.index t = ![0, 0]) t
  blk_ext [e]

theorem id2_4 (t : Fin (cfg2 (F := Ideal)).N) (x) : (win2_4.blk t).view.emb x = x := by
  have e := (by decide +kernel : ∀ t : Fin grid2.N, win2_4.index t = ![0, 0]) t
  blk_ext [e]

theorem id2_5 (t : Fin (cfg2 (F := Ideal)).N) (x) : (win2_5.blk t).view.emb x = x := by
  have e := (by decide +kernel : ∀ t : Fin grid2.N, win2_5.index t = ![0, 0]) t
  blk_ext [e]

theorem id2_6 (t : Fin (cfg2 (F := Ideal)).N) (x) : (win2_6.blk t).view.emb x = x := by
  have e := (by decide +kernel : ∀ t : Fin grid2.N, win2_6.index t = ![0, 0]) t
  blk_ext [e]

theorem id2_7 (t : Fin (cfg2 (F := Ideal)).N) (x) : (win2_7.blk t).view.emb x = x := by
  have e := (by decide +kernel : ∀ t : Fin grid2.N, win2_7.index t = ![0, 0]) t
  blk_ext [e]

theorem b2_0 (V) (c : Dev nD) (t : Fin (cfg2 (F := Ideal)).N) : iblk2 V c 0 t = V c main_v2 := by
  funext x
  unfold iblk2
  blk_simp
  rw [id2_0]

theorem b2_1 (V) (c : Dev nD) (t : Fin (cfg2 (F := Ideal)).N) : iblk2 V c 1 t = V c main_v3 := by
  funext x
  unfold iblk2
  blk_simp
  rw [id2_1]

theorem b2_2 (V) (c : Dev nD) (t : Fin (cfg2 (F := Ideal)).N) : iblk2 V c 2 t = V c main_v4 := by
  funext x
  unfold iblk2
  blk_simp
  rw [id2_2]

theorem b2_3 (V) (c : Dev nD) (t : Fin (cfg2 (F := Ideal)).N) : iblk2 V c 3 t = V c main_v5 := by
  funext x
  unfold iblk2
  blk_simp
  rw [id2_3]

theorem b2_4 (V) (c : Dev nD) (t : Fin (cfg2 (F := Ideal)).N) : iblk2 V c 4 t = V c main_v6 := by
  funext x
  unfold iblk2
  blk_simp
  rw [id2_4]

/-- The score of candidate `f`. -/
def cs (c : Dev nD) (f : Fin 8000) : EReal := sK m ρ c (cls f) (chosen (sK m ρ c) f)
/-- The mark of candidate `f`. -/
def ck (c : Dev nD) (f : Fin 8000) : Prop := keptK m ρ c (cls f) (pos f)
/-- The candidate at place `d` of the result. -/
def sel (c : Dev nD) (d : Fin 200) : Fin 8000 := sortedFrom (ahead (cs m ρ c) (ck m ρ c)) ⟨d, by omega⟩

theorem e0 (c : Dev nD) (t : Fin (cfg2 (F := Ideal)).N) (f : Fin 8000) : iblk2 (V3 m ρ) c 0 t (ix2 0 f) = cs m ρ c f :=
  (congrFun (b2_0 _ c t) _).trans (w3_2 m ρ c f)
theorem e1 (c : Dev nD) (t : Fin (cfg2 (F := Ideal)).N) (f : Fin 8000) : iblk2 (V3 m ρ) c 1 t (ix2 f 0) = cs m ρ c f :=
  (congrFun (b2_1 _ c t) _).trans (w3_3 m ρ c f)
theorem e2 (c : Dev nD) (t : Fin (cfg2 (F := Ideal)).N) (f : Fin 8000) :
    (ck m ρ c f → iblk2 (V3 m ρ) c 2 t (ix2 0 f) = (1 : EReal)) ∧ (¬ ck m ρ c f → iblk2 (V3 m ρ) c 2 t (ix2 0 f) = (0 : EReal)) := by
  have h := (congrFun (b2_2 (V3 m ρ) c t) (ix2 0 f)).trans (w3_4 m ρ c f)
  exact ⟨fun k => h.trans (if_pos k), fun k => h.trans (if_neg k)⟩
theorem e3 (c : Dev nD) (t : Fin (cfg2 (F := Ideal)).N) (f : Fin 8000) :
    (ck m ρ c f → iblk2 (V3 m ρ) c 3 t (ix2 f 0) = (1 : EReal)) ∧ (¬ ck m ρ c f → iblk2 (V3 m ρ) c 3 t (ix2 f 0) = (0 : EReal)) := by
  have h := (congrFun (b2_3 (V3 m ρ) c t) (ix2 f 0)).trans (w3_5 m ρ c f)
  exact ⟨fun k => h.trans (if_pos k), fun k => h.trans (if_neg k)⟩
theorem e4 (c : Dev nD) (t : Fin (cfg2 (F := Ideal)).N) (f : Fin 8000) (q : Fin 4) : iblk2 (V3 m ρ) c 4 t (ix2 f q) = bK m ρ c (chosen (sK m ρ c) f) q :=
  (congrFun (b2_4 _ c t) _).trans (w3_6 m ρ c f q)

/-- The boxes of the result. -/
def r5 (c : Dev nD) (d : Fin 200) (q : Fin 4) : EReal := bK m ρ c (chosen (sK m ρ c) (sel m ρ c d)) q
/-- The scores of the result. -/
def r6 (c : Dev nD) (d : Fin 200) : EReal := if cs m ρ c (sel m ρ c d) ≤ floor30 then (⊥ : EReal) else cs m ρ c (sel m ρ c d)
/-- The labels of the result. -/
def r7 (c : Dev nD) (d : Fin 200) : BitVec 32 := BitVec.ofNat 32 ((sel m ρ c d).val / 400 + 1)

theorem o5 (c : Dev nD) (t : Fin (cfg2 (F := Ideal)).N) (d : Fin 200) (q : Fin 4) : (outsAt2 (V3 m ρ) c t).1 (ix2 d q) = r5 m ρ c d q :=
  (fin5_eq c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 (V3 m ρ) c 0 t) (iblk2 (V3 m ρ) c 1 t) (iblk2 (V3 m ρ) c 2 t) (iblk2 (V3 m ρ) c 3 t) (iblk2 (V3 m ρ) c 4 t) (cs m ρ c) (ck m ρ c) (e0 m ρ c t) (e1 m ρ c t) (e2 m ρ c t) (e3 m ρ c t) d q).trans (e4 m ρ c t _ q)

theorem o6 (c : Dev nD) (t : Fin (cfg2 (F := Ideal)).N) (d : Fin 200) : (outsAt2 (V3 m ρ) c t).2.1 (ix2 0 d) = r6 m ρ c d :=
  fin6_eq c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 (V3 m ρ) c 0 t) (iblk2 (V3 m ρ) c 1 t) (iblk2 (V3 m ρ) c 2 t) (iblk2 (V3 m ρ) c 3 t) (iblk2 (V3 m ρ) c 4 t) (cs m ρ c) (ck m ρ c) (e0 m ρ c t) (e1 m ρ c t) (e2 m ρ c t) (e3 m ρ c t) d

theorem o7 (c : Dev nD) (t : Fin (cfg2 (F := Ideal)).N) (d : Fin 200) : (outsAt2 (V3 m ρ) c t).2.2 (ix2 0 d) = r7 m ρ c d :=
  fin7_eq c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 (V3 m ρ) c 0 t) (iblk2 (V3 m ρ) c 1 t) (iblk2 (V3 m ρ) c 2 t) (iblk2 (V3 m ρ) c 3 t) (iblk2 (V3 m ρ) c 4 t) (cs m ρ c) (ck m ρ c) (e0 m ρ c t) (e1 m ρ c t) (e2 m ρ c t) (e3 m ρ c t) d

theorem w4_5 (c : Dev nD) : W4 m ρ c (Proc.devRef .tc main_v7_0) = (fun y : S200x4.Idx => r5 m ρ c (y 0) (y 1)) := by
  refine (W4_arr m ρ c 5).trans ?_
  refine (dat2 (V3 m ρ) c).arrAt_eq_of_covers 5 _ (by decide +kernel) fun t hf y => ?_
  blk_simp
  rw [after2_5]
  have hy : y = (ix2 (y 0) (y 1) : S200x4.Idx) := ValueIdx.eq_ix2 (n0 := 200) (n1 := 4) y
  rw [hy]
  exact (o5 m ρ c t (y 0) (y 1)).trans (congrArg (fun z : S200x4.Idx => r5 m ρ c (z 0) (z 1)) (id2_5 t (ix2 (y 0) (y 1)))).symm

theorem w4_6 (c : Dev nD) : W4 m ρ c (Proc.devRef .tc main_v7_1) = (fun y : S1x200.Idx => r6 m ρ c (y 1)) := by
  refine (W4_arr m ρ c 6).trans ?_
  refine (dat2 (V3 m ρ) c).arrAt_eq_of_covers 6 _ (by decide +kernel) fun t hf y => ?_
  blk_simp
  rw [after2_6]
  have hy : y = (ix2 0 (y 1) : S1x200.Idx) := (ValueIdx.eq_ix2 (n0 := 1) (n1 := 200) y).trans (by congr 1 <;> exact Subsingleton.elim (α := Fin 1) _ _)
  rw [hy]
  exact (o6 m ρ c t (y 1)).trans (congrArg (fun z : S1x200.Idx => r6 m ρ c (z 1)) (id2_6 t (ix2 0 (y 1)))).symm

theorem w4_7 (c : Dev nD) : W4 m ρ c (Proc.devRef .tc main_v7_2) = (fun y : S1x200.Idx => r7 m ρ c (y 1)) := by
  refine (W4_arr m ρ c 7).trans ?_
  refine (dat2 (V3 m ρ) c).arrAt_eq_of_covers 7 _ (by decide +kernel) fun t hf y => ?_
  blk_simp
  rw [after2_7]
  have hy : y = (ix2 0 (y 1) : S1x200.Idx) := (ValueIdx.eq_ix2 (n0 := 1) (n1 := 200) y).trans (by congr 1 <;> exact Subsingleton.elim (α := Fin 1) _ _)
  rw [hy]
  exact (o7 m ρ c t (y 1)).trans (congrArg (fun z : S1x200.Idx => r7 m ρ c (z 1)) (id2_7 t (ix2 0 (y 1)))).symm

/-- The kernel's boxes. -/
theorem kernel_boxes (c : Dev nD) (d : Fin 200) (q : Fin 4) : W5 m ρ c (Proc.devRef .tc main_v7_0) (ix2 d q) = r5 m ρ c d q :=
  (congrFun (W5_of m ρ c main_v7_0 (by decide)) (ix2 d q)).trans (congrFun (w4_5 m ρ c) (ix2 d q))

/-- The kernel's scores. -/
theorem kernel_scores (c : Dev nD) (d : Fin 200) : W5 m ρ c (Proc.devRef .tc main_v8) (ix1 d) = r6 m ρ c d := by
  have e : W5 m ρ c (Proc.devRef .tc main_v8) = shapeCast S200 (W4 m ρ c (Proc.devRef .tc main_v7_1)) (by decide) := by
    show StableHlo.after hostOps3 (W4 m ρ c) _ = _
    after_results
    rfl
  rw [e, w4_6]
  pointwise

/-- The kernel's labels. -/
theorem kernel_labels (c : Dev nD) (d : Fin 200) : W5 m ρ c (Proc.devRef .tc main_v9) (ix1 d) = r7 m ρ c d := by
  have e : W5 m ρ c (Proc.devRef .tc main_v9) = shapeCast S200 (W4 m ρ c (Proc.devRef .tc main_v7_2)) (by decide) := by
    show StableHlo.after hostOps3 (W4 m ρ c) _ = _
    after_results
    rfl
  rw [e, w4_7]
  pointwise

end Cert.Proof.KRun
end
end
-- ==== Proof.RefOps.lean ====
module

public import proofs.«01_k».proof.Proof.RRun
public import Idealize.ShloMosaic.Lib.Pointwise
public import Idealize.ShloMosaic.Lib.IdealHost
public import Idealize.ShloMosaic.Lib.Routing.Ops
public import Idealize.ShloMosaic.Lib.Routing.OpsSet
public import proofs.«01_k».proof.Proof.Words
public import proofs.«01_k».proof.Proof.Spec

@[expose] public section

set_option maxRecDepth 16384
noncomputable section
namespace Cert.Proof.RefOps
open Cert.ReferenceIdeal Cert.ReferenceIdeal.Gen Idealize.ShloMosaic Idealize.ShloMosaic.Tactic
open Cert.Proof.SortMath Cert.Proof.Words

/-! The plain program's sorts and takes, read at an index. -/

theorem gt_total (a b : Ideal .f32) : (FloatOps.cmpfTotal (F := Ideal) (φ := .f32) CmpDirection.gt a b == 1#1) = decide ((b : EReal) < a) := by
  show (BitVec.ofBool (decide ((b : EReal) < a)) == 1#1) = _
  by_cases h : (b : EReal) < a <;> simp [h]

theorem comparator_eq (l r : Ideal .f32 × BitVec 32) : (comparator_f32_i32_d0 (F := Ideal) l r == 1#1) = decide ((l.1 : EReal) < r.1) := by
  have hz : ∀ x : EReal, Scalar.select (Ideal.cmp .une x x) (Ideal.ofBits .f32 0x7FC00000#32) (Scalar.select (Ideal.cmp .oeq x (Ideal.ofBits .f32 0#32)) (Ideal.ofBits .f32 0#32) x) = x := by
    intro x
    have h1 : Ideal.cmp .une x x = BitVec.ofBool (decide (x ≠ x)) := rfl
    have h2 : Ideal.cmp .oeq x (Ideal.ofBits .f32 0#32) = BitVec.ofBool (decide (x = Ideal.ofBits .f32 0#32)) := rfl
    rw [h1, h2, select_bit, select_bit, if_neg (by simp)]
    split_ifs with h
    · exact h.symm
    · rfl
  have : comparator_f32_i32_d0 (F := Ideal) l r = BitVec.ofBool (decide ((l.1 : EReal) < r.1)) := by
    show Ideal.cmp .olt (Scalar.select _ _ (Scalar.select _ _ _)) (Scalar.select _ _ (Scalar.select _ _ _)) = _
    exact congrArg₂ (Ideal.cmp .olt) (hz l.1) (hz r.1)
  rw [this]
  by_cases h : (l.1 : EReal) < r.1 <;> simp [h]

/-- A sort of two vectors read at an index: both are permuted by the sort of the places. -/
theorem sort2_at (s : Shape) (d : ℕ) (hd : d < s.rank) {α β : Type} (cmp : α × β → α × β → BitVec 1) (x : s.Idx → α) (y : s.Idx → β) (j : s.Idx) :
    (Host.sort2 s d cmp x y).1 j = x (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩)))
    ∧ (Host.sort2 s d cmp x y).2 j = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]
  exact ⟨rfl, rfl⟩

theorem along2 (j : Fin 20) (r k : Fin 5000) (hd : 1 < S20x5000.rank) : (ix2 j r : S20x5000.Idx).along (⟨1, hd⟩ : Fin S20x5000.rank) k = ix2 j k := by
  funext a
  match a with
  | ⟨0, _⟩ => rfl
  | ⟨1, _⟩ => rfl

theorem along1 (r k : Fin 8000) (hd : 0 < S8000.rank) : (ix1 r : S8000.Idx).along (⟨0, hd⟩ : Fin S8000.rank) k = ix1 k := by
  funext a
  match a with
  | ⟨0, _⟩ => rfl

theorem sorted2 {β : Type} (x : FVec Ideal S20x5000 .f32) (y : S20x5000.Idx → β) (j : Fin 20) (r : Fin 5000) (hd : 1 < S20x5000.rank) :
    (Host.sort2 S20x5000 1 (fun l r => FloatOps.cmpfTotal (F := Ideal) (φ := .f32) CmpDirection.gt l.1 r.1) x y).1 (ix2 j r)
        = x (ix2 j (sortedFrom (desc fun i => x (ix2 j i)) r))
      ∧ (Host.sort2 S20x5000 1 (fun l r => FloatOps.cmpfTotal (F := Ideal) (φ := .f32) CmpDirection.gt l.1 r.1) x y).2 (ix2 j r)
        = y (ix2 j (sortedFrom (desc fun i => x (ix2 j i)) r)) := by
  have hB : (fun k k' : Fin 5000 => FloatOps.cmpfTotal (F := Ideal) (φ := .f32) CmpDirection.gt (x ((ix2 j r : S20x5000.Idx).along (⟨1, hd⟩ : Fin S20x5000.rank) k))
      (x ((ix2 j r : S20x5000.Idx).along (⟨1, hd⟩ : Fin S20x5000.rank) k')) == 1#1) = fun a b : Fin 5000 => decide ((x (ix2 j b) : EReal) < x (ix2 j a)) := by
    funext k k'
    rw [along2, along2]
    exact gt_total _ _
  have e : sortedFrom (fun k k' : Fin 5000 => FloatOps.cmpfTotal (F := Ideal) (φ := .f32) CmpDirection.gt (x ((ix2 j r : S20x5000.Idx).along (⟨1, hd⟩ : Fin S20x5000.rank) k))
      (x ((ix2 j r : S20x5000.Idx).along (⟨1, hd⟩ : Fin S20x5000.rank) k')) == 1#1) r = sortedFrom (desc fun i => x (ix2 j i)) r :=
    (congrArg (fun B => sortedFrom B r) hB).trans (congrFun (sortedFrom_key fun i => (x (ix2 j i) : EReal)) r)
  obtain ⟨h1, h2⟩ := sort2_at S20x5000 1 hd (fun l r => FloatOps.cmpfTotal (F := Ideal) (φ := .f32) CmpDirection.gt l.1 r.1) x y (ix2 j r)
  constructor
  · refine h1.trans (congrArg x ((along2 _ _ _ _).trans (congrArg (fun k => (ix2 j k : S20x5000.Idx)) e)))
  · refine h2.trans (congrArg y ((along2 _ _ _ _).trans (congrArg (fun k => (ix2 j k : S20x5000.Idx)) e)))

/-- A stable take of the greatest entries is the front of the sort. -/
theorem topK_def {s : Shape} (t : Shape) (d : ℕ) {α : Type} (gt : α → α → BitVec 1) (x : s.Idx → α) (h : s.Slices (fun _ => 0) t) :
    Host.topK t d gt x h = (extractStridedSlice t (fun _ => 0) (Host.sort2 s d (fun l r => gt l.1 r.1) x (fun i => if hd : d < s.rank then iotaInDim s 32 ⟨d, hd⟩ i else 0#32)).1 h,
      extractStridedSlice t (fun _ => 0) (Host.sort2 s d (fun l r => gt l.1 r.1) x (fun i => if hd : d < s.rank then iotaInDim s 32 ⟨d, hd⟩ i else 0#32)).2 h) := rfl

theorem front2 {α : Type} (v : S20x5000.Idx → α) (j : Fin 20) (r : Fin 400) :
    extractStridedSlice S20x400 (fun _ => 0) v sliceFits_S20x5000_S20x400 (ix2 j r) = v (ix2 j ⟨r, by omega⟩) := by
  refine congrArg v (funext fun a => Fin.ext ?_)
  match a with
  | ⟨0, _⟩ => exact Nat.zero_add _
  | ⟨1, _⟩ => exact Nat.zero_add _

theorem front1 {α : Type} (v : S8000.Idx → α) (r : Fin 200) :
    extractStridedSlice S200 (fun _ => 0) v sliceFits_S8000_S200 (ix1 r) = v (ix1 ⟨r, by omega⟩) := by
  refine congrArg v (funext fun a => Fin.ext ?_)
  match a with
  | ⟨0, _⟩ => exact Nat.zero_add _

/-- The places a take along the rows of the score table chooses. -/
theorem top2_eq (x : FVec Ideal S20x5000 .f32) (j : Fin 20) (r : Fin 400) :
    (Host.topK S20x400 1 (FloatOps.cmpfTotal CmpDirection.gt) x sliceFits_S20x5000_S20x400).1 (ix2 j r)
        = x (ix2 j (sortedFrom (desc fun i => x (ix2 j i)) ⟨r, by omega⟩))
      ∧ (Host.topK S20x400 1 (FloatOps.cmpfTotal CmpDirection.gt) x sliceFits_S20x5000_S20x400).2 (ix2 j r)
        = BitVec.ofNat 32 (sortedFrom (desc fun i => x (ix2 j i)) ⟨r, by omega⟩) := by
  have hd : (1 : ℕ) < S20x5000.rank := by decide
  obtain ⟨h1, h2⟩ := sorted2 x (fun i => if hd : 1 < S20x5000.rank then iotaInDim S20x5000 32 ⟨1, hd⟩ i else 0#32) j ⟨r, by omega⟩ hd
  rw [topK_def]
  constructor
  · exact (front2 _ j r).trans h1
  · exact (front2 _ j r).trans (h2.trans (dif_pos hd))

/-- The places a take along a vector chooses. -/
theorem top1_idx (x : FVec Ideal S8000 .f32) (r : Fin 200) :
    (Host.topK S200 0 (FloatOps.cmpfTotal CmpDirection.gt) x sliceFits_S8000_S200).2 (ix1 r)
      = BitVec.ofNat 32 (sortedFrom (desc fun i => x (ix1 i)) ⟨r, by omega⟩) := by
  have hd : (0 : ℕ) < S8000.rank := by decide
  have hB : (fun k k' : Fin 8000 => FloatOps.cmpfTotal (F := Ideal) (φ := .f32) CmpDirection.gt (x ((ix1 ⟨r, by omega⟩ : S8000.Idx).along (⟨0, hd⟩ : Fin S8000.rank) k))
      (x ((ix1 ⟨r, by omega⟩ : S8000.Idx).along (⟨0, hd⟩ : Fin S8000.rank) k')) == 1#1) = fun a b : Fin 8000 => decide ((x (ix1 b) : EReal) < x (ix1 a)) := by
    funext k k'
    rw [along1, along1]
    exact gt_total _ _
  have e := (congrArg (fun B => sortedFrom B (⟨r, by omega⟩ : Fin 8000)) hB).trans (congrFun (sortedFrom_key fun i => (x (ix1 i) : EReal)) _)
  obtain ⟨-, h2⟩ := sort2_at S8000 0 hd (fun l r => FloatOps.cmpfTotal (F := Ideal) (φ := .f32) CmpDirection.gt l.1 r.1) x
    (fun i => if hd : 0 < S8000.rank then iotaInDim S8000 32 ⟨0, hd⟩ i else 0#32) (ix1 ⟨r, by omega⟩)
  rw [topK_def]
  refine (front1 _ r).trans (h2.trans ((dif_pos hd).trans ?_))
  exact (congrArg (iotaInDim S8000 32 ⟨0, hd⟩) (along1 _ _ _)).trans (congrArg (fun k : Fin 8000 => BitVec.ofNat 32 k.val) e)

/-- The ascending sort of the negated scores, read as places in descending order of score. -/
theorem argsort_eq (x s : FVec Ideal S8000 .f32) (hx : ∀ i, x (ix1 i) = -(s (ix1 i) : EReal)) (p : Fin 8000) :
    (Host.sort2 S8000 0 comparator_f32_i32_d0 x (iotaInDim S8000 32 0)).2 (ix1 p)
      = BitVec.ofNat 32 (sortedFrom (desc fun i => (s (ix1 i) : EReal)) p) := by
  have hd : (0 : ℕ) < S8000.rank := by decide
  have hB : (fun k k' : Fin 8000 => comparator_f32_i32_d0 (F := Ideal)
        (x ((ix1 p : S8000.Idx).along (⟨0, hd⟩ : Fin S8000.rank) k), iotaInDim S8000 32 0 ((ix1 p : S8000.Idx).along (⟨0, hd⟩ : Fin S8000.rank) k))
        (x ((ix1 p : S8000.Idx).along (⟨0, hd⟩ : Fin S8000.rank) k'), iotaInDim S8000 32 0 ((ix1 p : S8000.Idx).along (⟨0, hd⟩ : Fin S8000.rank) k')) == 1#1)
      = fun a b : Fin 8000 => decide ((s (ix1 b) : EReal) < s (ix1 a)) := by
    funext k k'
    rw [comparator_eq, along1, along1, decide_eq_decide]
    show (x (ix1 k) : EReal) < x (ix1 k') ↔ _
    rw [hx, hx]
    exact EReal.neg_lt_neg_iff
  have e := (congrArg (fun B => sortedFrom B p) hB).trans (congrFun (sortedFrom_key fun i => (s (ix1 i) : EReal)) _)
  obtain ⟨-, h2⟩ := sort2_at S8000 0 hd (comparator_f32_i32_d0 (F := Ideal)) x (iotaInDim S8000 32 0) (ix1 p)
  exact h2.trans ((congrArg (iotaInDim S8000 32 ⟨0, hd⟩) (along1 _ _ _)).trans (congrArg (fun k : Fin 8000 => BitVec.ofNat 32 k.val) e))

/-- A take of rows at a two-axis table of row numbers. -/
theorem gather3 {α : Type} (x : S5000x4.Idx → α) (idx : IVec S20x400x1 32) (j : Fin 20) (r : Fin 400) (q : Fin 4) (b : Fin 5000)
    (hb : idx (ix3 j r 0) = BitVec.ofNat 32 b.val) :
    Host.gather gather_S5000x4_S20x400x1_S20x400x4_2_0_n_n_0_2_14 x idx (ix3 j r q) = x (ix2 b q) := by
  unfold Host.gather
  refine congrArg x (funext fun a => Fin.ext ?_)
  have hb' := b.isLt
  match a with
  | ⟨0, _⟩ =>
    have hs : gather_S5000x4_S20x400x1_S20x400x4_2_0_n_n_0_2_14.start (ix3 j r q) idx 0 = min (idx (ix3 j r 0)).toInt.toNat 4999 := by
      unfold GatherDims.start
      rw [dif_pos (by decide)]
      have : gather_S5000x4_S20x400x1_S20x400x4_2_0_n_n_0_2_14.siIdx (ix3 j r q) ⟨0, by decide⟩ = ix3 j r 0 := by
        funext b'
        match b' with
        | ⟨0, _⟩ => rfl
        | ⟨1, _⟩ => rfl
        | ⟨2, _⟩ => rfl
      exact congrArg (fun i => min (idx i).toInt.toNat 4999) this
    show gather_S5000x4_S20x400x1_S20x400x4_2_0_n_n_0_2_14.start (ix3 j r q) idx 0 + GatherDims.batchCoord _ _ _ + GatherDims.offCoord _ _ _ = b.val
    rw [hs, GatherDims.batchCoord_eq_zero _ _ _ List.not_mem_nil, GatherDims.offCoord_eq_zero _ _ _ (fun h => ((GatherDims.mem_sKept _ _).mp h).1 (List.mem_singleton.mpr rfl)), hb, toInt_small (by omega)]
    omega
  | ⟨1, _⟩ =>
    show GatherDims.start _ _ idx 1 + GatherDims.batchCoord _ _ _ + GatherDims.offCoord _ _ _ = q.val
    rw [GatherDims.batchCoord_eq_zero _ _ _ List.not_mem_nil]
    have h0 : gather_S5000x4_S20x400x1_S20x400x4_2_0_n_n_0_2_14.start (ix3 j r q) idx 1 = 0 := by
      unfold GatherDims.start
      exact dif_neg (by decide)
    have h1 : gather_S5000x4_S20x400x1_S20x400x4_2_0_n_n_0_2_14.offCoord (ix3 j r q) 1 = q.val := by
      unfold GatherDims.offCoord
      exact (dif_pos (by decide)).trans rfl
    exact (congrArg₂ (fun a b => a + 0 + b) h0 h1).trans (by omega)

/-- A word that holds a small count is not negative: the wrap of negative positions does nothing. -/
theorem wrap_small {a : ℕ} (h : a < 2 ^ 31) (n : BitVec 32) :
    Scalar.select (IntOp.cmpi .slt (BitVec.ofNat 32 a) (0#32)) (IntOp.addi (BitVec.ofNat 32 a) n) (BitVec.ofNat 32 a) = BitVec.ofNat 32 a := by
  rw [show (0#32) = BitVec.ofNat 32 0 from rfl, slt_small h (by norm_num), select_bit, if_neg (by omega)]

/-- The take of rows with wrapped row numbers. -/
theorem gather3_wrap {α : Type} (x : S5000x4.Idx → α) (t : IVec S20x400 32) (j : Fin 20) (r : Fin 400) (q : Fin 4) (b : Fin 5000)
    (hb : t (ix2 j r) = BitVec.ofNat 32 b.val) :
    Host.gather gather_S5000x4_S20x400x1_S20x400x4_2_0_n_n_0_2_14 x
      (broadcastInDim S20x400x1 ![0,1] bcast_S20x400_S20x400x1_0_1 (select (cmpi .slt t (broadcastInDim S20x400 ![] bcast_S_S20x400 (constantI S_ 32 0#32)))
        (addi t (broadcastInDim S20x400 ![] bcast_S_S20x400 (constantI S_ 32 5000#32))) t)) (ix3 j r q) = x (ix2 b q) := by
  refine gather3 x _ j r q b ?_
  pointwise []
  rw [hb]
  exact wrap_small (by omega) _

/-- The wrapped numbers of a vector of small numbers, as a column. -/
theorem wrap8 (t : IVec S8000 32) (p : Fin 8000) (b : Fin 8000) (hb : t (ix1 p) = BitVec.ofNat 32 b.val) :
    broadcastInDim S8000x1 ![0] bcast_S8000_S8000x1_0 (select (cmpi .slt t (broadcastInDim S8000 ![] bcast_S_S8000 (constantI S_ 32 0#32)))
        (addi t (broadcastInDim S8000 ![] bcast_S_S8000 (constantI S_ 32 8000#32))) t) (ix2 p (0 : Fin 1)) = BitVec.ofNat 32 b.val := by
  pointwise []
  rw [hb]
  exact wrap_small (by omega) _

theorem wrap2 (t : IVec S200 32) (p : Fin 200) (b : Fin 8000) (hb : t (ix1 p) = BitVec.ofNat 32 b.val) :
    broadcastInDim S200x1 ![0] bcast_S200_S200x1_0 (select (cmpi .slt t (broadcastInDim S200 ![] bcast_S_S200 (constantI S_ 32 0#32)))
        (addi t (broadcastInDim S200 ![] bcast_S_S200 (constantI S_ 32 8000#32))) t) (ix2 p (0 : Fin 1)) = BitVec.ofNat 32 b.val := by
  pointwise []
  rw [hb]
  exact wrap_small (by omega) _

theorem take8 {α : Type} (x : S8000.Idx → α) (t : IVec S8000 32) (p b : Fin 8000) (hb : t (ix1 p) = BitVec.ofNat 32 b.val) :
    Host.gather gather_S8000_S8000x1_S8000_n_0_n_n_0_1_1 x (broadcastInDim S8000x1 ![0] bcast_S8000_S8000x1_0 (select (cmpi .slt t (broadcastInDim S8000 ![] bcast_S_S8000 (constantI S_ 32 0#32)))
        (addi t (broadcastInDim S8000 ![] bcast_S_S8000 (constantI S_ 32 8000#32))) t)) (ix1 p) = x (ix1 b) :=
  Routing.gather_take1 gather_S8000_S8000x1_S8000_n_0_n_n_0_1_1 rfl rfl rfl rfl x _ p b (wrap8 t p b hb) (by norm_num)

theorem take8x4 {α : Type} (x : S8000x4.Idx → α) (t : IVec S8000 32) (p b : Fin 8000) (q : Fin 4) (hb : t (ix1 p) = BitVec.ofNat 32 b.val) :
    Host.gather gather_S8000x4_S8000x1_S8000x4_1_0_n_n_0_1_14 x (broadcastInDim S8000x1 ![0] bcast_S8000_S8000x1_0 (select (cmpi .slt t (broadcastInDim S8000 ![] bcast_S_S8000 (constantI S_ 32 0#32)))
        (addi t (broadcastInDim S8000 ![] bcast_S_S8000 (constantI S_ 32 8000#32))) t)) (ix2 p q) = x (ix2 b q) :=
  Routing.gather_row gather_S8000x4_S8000x1_S8000x4_1_0_n_n_0_1_14 rfl rfl rfl rfl rfl x _ p q b (wrap8 t p b hb) (by norm_num)

theorem take2 {α : Type} (x : S8000.Idx → α) (t : IVec S200 32) (p : Fin 200) (b : Fin 8000) (hb : t (ix1 p) = BitVec.ofNat 32 b.val) :
    Host.gather gather_S8000_S200x1_S200_n_0_n_n_0_1_1 x (broadcastInDim S200x1 ![0] bcast_S200_S200x1_0 (select (cmpi .slt t (broadcastInDim S200 ![] bcast_S_S200 (constantI S_ 32 0#32)))
        (addi t (broadcastInDim S200 ![] bcast_S_S200 (constantI S_ 32 8000#32))) t)) (ix1 p) = x (ix1 b) :=
  Routing.gather_take1 gather_S8000_S200x1_S200_n_0_n_n_0_1_1 rfl rfl rfl rfl x _ p b (wrap2 t p b hb) (by norm_num)

theorem take2x4 {α : Type} (x : S8000x4.Idx → α) (t : IVec S200 32) (p : Fin 200) (b : Fin 8000) (q : Fin 4) (hb : t (ix1 p) = BitVec.ofNat 32 b.val) :
    Host.gather gather_S8000x4_S200x1_S200x4_1_0_n_n_0_1_14 x (broadcastInDim S200x1 ![0] bcast_S200_S200x1_0 (select (cmpi .slt t (broadcastInDim S200 ![] bcast_S_S200 (constantI S_ 32 0#32)))
        (addi t (broadcastInDim S200 ![] bcast_S_S200 (constantI S_ 32 8000#32))) t)) (ix2 p q) = x (ix2 b q) :=
  Routing.gather_row gather_S8000x4_S200x1_S200x4_1_0_n_n_0_1_14 rfl rfl rfl rfl rfl x _ p q b (wrap2 t p b hb) (by norm_num)

end Cert.Proof.RefOps
end
end
-- ==== Proof.RefPrep.lean ====
module

public import proofs.«01_k».proof.Proof.RRun
public import Idealize.ShloMosaic.Lib.Pointwise
public import Idealize.ShloMosaic.Lib.StableHlo.ReadAt
public import Idealize.ShloMosaic.Lib.IdealHost
public import proofs.«01_k».proof.Proof.Words
public import proofs.«01_k».proof.Proof.Spec

@[expose] public section

set_option maxRecDepth 16384
noncomputable section
namespace Cert.Proof.RRun
open Cert.ReferenceIdeal Cert.ReferenceIdeal.Gen Cert.ReferenceIdeal.Value
open Idealize.ShloMosaic Idealize.ShloMosaic.TcCoe Idealize.ShloMosaic.Tactic Idealize.ShloMosaic.StableHlo

variable (m : (ℓ : Loc nD τ sig) → Buf (Elt Ideal) ℓ)

open Cert.Proof.Words Cert.Proof.Spec

/-! The plain program's candidate scores and clipped boxes. -/

/-- The logits of anchor `i`. -/
def lg (c : Dev nD) (i : Fin 5000) : Fin 21 → EReal := fun k => A0 m c (Proc.devRef .tc main_arg1) (ix2 i k)
/-- The regression codes of anchor `i`. -/
def rg (c : Dev nD) (i : Fin 5000) : Fin 4 → EReal := fun k => A0 m c (Proc.devRef .tc main_arg0) (ix2 i k)
/-- The corners of anchor `i`. -/
def an (c : Dev nD) (i : Fin 5000) : Fin 4 → EReal := fun k => A0 m c (Proc.devRef .tc main_arg2) (ix2 i k)

theorem v10_eq (c : Dev nD) (i : Fin 5000) (j : Fin 20) : A1 m c (Proc.devRef .tc main_v10) (ix2 i ⟨1 + j, by omega⟩) = prob (lg m c i) j := by
  unfold A1
  after_reads_at
  rw [show ∀ x : EReal, max (Ideal.ofBits FTy.f32 4286578688#32) x = x from fun x => by rw [bits_bot]; exact max_eq_right bot_le]
  rfl

theorem v75_q0 (c : Dev nD) (i : Fin 5000) : A1 m c (Proc.devRef .tc main_v75) (ix2 i (0 : Fin 4)) = raw (rg m c i) (an m c i) 0 := by
  unfold A1
  after_reads_at
  after_reads_at
  rfl

theorem v75_q1 (c : Dev nD) (i : Fin 5000) : A1 m c (Proc.devRef .tc main_v75) (ix2 i (1 : Fin 4)) = raw (rg m c i) (an m c i) 1 := by
  unfold A1
  after_reads_at
  after_reads_at
  rfl

theorem v75_q2 (c : Dev nD) (i : Fin 5000) : A1 m c (Proc.devRef .tc main_v75) (ix2 i (2 : Fin 4)) = raw (rg m c i) (an m c i) 2 := by
  unfold A1
  after_reads_at
  after_reads_at
  rfl

theorem v75_q3 (c : Dev nD) (i : Fin 5000) : A1 m c (Proc.devRef .tc main_v75) (ix2 i (3 : Fin 4)) = raw (rg m c i) (an m c i) 3 := by
  unfold A1
  after_reads_at
  after_reads_at
  rfl

theorem pre_0 (c : Dev nD) (i : Fin 5000) : A1 m c (Proc.devRef .tc main_v77) (ix1 i) = raw (rg m c i) (an m c i) 0 := by
  unfold A1
  after_reads_at
  after_reads_at
  rfl

theorem clip_0 (c : Dev nD) (i : Fin 5000) : A2 m c (Proc.devRef .tc main_v78) (ix1 i) = box (rg m c i) (an m c i) 0 := by
  have h0 : A1 m c (Proc.devRef .tc main_cst_14) ix0 = (0 : EReal) := by
    unfold A1
    after_reads_at
    done
  have h1 : A1 m c (Proc.devRef .tc main_cst_15) ix0 = Ideal.ofBits .f32 1134559232#32 := by
    unfold A1
    after_reads_at
    done
  unfold A2
  after_reads_at
  simp only [id]
  rw [h0, h1, pre_0]
  rfl

theorem pre_1 (c : Dev nD) (i : Fin 5000) : A3 m c (Proc.devRef .tc main_v80) (ix1 i) = raw (rg m c i) (an m c i) 1 := by
  rw [← v75_q1]
  unfold A3
  after_reads_at
  simp only [A2_of m c main_v75 (by decide)]

theorem clip_1 (c : Dev nD) (i : Fin 5000) : A4 m c (Proc.devRef .tc main_v81) (ix1 i) = box (rg m c i) (an m c i) 1 := by
  have h0 : A3 m c (Proc.devRef .tc main_cst_16) ix0 = (0 : EReal) := by
    unfold A3
    after_reads_at
    done
  have h1 : A3 m c (Proc.devRef .tc main_cst_17) ix0 = Ideal.ofBits .f32 1134559232#32 := by
    unfold A3
    after_reads_at
    done
  unfold A4
  after_reads_at
  simp only [id]
  rw [h0, h1, pre_1]
  rfl

theorem pre_2 (c : Dev nD) (i : Fin 5000) : A5 m c (Proc.devRef .tc main_v83) (ix1 i) = raw (rg m c i) (an m c i) 2 := by
  rw [← v75_q2]
  unfold A5
  after_reads_at
  simp only [A4_of m c main_v75 (by decide), A3_of m c main_v75 (by decide), A2_of m c main_v75 (by decide)]

theorem clip_2 (c : Dev nD) (i : Fin 5000) : A6 m c (Proc.devRef .tc main_v84) (ix1 i) = box (rg m c i) (an m c i) 2 := by
  have h0 : A5 m c (Proc.devRef .tc main_cst_18) ix0 = (0 : EReal) := by
    unfold A5
    after_reads_at
    done
  have h1 : A5 m c (Proc.devRef .tc main_cst_19) ix0 = Ideal.ofBits .f32 1134559232#32 := by
    unfold A5
    after_reads_at
    done
  unfold A6
  after_reads_at
  simp only [id]
  rw [h0, h1, pre_2]
  rfl

theorem pre_3 (c : Dev nD) (i : Fin 5000) : A7 m c (Proc.devRef .tc main_v86) (ix1 i) = raw (rg m c i) (an m c i) 3 := by
  rw [← v75_q3]
  unfold A7
  after_reads_at
  simp only [A6_of m c main_v75 (by decide), A5_of m c main_v75 (by decide), A4_of m c main_v75 (by decide), A3_of m c main_v75 (by decide), A2_of m c main_v75 (by decide)]

theorem clip_3 (c : Dev nD) (i : Fin 5000) : A8 m c (Proc.devRef .tc main_v87) (ix1 i) = box (rg m c i) (an m c i) 3 := by
  have h0 : A7 m c (Proc.devRef .tc main_cst_20) ix0 = (0 : EReal) := by
    unfold A7
    after_reads_at
    done
  have h1 : A7 m c (Proc.devRef .tc main_cst_21) ix0 = Ideal.ofBits .f32 1134559232#32 := by
    unfold A7
    after_reads_at
    done
  unfold A8
  after_reads_at
  simp only [id]
  rw [h0, h1, pre_3]
  rfl

theorem v92_eq (c : Dev nD) (i : Fin 5000) (q : Fin 4) : A9 m c (Proc.devRef .tc main_v92) (ix2 i q) = box (rg m c i) (an m c i) q := by
  have h0 : A8 m c (Proc.devRef .tc main_v78) (ix1 i) = box (rg m c i) (an m c i) 0 := by
    rw [← clip_0]
    rw [A8_of m c main_v78 (by decide), A7_of m c main_v78 (by decide), A6_of m c main_v78 (by decide), A5_of m c main_v78 (by decide), A4_of m c main_v78 (by decide), A3_of m c main_v78 (by decide)]
  have h1 : A8 m c (Proc.devRef .tc main_v81) (ix1 i) = box (rg m c i) (an m c i) 1 := by
    rw [← clip_1]
    rw [A8_of m c main_v81 (by decide), A7_of m c main_v81 (by decide), A6_of m c main_v81 (by decide), A5_of m c main_v81 (by decide)]
  have h2 : A8 m c (Proc.devRef .tc main_v84) (ix1 i) = box (rg m c i) (an m c i) 2 := by
    rw [← clip_2]
    rw [A8_of m c main_v84 (by decide), A7_of m c main_v84 (by decide)]
  have h3 : A8 m c (Proc.devRef .tc main_v87) (ix1 i) = box (rg m c i) (an m c i) 3 := by
    rw [← clip_3]
  unfold A9
  after_reads_at
  after_reads_at
  fin_cases q
  · exact h0
  · exact h1
  · exact h2
  · exact h3

theorem v97_eq (c : Dev nD) (i : Fin 5000) (j : Fin 20) : A10 m c (Proc.devRef .tc main_v97) (ix2 j i) = scoreR (lg m c i) j := by
  have h23 : A9 m c (Proc.devRef .tc main_cst_23) ix0 = (⊥ : EReal) := by
    unfold A9
    after_reads_at
    exact bits_bot
  have h94 : A9 m c (Proc.devRef .tc main_v94) (ix2 j i) = prob (lg m c i) j := by
    rw [← v10_eq]
    unfold A9
    after_reads_at
    simp only [A8_of m c main_v10 (by decide), A7_of m c main_v10 (by decide), A6_of m c main_v10 (by decide), A5_of m c main_v10 (by decide), A4_of m c main_v10 (by decide), A3_of m c main_v10 (by decide), A2_of m c main_v10 (by decide)]
  have h96 : A9 m c (Proc.devRef .tc main_v96) (ix2 j i) = BitVec.ofBool (decide (lowest < prob (lg m c i) j)) := by
    rw [← v10_eq]
    unfold A9
    after_reads_at
    simp only [A8_of m c main_v10 (by decide), A7_of m c main_v10 (by decide), A6_of m c main_v10 (by decide), A5_of m c main_v10 (by decide), A4_of m c main_v10 (by decide), A3_of m c main_v10 (by decide), A2_of m c main_v10 (by decide)]
    rfl
  unfold A10
  after_reads_at
  rw [h94, h96, select_bit]
  simp only [id, h23]
  rfl

end Cert.Proof.RRun
end
end
-- ==== Proof.RefTop.lean ====
module

public import proofs.«01_k».proof.Proof.RRun
public import Idealize.ShloMosaic.Lib.Pointwise
public import Idealize.ShloMosaic.Lib.StableHlo.ReadAt
public import Idealize.ShloMosaic.Lib.IdealHost
public import proofs.«01_k».proof.Proof.RefOps
public import proofs.«01_k».proof.Proof.RefPrep
public import proofs.«01_k».proof.Proof.Rows

@[expose] public section

set_option maxRecDepth 16384
noncomputable section
namespace Cert.Proof.RRun
open Cert.ReferenceIdeal Cert.ReferenceIdeal.Gen Cert.ReferenceIdeal.Value
open Idealize.ShloMosaic Idealize.ShloMosaic.TcCoe Idealize.ShloMosaic.Tactic Idealize.ShloMosaic.StableHlo

attribute [local irreducible] A9 A10 A11 A12 A13 B C1 C2 sortedFrom

variable (m : (ℓ : Loc nD τ sig) → Buf (Elt Ideal) ℓ)

open Cert.Proof.SortMath Cert.Proof.Words Cert.Proof.Spec Cert.Proof.NmsMath Cert.Proof.RefOps Cert.Proof.Rows

/-- The score of anchor `i` for class `j`. -/
def sR (c : Dev nD) (j : Fin 20) (i : Fin 5000) : EReal := scoreR (lg m c i) j
/-- The score of candidate `f`. -/
def sc (c : Dev nD) (f : Fin 8000) : EReal := sR m c (cls f) (chosen (sR m c) f)
/-- The box of candidate `f`. -/
def bx (c : Dev nD) (f : Fin 8000) (q : Fin 4) : EReal := box (rg m c (chosen (sR m c) f)) (an m c (chosen (sR m c) f)) q

theorem row_s (c : Dev nD) (j : Fin 20) : (desc fun i => A10 m c (Proc.devRef .tc main_v97) (ix2 j i) : Fin 5000 → Fin 5000 → Bool) = desc (sR m c j) :=
  congrArg desc (funext fun i => v97_eq m c i j)

theorem v110_eq (c : Dev nD) (f : Fin 8000) : A11 m c (Proc.devRef .tc main_v110) (ix1 f) = sc m c f := by
  unfold A11
  after_reads_at
  exact ((top2_eq (A10 m c (Proc.devRef .tc main_v97)) (cls f) (pos f)).1.trans (v97_eq m c _ _)).trans
    (congrArg (fun B => sR m c (cls f) (sortedFrom B ⟨pos f, _⟩)) (row_s m c (cls f)))

theorem v111_eq (c : Dev nD) (f : Fin 8000) (q : Fin 4) : A11 m c (Proc.devRef .tc main_v111) (ix2 f q) = bx m c f q := by
  unfold A11
  after_reads_at
  have hi := (top2_eq (A10 m c (Proc.devRef .tc main_v97)) (cls f) (pos f)).2
  rw [row_s] at hi
  refine (gather3_wrap _ _ (cls f) (pos f) q (chosen (sR m c) f) hi).trans ?_
  rw [A10_of m c main_v92 (by decide)]
  exact v92_eq m c _ q

theorem v112_eq (c : Dev nD) (f : Fin 8000) : A11 m c (Proc.devRef .tc main_v112) (ix1 f) = BitVec.ofNat 32 (f / 400 + 1) := by
  unfold A11
  after_reads_at
  show 1#32 + BitVec.ofNat 32 (f / 400) = _
  rw [show (1#32) = BitVec.ofNat 32 1 from rfl, ← BitVec.ofNat_add, Nat.add_comm]

theorem v121_eq (c : Dev nD) (f : Fin 8000) : A11 m c (Proc.devRef .tc main_v121) (ix1 f) = -sc m c f := by
  unfold A11
  after_reads_at
  exact congrArg (fun x : EReal => -x) (((top2_eq (A10 m c (Proc.devRef .tc main_v97)) (cls f) (pos f)).1.trans (v97_eq m c _ _)).trans
    (congrArg (fun B => sR m c (cls f) (sortedFrom B ⟨pos f, _⟩)) (row_s m c (cls f))))

theorem v122_eq (c : Dev nD) (p : Fin 8000) : A12 m c (Proc.devRef .tc main_v122) (ix1 p) = BitVec.ofNat 32 (sortedFrom (desc (sc m c)) p) := by
  unfold A12
  after_reads_at
  refine (argsort_eq _ (fun i => sc m c (i 0)) (fun i => ?_) p).trans rfl
  exact v121_eq m c i
end Cert.Proof.RRun
end
end
-- ==== Proof.RefEntry.lean ====
module

public import proofs.«01_k».proof.Proof.RRun
public import Idealize.ShloMosaic.Lib.Pointwise
public import Idealize.ShloMosaic.Lib.StableHlo.ReadAt
public import Idealize.ShloMosaic.Lib.IdealHost
public import proofs.«01_k».proof.Proof.RefTop
public import proofs.«01_k».proof.Proof.Rows

@[expose] public section

set_option maxRecDepth 16384
noncomputable section
namespace Cert.Proof.RRun
open Cert.ReferenceIdeal Cert.ReferenceIdeal.Gen Cert.ReferenceIdeal.Value
open Idealize.ShloMosaic Idealize.ShloMosaic.TcCoe Idealize.ShloMosaic.Tactic Idealize.ShloMosaic.StableHlo

attribute [local irreducible] A9 A10 A11 A12 A13 B C1 C2 sortedFrom

variable (m : (ℓ : Loc nD τ sig) → Buf (Elt Ideal) ℓ)

open Cert.Proof.SortMath Cert.Proof.Words Cert.Proof.Spec Cert.Proof.NmsMath Cert.Proof.RefOps Cert.Proof.Rows

/-- The order of the candidates by descending score. -/
def order (c : Dev nD) (p : Fin 8000) : Fin 8000 := sortedFrom (desc (sc m c)) p

/-- The row numbers of the sorted candidates, wrapped, as a column. -/
def rowCol (t : IVec S8000 32) : IVec S8000x1 32 :=
  broadcastInDim S8000x1 ![0] bcast_S8000_S8000x1_0 (select (cmpi .slt t (broadcastInDim S8000 ![] bcast_S_S8000 (constantI S_ 32 0#32)))
        (addi t (broadcastInDim S8000 ![] bcast_S_S8000 (constantI S_ 32 8000#32))) t)

theorem e0_vec (c : Dev nD) : A13 m c (Proc.devRef .tc main_v151_0)
    = Host.gather gather_S8000x4_S8000x1_S8000x4_1_0_n_n_0_1_14 (A12 m c (Proc.devRef .tc main_v120)) (rowCol (A12 m c (Proc.devRef .tc main_v122))) := by
  unfold A13
  after_results
  rfl

theorem e1_vec (c : Dev nD) (g : FVec Ideal S8000x4 .f32) (hg : g = Host.gather gather_S8000x4_S8000x1_S8000x4_1_0_n_n_0_1_14 (A12 m c (Proc.devRef .tc main_v120)) (rowCol (A12 m c (Proc.devRef .tc main_v122)))) : A13 m c (Proc.devRef .tc main_v151_1)
    = mulf (subf (shapeCast S8000 (extractStridedSlice S8000x1 ![0, 2] g slices_S8000x4_S8000x1_0_2) shapeCasts_S8000x1_S8000) (shapeCast S8000 (extractStridedSlice S8000x1 ![0, 0] g slices_S8000x4_S8000x1_0_0) shapeCasts_S8000x1_S8000))
      (subf (shapeCast S8000 (extractStridedSlice S8000x1 ![0, 3] g slices_S8000x4_S8000x1_0_3) shapeCasts_S8000x1_S8000) (shapeCast S8000 (extractStridedSlice S8000x1 ![0, 1] g slices_S8000x4_S8000x1_0_1) shapeCasts_S8000x1_S8000)) := by
  subst hg
  unfold A13
  after_results
  rfl

theorem e5_vec (c : Dev nD) : A13 m c (Proc.devRef .tc main_v151_5)
    = cmpf (F := Ideal) .ogt (Host.gather gather_S8000_S8000x1_S8000_n_0_n_n_0_1_1 (A12 m c (Proc.devRef .tc main_v110)) (rowCol (A12 m c (Proc.devRef .tc main_v122))))
      (broadcastInDim S8000 ![] bcast_S_S8000 (constant S_ FTy.f32 4286578688#32)) := by
  unfold A13
  after_results
  rfl

theorem area_at (g : FVec Ideal S8000x4 .f32) (p : Fin 8000) : mulf (subf (shapeCast S8000 (extractStridedSlice S8000x1 ![0, 2] g slices_S8000x4_S8000x1_0_2) shapeCasts_S8000x1_S8000) (shapeCast S8000 (extractStridedSlice S8000x1 ![0, 0] g slices_S8000x4_S8000x1_0_0) shapeCasts_S8000x1_S8000))
      (subf (shapeCast S8000 (extractStridedSlice S8000x1 ![0, 3] g slices_S8000x4_S8000x1_0_3) shapeCasts_S8000x1_S8000) (shapeCast S8000 (extractStridedSlice S8000x1 ![0, 1] g slices_S8000x4_S8000x1_0_1) shapeCasts_S8000x1_S8000)) (ix1 p)
    = ((g (ix2 p 2) : EReal) - g (ix2 p 0)) * ((g (ix2 p 3) : EReal) - g (ix2 p 1)) := by
  pointwise []

theorem gt_bot_at (x : FVec Ideal S8000 .f32) (p : Fin 8000) (y : EReal) (hy : x (ix1 p) = y) :
    cmpf (F := Ideal) .ogt x (broadcastInDim S8000 ![] bcast_S_S8000 (constant S_ FTy.f32 4286578688#32)) (ix1 p) = BitVec.ofBool (decide (⊥ < y)) := by
  pointwise []
  rw [hy, bits_bot]

theorem e0 (c : Dev nD) (p : Fin 8000) (q : Fin 4) : A13 m c (Proc.devRef .tc main_v151_0) (ix2 p q) = A11 m c (Proc.devRef .tc main_v120) (ix2 (order m c p) q) := by
  rw [← A12_of m c main_v120 (by decide), e0_vec]
  exact take8x4 _ _ p (order m c p) q (v122_eq m c p)

theorem e1 (c : Dev nD) (b : FVec Ideal S8000x4 .f32) (hb : A13 m c (Proc.devRef .tc main_v151_0) = b) (p : Fin 8000) : A13 m c (Proc.devRef .tc main_v151_1) (ix1 p)
    = ((b (ix2 p 2) : EReal) - b (ix2 p 0)) * ((b (ix2 p 3) : EReal) - b (ix2 p 1)) := by
  rw [e1_vec m c b (hb.symm.trans (e0_vec m c))]
  exact area_at b p

theorem e2 (c : Dev nD) (p : Fin 8000) : A13 m c (Proc.devRef .tc main_v151_2) (ix1 p) = BitVec.ofNat 32 p := by
  unfold A13
  after_reads_at
  rfl
theorem e4 (c : Dev nD) : A13 m c (Proc.devRef .tc main_v151_4) ix0 = BitVec.ofNat 32 0 := by
  unfold A13
  after_reads_at
  rfl
theorem e5 (c : Dev nD) (p : Fin 8000) : A13 m c (Proc.devRef .tc main_v151_5) (ix1 p) = BitVec.ofBool (decide (⊥ < sc m c (order m c p))) := by
  have h : A12 m c (Proc.devRef .tc main_v110) (ix1 (order m c p)) = sc m c (order m c p) := by
    rw [A12_of m c main_v110 (by decide)]
    exact v110_eq m c _
  rw [e5_vec]
  exact gt_bot_at _ p _ ((take8 _ _ p (order m c p) (v122_eq m c p)).trans h)

theorem e158 (c : Dev nD) (p : Fin 8000) : C1 m c (Proc.devRef .tc main_v158) (ix1 p) = sc m c (order m c p) := by
  have h : B m c (Proc.devRef .tc main_v110) (ix1 (order m c p)) = sc m c (order m c p) := by
    rw [B_of m c main_v110 (by decide) (by decide), A13_of m c main_v110 (by decide), A12_of m c main_v110 (by decide)]
    exact v110_eq m c _
  have h2 : B m c (Proc.devRef .tc main_v122) (ix1 p) = BitVec.ofNat 32 (order m c p) := by
    rw [B_of m c main_v122 (by decide) (by decide), A13_of m c main_v122 (by decide)]
    exact v122_eq m c _
  unfold C1
  after_reads_at
  exact (take8 _ _ p (order m c p) h2).trans h
end Cert.Proof.RRun
end
end
-- ==== Proof.RefStep.lean ====
module

public import proofs.«01_k».proof.Proof.RRun
public import Idealize.ShloMosaic.Lib.Pointwise
public import Idealize.ShloMosaic.Lib.StableHlo.ReadAt
public import Idealize.ShloMosaic.Lib.IdealHost
public import proofs.«01_k».proof.Proof.Words
public import proofs.«01_k».proof.Proof.NmsMath
public import proofs.«01_k».proof.Proof.Spec

@[expose] public section

set_option maxRecDepth 16384
noncomputable section
namespace Cert.Proof.RRun
open Cert.ReferenceIdeal Cert.ReferenceIdeal.Gen Cert.ReferenceIdeal.Value
open Idealize.ShloMosaic Idealize.ShloMosaic.TcCoe Idealize.ShloMosaic.Tactic Idealize.ShloMosaic.StableHlo

variable (m : (ℓ : Loc nD τ sig) → Buf (Elt Ideal) ℓ)

open Classical
open Cert.Proof.SortMath Cert.Proof.Words Cert.Proof.Spec Cert.Proof.NmsMath

/-- The entry of a vector at a position held in a word. -/
def entry {α : Type} (x : S8000.Idx → α) (w : IVec S_ 32) : S_.Idx → α :=
  shapeCast S_ (Host.dynamicSlice S1 x (fun k => (((![select (cmpi .slt w (constantI S_ 32 0#32)) (addi w (constantI S_ 32 8000#32)) w] : Fin 1 → IVec S_ 32)) k (Shape.Idx.first h_S_)).toInt) sliceFits_S8000_S1) shapeCasts_S1_S_

/-- The entry of a table at a row held in a word and a column. -/
def cell {α : Type} (x : S8000x4.Idx → α) (w : IVec S_ 32) (q : BitVec 32) : S_.Idx → α :=
  shapeCast S_ (Host.dynamicSlice S1x1 x (fun k => (((![select (cmpi .slt w (constantI S_ 32 0#32)) (addi w (constantI S_ 32 8000#32)) w, select (cmpi .slt (constantI S_ 32 q) (constantI S_ 32 0#32)) (addi (constantI S_ 32 q) (constantI S_ 32 4#32)) (constantI S_ 32 q)] : Fin 2 → IVec S_ 32)) k (Shape.Idx.first h_S_)).toInt) sliceFits_S8000x4_S1x1) shapeCasts_S1x1_S_

/-- The overlaps of the box at a row with all boxes. -/
def interVec (b : FVec Ideal S8000x4 .f32) (w : IVec S_ 32) : FVec Ideal S8000 .f32 :=
  mulf (maximumf (subf (minimumf (broadcastInDim S8000 ![] bcast_S_S8000 (cell b w 2#32)) (shapeCast S8000 (extractStridedSlice S8000x1 ![0, 2] b slices_S8000x4_S8000x1_0_2) shapeCasts_S8000x1_S8000)) (maximumf (broadcastInDim S8000 ![] bcast_S_S8000 (cell b w 0#32)) (shapeCast S8000 (extractStridedSlice S8000x1 ![0, 0] b slices_S8000x4_S8000x1_0_0) shapeCasts_S8000x1_S8000))) (broadcastInDim S8000 ![] bcast_S_S8000 (constant S_ .f32 0x00000000#32))) (maximumf (subf (minimumf (broadcastInDim S8000 ![] bcast_S_S8000 (cell b w 3#32)) (shapeCast S8000 (extractStridedSlice S8000x1 ![0, 3] b slices_S8000x4_S8000x1_0_3) shapeCasts_S8000x1_S8000)) (maximumf (broadcastInDim S8000 ![] bcast_S_S8000 (cell b w 1#32)) (shapeCast S8000 (extractStridedSlice S8000x1 ![0, 1] b slices_S8000x4_S8000x1_0_1) shapeCasts_S8000x1_S8000))) (broadcastInDim S8000 ![] bcast_S_S8000 (constant S_ .f32 0x00000000#32)))

/-- The kept marks after one trip. -/
def keepVec (b : FVec Ideal S8000x4 .f32) (ar : FVec Ideal S8000 .f32) (ids : IVec S8000 32) (w : IVec S_ 32) (kp : IVec S8000 1) : IVec S8000 1 :=
  andi kp (noti (andi (andi (cmpf .ogt (Host.divf (interVec b w) (maximumf (subf (addf (broadcastInDim S8000 ![] bcast_S_S8000 (entry ar w)) ar) (interVec b w)) (broadcastInDim S8000 ![] bcast_S_S8000 (constant S_ .f32 0x3089705F#32)))) (broadcastInDim S8000 ![] bcast_S_S8000 (constant S_ .f32 0x3EE66666#32))) (cmpi .sgt ids (broadcastInDim S8000 ![] bcast_S_S8000 w))) (broadcastInDim S8000 ![] bcast_S_S8000 (entry kp w))))

theorem first_scalar : Shape.Idx.first h_S_ = ix0 := funext fun a => a.elim0

theorem clamp_nat (a n : ℕ) (ha : a ≤ n) (z : ℤ) (hz : z = a) : (min (max z 0) (n : ℤ)).toNat = a := by
  subst hz
  omega

theorem wrap_toInt (a : ℕ) (ha : a < 2 ^ 31) (k : BitVec 32) :
    (Scalar.select (IntOp.cmpi .slt (BitVec.ofNat 32 a) 0#32) (IntOp.addi (BitVec.ofNat 32 a) k) (BitVec.ofNat 32 a)).toInt = a := by
  rw [show (0#32) = BitVec.ofNat 32 0 from rfl, slt_small ha (by norm_num), select_bit, if_neg (by omega), toInt_small ha]

theorem entry_at {α : Type} (x : S8000.Idx → α) (w : IVec S_ 32) (i : Fin 8000) (hw : w ix0 = BitVec.ofNat 32 i) : entry x w ix0 = x (ix1 i) := by
  unfold entry
  pointwise []
  refine congrArg (fun a => x (ix1 a)) (Fin.ext ?_)
  dsimp only
  rw [first_scalar, hw]
  unfold Host.clampedStart
  exact clamp_nat i 7999 (by omega) _ (wrap_toInt i (by omega) _)

theorem cell_at {α : Type} (x : S8000x4.Idx → α) (w : IVec S_ 32) (i : Fin 8000) (q : Fin 4) (hw : w ix0 = BitVec.ofNat 32 i) : cell x w (BitVec.ofNat 32 q) ix0 = x (ix2 i q) := by
  unfold cell
  rw [first_scalar]
  have h0 : (select (cmpi .slt w (constantI S_ 32 0#32)) (addi w (constantI S_ 32 8000#32)) w ix0).toInt = i.val := by
    show (Scalar.select (IntOp.cmpi .slt (w ix0) 0#32) (IntOp.addi (w ix0) 8000#32) (w ix0)).toInt = i.val
    rw [hw]
    exact wrap_toInt i (by omega) _
  have h1 : (select (cmpi .slt (constantI S_ 32 (BitVec.ofNat 32 q)) (constantI S_ 32 0#32)) (addi (constantI S_ 32 (BitVec.ofNat 32 q)) (constantI S_ 32 4#32)) (constantI S_ 32 (BitVec.ofNat 32 q)) ix0).toInt = q.val :=
    wrap_toInt q (by omega) _
  generalize select (cmpi .slt w (constantI S_ 32 0#32)) (addi w (constantI S_ 32 8000#32)) w = u at h0 ⊢
  generalize select (cmpi .slt (constantI S_ 32 (BitVec.ofNat 32 q)) (constantI S_ 32 0#32)) (addi (constantI S_ 32 (BitVec.ofNat 32 q)) (constantI S_ 32 4#32)) (constantI S_ 32 (BitVec.ofNat 32 q)) = v at h1 ⊢
  pointwise []
  refine congrArg₂ (fun a b => x (ix2 a b)) (Fin.ext ?_) (Fin.ext ?_)
  · dsimp only
    unfold Host.clampedStart
    exact clamp_nat i 7999 (by omega) _ h0
  · dsimp only
    unfold Host.clampedStart
    exact clamp_nat q 3 (by omega) _ h1

theorem step_vec (V0 : Valuation τ sig (Elt Ideal)) (b : FVec Ideal S8000x4 .f32) (ar : FVec Ideal S8000 .f32) (ids : IVec S8000 32) (w : IVec S_ 32) (kp : IVec S8000 1)
    (h0 : V0 (Proc.devRef .tc main_v151_0) = b) (h1 : V0 (Proc.devRef .tc main_v151_1) = ar) (h2 : V0 (Proc.devRef .tc main_v151_2) = ids) (h4 : V0 (Proc.devRef .tc main_v151_4) = w)
    (h5 : V0 (Proc.devRef .tc main_v151_5) = kp) : step_main_v151_5 V0 = keepVec b ar ids w kp := by
  subst h0 h1 h2 h4 h5
  rfl

theorem keepVec_at (b : FVec Ideal S8000x4 .f32) (ar : FVec Ideal S8000 .f32) (ids : IVec S8000 32) (w : IVec S_ 32) (kp : IVec S8000 1)
    (har : ∀ p, ar (ix1 p) = ((b (ix2 p 2) : EReal) - b (ix2 p 0)) * ((b (ix2 p 3) : EReal) - b (ix2 p 1))) (hid : ∀ p : Fin 8000, ids (ix1 p) = BitVec.ofNat 32 p)
    (i : Fin 8000) (hw : w ix0 = BitVec.ofNat 32 i) (K : Fin 8000 → Prop) (hK : ∀ p, kp (ix1 p) = BitVec.ofBool (decide (K p))) (p : Fin 8000) :
    keepVec b ar ids w kp (ix1 p) = BitVec.ofBool (decide (K p ∧ ¬ (thresh < iou (fun q => b (ix2 i q)) (fun q => b (ix2 p q)) ∧ i < p ∧ K i))) := by
  unfold keepVec interVec
  pointwise []
  have hq : ∀ q : Fin 4, cell b w (BitVec.ofNat 32 q) ix0 = b (ix2 i q) := fun q => cell_at b w i q hw
  rw [entry_at _ _ i hw, entry_at _ _ i hw, hK, hK, hid, hw, sgt_small (by omega) (by omega), har, har,
    show cell b w (0#32) ix0 = _ from hq 0, show cell b w (1#32) ix0 = _ from hq 1, show cell b w (2#32) ix0 = _ from hq 2, show cell b w (3#32) ix0 = _ from hq 3]
  have hn : ∀ (P : Prop) [Decidable P], (~~~ BitVec.ofBool (decide P) : BitVec 1) = BitVec.ofBool (decide ¬ P) := by
    intro P _
    by_cases h : P <;> simp [h]
  rw [and_bit, and_bit, hn, and_bit]
  refine congrArg BitVec.ofBool (decide_eq_decide.mpr ?_)
  rw [and_assoc]
  rfl

end Cert.Proof.RRun
end
end
-- ==== Proof.RefLoop.lean ====
module

public import proofs.«01_k».proof.Proof.RefEntry
public import proofs.«01_k».proof.Proof.RefStep
public import proofs.«01_k».proof.Proof.GreedyLoop

@[expose] public section

set_option maxRecDepth 16384
noncomputable section
namespace Cert.Proof.RRun
open Cert.ReferenceIdeal Cert.ReferenceIdeal.Gen Cert.ReferenceIdeal.Value
open Idealize.ShloMosaic Idealize.ShloMosaic.TcCoe Idealize.ShloMosaic.Tactic Idealize.ShloMosaic.StableHlo
open Classical

attribute [local irreducible] A9 A10 A11 A12 A13 B C1 C2 sortedFrom

variable (m : (ℓ : Loc nD τ sig) → Buf (Elt Ideal) ℓ)

open Cert.Proof.SortMath Cert.Proof.Words Cert.Proof.Spec Cert.Proof.NmsMath Cert.Proof.Rows

/-! The reference's suppression loop. -/

/-- A row of the sorted, class-shifted boxes. -/
def row (c : Dev nD) (p : Fin 8000) : Fin 4 → EReal := fun q => A11 m c (Proc.devRef .tc main_v120) (ix2 (order m c p) q)

/-- The candidate at a place of the order has a score. -/
def val (c : Dev nD) (p : Fin 8000) : Prop := ⊥ < sc m c (order m c p)

/-- One candidate overlaps another by more than the threshold. -/
def sup (c : Dev nD) (p q : Fin 8000) : Prop := thresh < iou (row m c p) (row m c q)

/-- The carried buffers before a trip: the boxes, areas and positions as at entry, the trip's number, the marks. -/
structure State (c : Dev nD) (k : ℕ) (V : Valuation τ sig (Elt Ideal)) : Prop where
  s0 : V (Proc.devRef .tc main_v151_0) = A13 m c (Proc.devRef .tc main_v151_0)
  s1 : V (Proc.devRef .tc main_v151_1) = A13 m c (Proc.devRef .tc main_v151_1)
  s2 : V (Proc.devRef .tc main_v151_2) = A13 m c (Proc.devRef .tc main_v151_2)
  s4 : V (Proc.devRef .tc main_v151_4) ix0 = BitVec.ofNat 32 k
  s5 : ∀ p : Fin 8000, V (Proc.devRef .tc main_v151_5) (ix1 p) = BitVec.ofBool (decide (marks (val m c) (sup m c) k p))

theorem start (c : Dev nD) : State m c 0 (A13 m c) :=
  ⟨rfl, rfl, rfl, e4 m c, fun p => (e5 m c p).trans (congrArg BitVec.ofBool (decide_eq_decide.mpr Iff.rfl))⟩

theorem area_row (c : Dev nD) (b : FVec Ideal S8000x4 .f32) (hb : A13 m c (Proc.devRef .tc main_v151_0) = b) (p : Fin 8000) :
    A13 m c (Proc.devRef .tc main_v151_1) (ix1 p) = ((b (ix2 p 2) : EReal) - b (ix2 p 0)) * ((b (ix2 p 3) : EReal) - b (ix2 p 1)) := e1 m c b hb p

theorem counter (w : IVec S_ 32) (k : ℕ) (h : w ix0 = BitVec.ofNat 32 k) : id (addi w (constantI S_ 32 1#32)) ix0 = BitVec.ofNat 32 (k + 1) := by
  show w ix0 + BitVec.ofNat 32 1 = _
  rw [h, ← BitVec.ofNat_add]

theorem trip (c : Dev nD) (k : ℕ) (hk : k < 8000) (V : Valuation τ sig (Elt Ideal)) (h : State m c k V) : State m c (k + 1) (STEP V) where
  s0 := (STEP_main_v151_0 V).trans h.s0
  s1 := (STEP_main_v151_1 V).trans h.s1
  s2 := (STEP_main_v151_2 V).trans h.s2
  s4 := (congrFun (STEP_main_v151_4 V) ix0).trans (counter _ k h.s4)
  s5 p := by
    refine (congrFun (STEP_main_v151_5 V) (ix1 p)).trans ?_
    obtain ⟨b, hb⟩ : ∃ b : FVec Ideal S8000x4 .f32, A13 m c (Proc.devRef .tc main_v151_0) = b := ⟨_, rfl⟩
    rw [step_vec V b _ _ _ _ (h.s0.trans hb) h.s1 h.s2 rfl rfl]
    have hrow : ∀ p : Fin 8000, (fun q => b (ix2 p q)) = row m c p := fun p => funext fun q => by
      rw [← hb]
      exact e0 m c p q
    rw [keepVec_at b _ _ _ _ (area_row m c b hb) (e2 m c) ⟨k, hk⟩ h.s4 _ h.s5 p]
    refine congrArg BitVec.ofBool (decide_eq_decide.mpr ?_)
    rw [hrow, hrow]
    exact and_congr Iff.rfl (not_congr ⟨fun g => ⟨hk, g⟩, fun ⟨_, g⟩ => g⟩)

theorem iter (c : Dev nD) : ∀ k, k ≤ 8000 → State m c k (STEP^[k] (A13 m c))
  | 0, _ => start m c
  | k + 1, hk => by
    rw [Function.iterate_succ_apply']
    exact trip m c k hk _ (iter c k (by omega))

/-- The reference's final marks. -/
def kept (c : Dev nD) : Fin 8000 → Prop := marks (val m c) (sup m c) 8000

theorem kept_greedy (c : Dev nD) : IsGreedy (val m c) (sup m c) (kept m c) := marks_greedy _ _

theorem B_eq (c : Dev nD) (r : Ref sig .tc) (h : r ∉ condOps_W) : B m c (Proc.devRef .tc r) = atK m 8000 c (Proc.devRef .tc r) := by
  unfold B
  exact after_of_writes_sub condOps _ condOps_writes h

theorem loop_mark (c : Dev nD) (k : ℕ) (hk : k ≤ 8000) (p : Fin 8000) :
    atK m k c (Proc.devRef .tc main_v151_5) (ix1 p) = BitVec.ofBool (decide (marks (val m c) (sup m c) k p)) := by
  have h := congrFun (atK_agree m c k main_v151_5 (by decide)) (ix1 p)
  rw [entry_eq] at h
  exact h.trans ((iter m c k hk).s5 p)

theorem keep_eq (c : Dev nD) (p : Fin 8000) : C1 m c (Proc.devRef .tc main_v151_5) (ix1 p) = BitVec.ofBool (decide (kept m c p)) := by
  rw [C1_of m c main_v151_5 (by decide), B_eq m c main_v151_5 (by decide)]
  unfold kept
  exact loop_mark m c 8000 le_rfl p

end Cert.Proof.RRun
end
end
-- ==== Proof.RefFinal.lean ====
module

public import proofs.«01_k».proof.Proof.RefLoop

@[expose] public section

set_option maxRecDepth 16384
noncomputable section
namespace Cert.Proof.RRun
open Cert.ReferenceIdeal Cert.ReferenceIdeal.Gen Cert.ReferenceIdeal.Value
open Idealize.ShloMosaic Idealize.ShloMosaic.TcCoe Idealize.ShloMosaic.Tactic Idealize.ShloMosaic.StableHlo
open Classical

attribute [local irreducible] A9 A10 A11 A12 A13 B C1 C2 sortedFrom

variable (m : (ℓ : Loc nD τ sig) → Buf (Elt Ideal) ℓ)

open Cert.Proof.SortMath Cert.Proof.Words Cert.Proof.Spec Cert.Proof.NmsMath Cert.Proof.Rows Cert.Proof.RefOps

/-! The reference's results. -/

theorem c37 (c : Dev nD) : C1 m c (Proc.devRef .tc main_cst_37) = (constant S_ .f32 0xFF800000#32 : FVec Ideal S_ .f32) := by
  unfold C1
  after_results

theorem v159_vec (c : Dev nD) : C2 m c (Proc.devRef .tc main_v159)
    = select (C1 m c (Proc.devRef .tc main_v151_5)) (C1 m c (Proc.devRef .tc main_v158)) (broadcastInDim S8000 ![] bcast_S_S8000 (id (C1 m c (Proc.devRef .tc main_cst_37)))) := by
  unfold C2
  after_results
  rfl

/-- The score of a place of the order once suppression is done. -/
def left (c : Dev nD) (p : Fin 8000) : EReal := if kept m c p then sc m c (order m c p) else ⊥

theorem where_at (k : IVec S8000 1) (x : FVec Ideal S8000 .f32) (p : Fin 8000) (P : Prop) [Decidable P] (hk : k (ix1 p) = BitVec.ofBool (decide P)) :
    select k x (broadcastInDim S8000 ![] bcast_S_S8000 (id (constant S_ .f32 0xFF800000#32 : FVec Ideal S_ .f32))) (ix1 p) = if P then x (ix1 p) else (⊥ : EReal) := by
  show Scalar.select (k (ix1 p)) (x (ix1 p)) (Ideal.ofBits .f32 0xFF800000#32) = _
  rw [hk, select_bit, bits_bot]

theorem v159_eq (c : Dev nD) (p : Fin 8000) : C2 m c (Proc.devRef .tc main_v159) (ix1 p) = left m c p := by
  have h := v159_vec m c
  rw [c37] at h
  refine (congrFun h (ix1 p)).trans ((where_at _ _ p _ (keep_eq m c p)).trans ?_)
  unfold left
  rw [e158]

/-- The position words of a vector of two hundred, wrapped, as a column. -/
def pickCol (t : IVec S200 32) : IVec S200x1 32 :=
  broadcastInDim S200x1 ![0] bcast_S200_S200x1_0 (select (cmpi .slt t (broadcastInDim S200 ![] bcast_S_S200 (constantI S_ 32 0#32)))
        (addi t (broadcastInDim S200 ![] bcast_S_S200 (constantI S_ 32 8000#32))) t)

/-- The candidates' numbers picked by the last sort. -/
def picks (x : FVec Ideal S8000 .f32) (o : IVec S8000 32) : IVec S200 32 :=
  Host.gather gather_S8000_S200x1_S200_n_0_n_n_0_1_1 o (pickCol (Host.topK S200 0 (FloatOps.cmpfTotal .gt) x sliceFits_S8000_S200).2)

theorem r173 (c : Dev nD) : C3 m c (Proc.devRef .tc main_v173)
    = Host.gather gather_S8000x4_S200x1_S200x4_1_0_n_n_0_1_14 (C2 m c (Proc.devRef .tc main_v111)) (pickCol (picks (C2 m c (Proc.devRef .tc main_v159)) (C2 m c (Proc.devRef .tc main_v122)))) := by
  unfold C3
  after_results
  rfl

theorem r180 (c : Dev nD) : C3 m c (Proc.devRef .tc main_v180)
    = Host.gather gather_S8000_S200x1_S200_n_0_n_n_0_1_1 (C2 m c (Proc.devRef .tc main_v110)) (pickCol (picks (C2 m c (Proc.devRef .tc main_v159)) (C2 m c (Proc.devRef .tc main_v122)))) := by
  unfold C3
  after_results
  rfl

theorem r187 (c : Dev nD) : C3 m c (Proc.devRef .tc main_v187)
    = Host.gather gather_S8000_S200x1_S200_n_0_n_n_0_1_1 (C2 m c (Proc.devRef .tc main_v112)) (pickCol (picks (C2 m c (Proc.devRef .tc main_v159)) (C2 m c (Proc.devRef .tc main_v122)))) := by
  unfold C3
  after_results
  rfl

theorem C2_to11 (c : Dev nD) (r : Ref sig .tc) (h1 : r ∉ W14) (h2 : r ∉ W13) (h3 : r ∉ condOps_W) (h4 : r ∉ while0Ops0_W) (h5 : r ∉ hostOps0_12_W) :
    C2 m c (Proc.devRef .tc r) = A12 m c (Proc.devRef .tc r) :=
  (C2_of m c r h1).trans <| (C1_of m c r h2).trans <| (B_of m c r h3 h4).trans (A13_of m c r h5)

/-- The candidate at a place of the result. -/
def pick (c : Dev nD) (d : Fin 200) : Fin 8000 := order m c (sortedFrom (desc (left m c)) ⟨d, by omega⟩)

theorem picks_at (c : Dev nD) (d : Fin 200) :
    picks (C2 m c (Proc.devRef .tc main_v159)) (C2 m c (Proc.devRef .tc main_v122)) (ix1 d) = BitVec.ofNat 32 (pick m c d) := by
  have hf : (fun i : Fin 8000 => (C2 m c (Proc.devRef .tc main_v159) (ix1 i) : EReal)) = left m c := funext fun i => v159_eq m c i
  have h := top1_idx (C2 m c (Proc.devRef .tc main_v159)) d
  rw [show (desc fun i : Fin 8000 => (C2 m c (Proc.devRef .tc main_v159) (ix1 i) : EReal)) = desc (left m c) from congrArg desc hf] at h
  have ho : C2 m c (Proc.devRef .tc main_v122) (ix1 (sortedFrom (desc (left m c)) ⟨d, by omega⟩)) = BitVec.ofNat 32 (pick m c d) := by
    rw [C2_to11 m c main_v122 (by decide) (by decide) (by decide) (by decide) (by decide)]
    exact v122_eq m c _
  exact (take2 _ _ d _ h).trans ho

/-- The reference's boxes. -/
theorem ref_boxes (c : Dev nD) (d : Fin 200) (q : Fin 4) : C3 m c (Proc.devRef .tc main_v173) (ix2 d q) = bx m c (pick m c d) q := by
  refine (congrFun (r173 m c) (ix2 d q)).trans ((take2x4 _ _ d _ q (picks_at m c d)).trans ?_)
  rw [C2_to11 m c main_v111 (by decide) (by decide) (by decide) (by decide) (by decide), A12_of m c main_v111 (by decide)]
  exact v111_eq m c _ q

/-- The reference's scores. -/
theorem ref_scores (c : Dev nD) (d : Fin 200) : C3 m c (Proc.devRef .tc main_v180) (ix1 d) = sc m c (pick m c d) := by
  refine (congrFun (r180 m c) (ix1 d)).trans ((take2 _ _ d _ (picks_at m c d)).trans ?_)
  rw [C2_to11 m c main_v110 (by decide) (by decide) (by decide) (by decide) (by decide), A12_of m c main_v110 (by decide)]
  exact v110_eq m c _

/-- The reference's labels. -/
theorem ref_labels (c : Dev nD) (d : Fin 200) : C3 m c (Proc.devRef .tc main_v187) (ix1 d) = BitVec.ofNat 32 ((pick m c d).val / 400 + 1) := by
  refine (congrFun (r187 m c) (ix1 d)).trans ((take2 _ _ d _ (picks_at m c d)).trans ?_)
  rw [C2_to11 m c main_v112 (by decide) (by decide) (by decide) (by decide) (by decide), A12_of m c main_v112 (by decide)]
  exact v112_eq m c _

end Cert.Proof.RRun
end
end
-- ==== Proof.RefOff.lean ====
module

public import proofs.«01_k».proof.Proof.RRun
public import Idealize.ShloMosaic.Lib.Pointwise
public import Idealize.ShloMosaic.Lib.StableHlo.ReadAt
public import Idealize.ShloMosaic.Lib.IdealHost
public import proofs.«01_k».proof.Proof.RefTop
public import proofs.«01_k».proof.Proof.Rows

@[expose] public section

set_option maxRecDepth 16384
noncomputable section
namespace Cert.Proof.RRun
open Cert.ReferenceIdeal Cert.ReferenceIdeal.Gen Cert.ReferenceIdeal.Value
open Idealize.ShloMosaic Idealize.ShloMosaic.TcCoe Idealize.ShloMosaic.Tactic Idealize.ShloMosaic.StableHlo

attribute [local irreducible] A9 A10 A11 A12 A13 B C1 C2 sortedFrom

variable (m : (ℓ : Loc nD τ sig) → Buf (Elt Ideal) ℓ)

open Cert.Proof.SortMath Cert.Proof.Words Cert.Proof.Spec Cert.Proof.NmsMath Cert.Proof.RefOps Cert.Proof.Rows

/-- The shifted boxes, as one expression of the boxes, the labels and the greatest coordinate. -/
theorem v120_vec (c : Dev nD) (x : FVec Ideal S8000x4 .f32) (k : IVec S8000 32) (t : FVec Ideal S_ .f32) (hx : A11 m c (Proc.devRef .tc main_v111) = x)
    (hk : A11 m c (Proc.devRef .tc main_v112) = k) (ht : A11 m c (Proc.devRef .tc main_v113) = t) : A11 m c (Proc.devRef .tc main_v120) = addf x
    (broadcastInDim S8000x4 ![0,1] bcast_S8000x1_S8000x4_0_1 (broadcastInDim S8000x1 ![0] bcast_S8000_S8000x1_0
      (mulf (sitofp (F := Ideal) .f32 k) (broadcastInDim S8000 ![] bcast_S_S8000 (addf t (constant S_ FTy.f32 1065353216#32)))))) := by
  subst hx hk ht
  unfold A11
  after_results

theorem v113_vec (c : Dev nD) (x : FVec Ideal S8000x4 .f32) (hx : A11 m c (Proc.devRef .tc main_v111) = x) :
    A11 m c (Proc.devRef .tc main_v113) = Host.reduce FloatOps.maximumf x (constant S_ FTy.f32 4286578688#32) reducesTo_S8000x4_S_d0_1 h_S_ := by
  subst hx
  unfold A11
  after_results

theorem v113_at (x : FVec Ideal S8000x4 .f32) (b : Fin 8000 → Fin 4 → EReal) (hx : ∀ f q, x (ix2 f q) = b f q) :
    ((Host.reduce FloatOps.maximumf x (constant S_ FTy.f32 4286578688#32) reducesTo_S8000x4_S_d0_1 h_S_ : FVec Ideal S_ .f32) ix0)
      = (Finset.fold max (⊥ : EReal) (fun x : Fin 8000 × Fin 4 => b x.1 x.2) Finset.univ : EReal) := by
  rw [← bits_bot]
  pointwise []
  simp only [hx]

theorem v120_at (x : FVec Ideal S8000x4 .f32) (k : IVec S8000 32) (t : FVec Ideal S_ .f32) (f : Fin 8000) (q : Fin 4) (n : ℕ) (hn : n < 2 ^ 31) (hk : k (ix1 f) = BitVec.ofNat 32 n) : addf x
    (broadcastInDim S8000x4 ![0,1] bcast_S8000x1_S8000x4_0_1 (broadcastInDim S8000x1 ![0] bcast_S8000_S8000x1_0
      (mulf (sitofp (F := Ideal) .f32 k) (broadcastInDim S8000 ![] bcast_S_S8000 (addf t (constant S_ FTy.f32 1065353216#32)))))) (ix2 f q)
    = ((x (ix2 f q) : EReal) + ((n : ℝ) : EReal) * ((t ix0 : EReal) + 1) : EReal) := by
  pointwise []
  rw [hk, num_small hn]

theorem fold_ge {ι : Type} [Fintype ι] (g : ι → EReal) (i : ι) : g i ≤ Finset.fold max (⊥ : EReal) g Finset.univ :=
  (Finset.le_fold_max _).mpr (Or.inr ⟨i, Finset.mem_univ i, le_rfl⟩)

theorem fold_le {ι : Type} [Fintype ι] (g : ι → EReal) (t : EReal) (h : ∀ i, g i ≤ t) : Finset.fold max (⊥ : EReal) g Finset.univ ≤ t :=
  (Finset.fold_max_le _).mpr ⟨bot_le, fun i _ => h i⟩

/-- The greatest of finitely many reals between zero and 320 is a real. -/
theorem fold_real (b : Fin 8000 → Fin 4 → EReal) (hb : ∀ f q, ∃ r : ℝ, b f q = r ∧ 0 ≤ r ∧ r ≤ 320) (t : EReal)
    (ht : t = Finset.fold max (⊥ : EReal) (fun x : Fin 8000 × Fin 4 => b x.1 x.2) Finset.univ) :
    ∃ M : ℝ, 0 ≤ M ∧ t = (M : EReal) ∧ ∀ f q, b f q ≤ (M : EReal) := by
  have hle : ∀ f q, b f q ≤ t := fun f q => by
    rw [ht]
    exact fold_ge (fun x : Fin 8000 × Fin 4 => b x.1 x.2) (f, q)
  have hhi : t ≤ ((320 : ℝ) : EReal) := by
    rw [ht]
    refine fold_le (fun x : Fin 8000 × Fin 4 => b x.1 x.2) _ fun x => ?_
    obtain ⟨r, hr, -, h1⟩ := hb x.1 x.2
    rw [hr]
    exact_mod_cast h1
  have hlo : (0 : EReal) ≤ t := by
    refine le_trans ?_ (hle ⟨0, by omega⟩ 0)
    obtain ⟨r, hr, h0, -⟩ := hb ⟨0, by omega⟩ 0
    rw [hr]
    exact_mod_cast h0
  clear ht
  induction t using EReal.rec with
  | bot => simp at hlo
  | top => simp at hhi
  | coe t => exact ⟨t, by exact_mod_cast hlo, rfl, hle⟩

/-- The greatest corner coordinate is a real number that is not negative and no less than any coordinate. -/
theorem v113_eq (c : Dev nD) : ∃ M : ℝ, 0 ≤ M ∧ A11 m c (Proc.devRef .tc main_v113) ix0 = (M : EReal) ∧ ∀ f q, bx m c f q ≤ (M : EReal) := by
  have h : A11 m c (Proc.devRef .tc main_v113) ix0 = (Finset.fold max (⊥ : EReal) (fun x : Fin 8000 × Fin 4 => bx m c x.1 x.2) Finset.univ : EReal) := by
    rw [v113_vec m c _ rfl]
    exact v113_at (A11 m c (Proc.devRef .tc main_v111)) (bx m c) (fun f q => v111_eq m c f q)
  have hb : ∀ f q, ∃ r : ℝ, bx m c f q = r ∧ 0 ≤ r ∧ r ≤ 320 := fun f q => clip_real _
  exact fold_real (bx m c) hb _ h

/-- A shifted box: every coordinate moved by the label times the greatest coordinate and one. -/
theorem v120_eq (c : Dev nD) (f : Fin 8000) (q : Fin 4) (M : ℝ) (hM : A11 m c (Proc.devRef .tc main_v113) ix0 = (M : EReal)) :
    A11 m c (Proc.devRef .tc main_v120) (ix2 f q) = bx m c f q + ((((f.val / 400 + 1 : ℕ) : ℝ) * (M + 1) : ℝ) : EReal) := by
  refine (congrFun (v120_vec m c _ _ _ rfl rfl rfl) (ix2 f q)).trans ((v120_at _ _ _ f q (f / 400 + 1) (by omega) (v112_eq m c f)).trans ?_)
  rw [hM, v111_eq]
  refine congrArg (fun b : EReal => bx m c f q + b) ?_
  rw [EReal.coe_mul, EReal.coe_add, EReal.coe_one]

end Cert.Proof.RRun
end
end
-- ==== Proof.Transfer.lean ====
module

public import proofs.«01_k».proof.Proof.Ahead
public import proofs.«01_k».proof.Proof.Rows

@[expose] public section

noncomputable section
namespace Cert.Proof.Transfer
open Idealize.ShloMosaic Cert.Proof.SortMath Cert.Proof.NmsMath Cert.Proof.Spec Cert.Proof.Rows Cert.Proof.Ahead
open Classical

/-! The bridge between the two programs: per-class suppression and one suppression over shifted boxes choose alike, and the two final
orders agree. -/

/-- A real box. -/
def lift (u : Fin 4 → ℝ) : Fin 4 → EReal := fun q => (u q : EReal)

/-- The intersection of two real boxes, as a real. -/
def interR (u v : Fin 4 → ℝ) : ℝ := max (min (u 2) (v 2) - max (u 0) (v 0)) 0 * max (min (u 3) (v 3) - max (u 1) (v 1)) 0

theorem inter_lift (u v : Fin 4 → ℝ) : inter (lift u) (lift v) = (interR u v : EReal) := by
  simp only [inter, interR, lift]
  push_cast
  rfl

/-- The bound below which a union is not let fall. -/
theorem eps_real : ∃ e : ℝ, Ideal.ofBits .f32 814313567#32 = (e : EReal) ∧ 0 < e := by
  refine ⟨9007199 * 2 ^ (-53 : ℤ), ?_, by positivity⟩
  simp [Ideal.ofBits, Ideal.ieee]

theorem thresh_pos : 0 < thresh := by
  simp [thresh, Ideal.ofBits, Ideal.ieee]
  rw [← EReal.coe_mul]
  norm_cast
  positivity

/-- Shifting both boxes by one amount does not change their overlap. -/
theorem iou_shift (u v : Fin 4 → ℝ) (o : ℝ) : iou (lift fun q => u q + o) (lift fun q => v q + o) = iou (lift u) (lift v) := by
  have hi : interR (fun q => u q + o) (fun q => v q + o) = interR u v := by
    simp only [interR, min_add_add_right, max_add_add_right, add_sub_add_right_eq_sub]
  have h : ∀ w : Fin 4 → ℝ, (lift (fun q => w q + o) 2 - lift (fun q => w q + o) 0) * (lift (fun q => w q + o) 3 - lift (fun q => w q + o) 1)
      = (lift w 2 - lift w 0) * (lift w 3 - lift w 1) := by
    intro w
    simp only [lift, ← EReal.coe_sub]
    rw [add_sub_add_right_eq_sub, add_sub_add_right_eq_sub]
  unfold iou
  rw [inter_lift, inter_lift, hi, h, h]

/-- Boxes that do not meet do not overlap. -/
theorem iou_zero (u v : Fin 4 → ℝ) (h : interR u v = 0) : iou (lift u) (lift v) = 0 := by
  obtain ⟨e, he, hp⟩ := eps_real
  unfold iou
  rw [inter_lift, h, EReal.coe_zero, he, Ideal.div, if_neg, zero_mul]
  exact ((EReal.coe_pos.mpr hp).trans_le (le_max_right _ _)).ne'

/-- Boxes of different classes, each shifted past the reach of the classes before it, do not overlap. -/
theorem iou_apart (u v : Fin 4 → ℝ) (M : ℝ) (hM : 0 ≤ M) (hu : ∀ q, 0 ≤ u q ∧ u q ≤ M) (hv : ∀ q, 0 ≤ v q ∧ v q ≤ M)
    (i j : ℕ) (hij : i ≠ j) :
    iou (lift fun q => u q + ((i + 1 : ℕ) : ℝ) * (M + 1)) (lift fun q => v q + ((j + 1 : ℕ) : ℝ) * (M + 1)) = 0 := by
  refine iou_zero _ _ ?_
  have key : min (u 2 + ((i + 1 : ℕ) : ℝ) * (M + 1)) (v 2 + ((j + 1 : ℕ) : ℝ) * (M + 1))
      - max (u 0 + ((i + 1 : ℕ) : ℝ) * (M + 1)) (v 0 + ((j + 1 : ℕ) : ℝ) * (M + 1)) ≤ 0 := by
    rcases Nat.lt_or_gt_of_ne hij with h | h
    · have h' : ((i + 1 : ℕ) : ℝ) + 1 ≤ ((j + 1 : ℕ) : ℝ) := by exact_mod_cast (by omega : i + 1 + 1 ≤ j + 1)
      have h1 := min_le_left (u 2 + ((i + 1 : ℕ) : ℝ) * (M + 1)) (v 2 + ((j + 1 : ℕ) : ℝ) * (M + 1))
      have h2 := le_max_right (u 0 + ((i + 1 : ℕ) : ℝ) * (M + 1)) (v 0 + ((j + 1 : ℕ) : ℝ) * (M + 1))
      nlinarith [hu 2, hv 0]
    · have h' : ((j + 1 : ℕ) : ℝ) + 1 ≤ ((i + 1 : ℕ) : ℝ) := by exact_mod_cast (by omega : j + 1 + 1 ≤ i + 1)
      have h1 := min_le_right (u 2 + ((i + 1 : ℕ) : ℝ) * (M + 1)) (v 2 + ((j + 1 : ℕ) : ℝ) * (M + 1))
      have h2 := le_max_left (u 0 + ((i + 1 : ℕ) : ℝ) * (M + 1)) (v 0 + ((j + 1 : ℕ) : ℝ) * (M + 1))
      nlinarith [hv 2, hu 0]
  unfold interR
  rw [max_eq_right key, zero_mul]

variable (x : Fin 5000 → Fin 21 → EReal)

/-- The kernel's scores. -/
def tK (j : Fin 20) (i : Fin 5000) : EReal := scoreK (x i) j
/-- The reference's scores. -/
def tR (j : Fin 20) (i : Fin 5000) : EReal := scoreR (x i) j

theorem desc_class (j : Fin 20) : desc (tK x j) = desc (tR x j) := desc_congr _ _ fun a b => score_lt _ _ _ _

/-- Both programs have one anchor behind each candidate. -/
theorem chosen_eq (f : Fin 8000) : chosen (tK x) f = chosen (tR x) f := by
  unfold chosen
  rw [desc_class]

/-- The kernel's score of a candidate. -/
def cK (f : Fin 8000) : EReal := tK x (cls f) (chosen (tK x) f)
/-- The reference's score of a candidate. -/
def cR (f : Fin 8000) : EReal := tR x (cls f) (chosen (tR x) f)

theorem cand_lt (f g : Fin 8000) : cK x f < cK x g ↔ cR x f < cR x g := by
  unfold cK cR
  rw [chosen_eq, chosen_eq]
  exact score_lt _ _ _ _

theorem cand_desc : desc (cK x) = desc (cR x) := desc_congr _ _ (cand_lt x)

theorem cand_eq (f g : Fin 8000) : cK x f = cK x g ↔ cR x f = cR x g := by
  constructor <;> intro h
  · rcases lt_trichotomy (cR x f) (cR x g) with h' | h' | h'
    · exact absurd h ((cand_lt x f g).mpr h').ne
    · exact h'
    · exact absurd h ((cand_lt x g f).mpr h').ne'
  · rcases lt_trichotomy (cK x f) (cK x g) with h' | h' | h'
    · exact absurd h ((cand_lt x f g).mp h').ne
    · exact h'
    · exact absurd h ((cand_lt x g f).mp h').ne'

theorem cand_valid (f : Fin 8000) : floor30 < cK x f ↔ ⊥ < cR x f := by
  unfold cK cR
  rw [chosen_eq]
  exact valid_iff _ _

/-- The kernel's final score is the reference's. -/
theorem cand_out (f : Fin 8000) : (if cK x f ≤ floor30 then (⊥ : EReal) else cK x f) = cR x f := by
  by_cases h : ⊥ < cR x f
  · rw [if_neg (not_le.mpr ((cand_valid x f).mpr h))]
    unfold cK cR at *
    rw [chosen_eq]
    exact score_eq _ _ h
  · rw [if_pos (not_lt.mp fun h' => h ((cand_valid x f).mp h'))]
    exact (not_bot_lt_iff.mp h).symm

/-- The candidate at a place of the reference's order. -/
def ord (p : Fin 8000) : Fin 8000 := sortedFrom (desc (cR x)) p

/-- Within a class, the reference's order goes by place. -/
theorem ord_pos (p q : Fin 8000) (hc : cls (ord x p) = cls (ord x q)) : pos (ord x p) < pos (ord x q) ↔ p < q := by
  have one : ∀ f g : Fin 8000, cls f = cls g → pos f < pos g → desc (cR x) f g = true := by
    intro f g hc hp
    rw [desc_iff]
    rcases (chosen_mono (tR x) f g hc hp).lt_or_eq with h | h
    · exact Or.inl h
    · refine Or.inr ⟨h.symm, ?_⟩
      have h1 : f.val / 400 = g.val / 400 := congrArg Fin.val hc
      have h2 : f.val % 400 < g.val % 400 := hp
      exact Fin.lt_def.mpr (by omega)
  have iff1 := before_iff (desc_total (cR x)) p q
  have iff2 := before_iff (desc_total (cR x)) q p
  constructor
  · intro h
    exact iff1.mp (one _ _ hc h)
  · intro h
    rcases lt_trichotomy (pos (ord x p)) (pos (ord x q)) with h' | h' | h'
    · exact h'
    · have e : ord x p = ord x q := by rw [← flat_eta (ord x p), ← flat_eta (ord x q), hc, h']
      exact absurd (sortedFrom_injective _ e) h.ne
    · exact absurd (iff2.mp (one _ _ hc.symm h')) (not_lt.mpr h.le)

/-- Suppression within each class, read along the reference's order, is the reference's suppression over shifted boxes. -/
theorem greedy_eq (b : Fin 5000 → Fin 4 → EReal) (M : ℝ) (hM : 0 ≤ M)
    (hb : ∀ f q, ∃ r : ℝ, b (chosen (tR x) f) q = r ∧ 0 ≤ r ∧ r ≤ M)
    (row : Fin 8000 → Fin 4 → EReal)
    (hrow : ∀ p q, row p q = b (chosen (tR x) (ord x p)) q + (((((ord x p).val / 400 + 1 : ℕ) : ℝ) * (M + 1) : ℝ) : EReal))
    (KR : Fin 8000 → Prop) (hR : IsGreedy (fun p => ⊥ < cR x (ord x p)) (fun p q => thresh < iou (row p) (row q)) KR)
    (KK : Fin 20 → Fin 400 → Prop)
    (hK : ∀ j, IsGreedy (fun k => floor30 < cK x (flat j k)) (fun a c => thresh < iou (b (chosen (tK x) (flat j a))) (b (chosen (tK x) (flat j c)))) (KK j))
    (p : Fin 8000) : KR p ↔ KK (cls (ord x p)) (pos (ord x p)) := by
  choose u hu using hb
  have hbu : ∀ f, b (chosen (tR x) f) = lift (u f) := fun f => funext fun q => (hu f q).1
  have hrow' : ∀ p, row p = lift fun q => u (ord x p) q + (((ord x p).val / 400 + 1 : ℕ) : ℝ) * (M + 1) := by
    intro p
    funext q
    rw [hrow, hbu]
    exact (EReal.coe_add _ _).symm
  refine IsGreedy.unique (K := KR) (L := fun p => KK (cls (ord x p)) (pos (ord x p))) hR (fun p => ?_) p
  show KK (cls (ord x p)) (pos (ord x p)) ↔ _
  refine (hK (cls (ord x p)) (pos (ord x p))).trans ?_
  show (floor30 < cK x (flat (cls (ord x p)) (pos (ord x p))) ∧ ∀ a, a < pos (ord x p) → KK (cls (ord x p)) a →
      ¬ thresh < iou (b (chosen (tK x) (flat (cls (ord x p)) a))) (b (chosen (tK x) (flat (cls (ord x p)) (pos (ord x p))))))
    ↔ (⊥ < cR x (ord x p) ∧ ∀ q, q < p → KK (cls (ord x q)) (pos (ord x q)) → ¬ thresh < iou (row q) (row p))
  rw [flat_eta, cand_valid]
  refine and_congr Iff.rfl ⟨fun h q hq hk => ?_, fun h a ha hk => ?_⟩
  · by_cases hc : cls (ord x q) = cls (ord x p)
    · have h0 := h (pos (ord x q)) ((ord_pos x q p hc).mpr hq) (hc ▸ hk)
      rw [← hc, flat_eta, chosen_eq, chosen_eq, hbu, hbu] at h0
      have e : (ord x q).val / 400 = (ord x p).val / 400 := congrArg Fin.val hc
      rw [hrow', hrow', e, iou_shift]
      exact h0
    · rw [hrow', hrow', iou_apart _ _ M hM (fun q => (hu _ q).2) (fun q => (hu _ q).2) ((ord x q).val / 400) ((ord x p).val / 400) (fun e => hc (Fin.ext e))]
      exact not_lt.mpr thresh_pos.le
  · obtain ⟨q, hq⟩ : ∃ q, ord x q = flat (cls (ord x p)) a := sortedFrom_surjective _ _
    have hc : cls (ord x q) = cls (ord x p) := by rw [hq, cls_flat]
    have hp : pos (ord x q) = a := by rw [hq, pos_flat]
    have h0 := h q ((ord_pos x q p hc).mp (by rw [hp]; exact ha)) (by show KK (cls (ord x q)) (pos (ord x q)); rw [hc, hp]; exact hk)
    have e : (ord x q).val / 400 = (ord x p).val / 400 := congrArg Fin.val hc
    rw [hrow', hrow', e, iou_shift] at h0
    rw [← hq, chosen_eq, chosen_eq, hbu, hbu]
    exact h0

/-- The two final orders agree. -/
theorem pick_eq (KR : Fin 8000 → Prop) (K : Fin 8000 → Prop) (h : ∀ p, KR p ↔ K (ord x p)) (hv : ∀ p, KR p → ⊥ < cR x (ord x p)) (d : Fin 8000) :
    sortedFrom (ahead (cK x) K) d = ord x (sortedFrom (desc fun p => if KR p then cR x (ord x p) else (⊥ : EReal)) d) := by
  refine sortedFrom_unique (ahead_total _ _) (fun d => ord x (sortedFrom (desc fun p => if KR p then cR x (ord x p) else (⊥ : EReal)) d)) (fun i j hij => ?_) d
  have h0 := (before_iff (desc_total fun p => if KR p then cR x (ord x p) else (⊥ : EReal)) i j).mpr hij
  show ahead (cK x) K (ord x _) (ord x _) = true
  generalize sortedFrom (desc fun p => if KR p then cR x (ord x p) else (⊥ : EReal)) i = p at h0 ⊢
  generalize sortedFrom (desc fun p => if KR p then cR x (ord x p) else (⊥ : EReal)) j = q at h0 ⊢
  have hord : p < q → desc (cK x) (ord x p) (ord x q) = true := fun hpq => by
    rw [cand_desc]
    exact (before_iff (desc_total (cR x)) p q).mpr hpq
  rw [desc_iff] at h0
  rw [ahead_iff]
  unfold cut
  by_cases hp : KR p <;> by_cases hq : KR q
  · rw [if_pos hp, if_pos hq] at h0
    rw [if_pos ((h p).mp hp), if_pos ((h q).mp hq)]
    rcases h0 with h0 | ⟨h0, hpq⟩
    · exact Or.inl ((cand_lt x _ _).mpr h0)
    · exact Or.inr ⟨(cand_eq x _ _).mpr h0, hord hpq⟩
  · rw [if_pos ((h p).mp hp), if_neg (fun k => hq ((h q).mpr k))]
    exact Or.inl (none_lt_floor.trans ((cand_valid x _).mpr (hv p hp)))
  · exfalso
    rw [if_neg hp, if_pos hq] at h0
    rcases h0 with h0 | ⟨h0, -⟩
    · exact not_lt_bot h0
    · exact absurd (hv q hq) (by rw [← h0]; exact lt_irrefl _)
  · rw [if_neg hp, if_neg hq] at h0
    rw [if_neg (fun k => hp ((h p).mpr k)), if_neg (fun k => hq ((h q).mpr k))]
    rcases h0 with h0 | ⟨-, hpq⟩
    · exact absurd h0 (lt_irrefl _)
    · exact Or.inr ⟨rfl, hord hpq⟩

end Cert.Proof.Transfer
end
end
-- ==== Proof.Match.lean ====
module

public import proofs.«01_k».proof.Proof.KVal
public import proofs.«01_k».proof.Proof.RefFinal
public import proofs.«01_k».proof.Proof.RefOff
public import proofs.«01_k».proof.Proof.Transfer

@[expose] public section

set_option maxRecDepth 16384
noncomputable section
namespace Cert.Proof.Match
open Idealize.ShloMosaic Idealize.ShloMosaic.TcCoe
open Cert.Proof.SortMath Cert.Proof.NmsMath Cert.Proof.Spec Cert.Proof.Rows Cert.Proof.Ahead Cert.Proof.Transfer

/-! The two programs' results are equal when their arguments are. -/

attribute [local irreducible] RRun.A9 RRun.A10 RRun.A11 RRun.A12 RRun.A13 RRun.B RRun.C1 RRun.C2 RRun.C3 KRun.W1 KRun.W2 KRun.W4 sortedFrom

theorem chosen_flat (s : Fin 20 → Fin 5000 → EReal) (j : Fin 20) (k : Fin 400) :
    chosen s (flat j k) = sortedFrom (desc (s j)) ⟨k, by omega⟩ := by
  simp only [chosen, cls_flat, pos_flat]

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))

include a1 in
theorem lg_eq : RRun.lg m' c = KRun.lgK m ρ c := funext fun i => funext fun k => congrFun a1 (ix2 i k)
include a0 in
theorem rg_eq : RRun.rg m' c = KRun.rgK m ρ c := funext fun i => funext fun k => congrFun a0 (ix2 i k)
include a2 in
theorem an_eq : RRun.an m' c = KRun.anK m ρ c := funext fun i => funext fun k => congrFun a2 (ix2 i k)

include a1 in
theorem sR_eq : RRun.sR m' c = tR (KRun.lgK m ρ c) := congrArg tR (lg_eq m ρ m' c a1)
include a1 in
theorem sc_eq : RRun.sc m' c = cR (KRun.lgK m ρ c) := congrArg cR (lg_eq m ρ m' c a1)
include a1 in
theorem order_eq : RRun.order m' c = ord (KRun.lgK m ρ c) := congrArg ord (lg_eq m ρ m' c a1)

include a0 a1 a2 in
theorem bx_eq (f : Fin 8000) (q : Fin 4) : RRun.bx m' c f q = KRun.bK m ρ c (chosen (tR (KRun.lgK m ρ c)) f) q := by
  unfold RRun.bx KRun.bK
  rw [rg_eq m ρ m' c a0, an_eq m ρ m' c a2, sR_eq m ρ m' c a1]

/-- The kernel's marks of one class, over its candidates. -/
theorem class_greedy (j : Fin 20) : IsGreedy (fun k => floor30 < cK (KRun.lgK m ρ c) (flat j k))
    (fun a d => thresh < iou (KRun.bK m ρ c (chosen (tK (KRun.lgK m ρ c)) (flat j a))) (KRun.bK m ρ c (chosen (tK (KRun.lgK m ρ c)) (flat j d)))) (KRun.keptK m ρ c j) := by
  have h := KRun.keptK_greedy m ρ c j
  have ht : ∀ k, chosen (tK (KRun.lgK m ρ c)) (flat j k) = KRun.top m ρ c j k := fun k => chosen_flat _ j k
  have hs : ∀ k, cK (KRun.lgK m ρ c) (flat j k) = KRun.sK m ρ c j (KRun.top m ρ c j k) := fun k => by
    unfold cK
    rw [ht, cls_flat]
    rfl
  simp only [ht, hs]
  exact h

include a0 a1 a2 in
/-- Both programs keep the same candidates. -/
theorem kept_eq (p : Fin 8000) : RRun.kept m' c p ↔ KRun.ck m ρ c (ord (KRun.lgK m ρ c) p) := by
  obtain ⟨M, h0, hM, hb⟩ := RRun.v113_eq m' c
  refine greedy_eq (KRun.lgK m ρ c) (KRun.bK m ρ c) M h0 (fun f q => ?_) (RRun.row m' c) (fun p q => ?_) (RRun.kept m' c) ?_ (KRun.keptK m ρ c)
    (class_greedy m ρ c) p
  · obtain ⟨r, hr, hr0, -⟩ := clip_real (raw (KRun.rgK m ρ c (chosen (tR (KRun.lgK m ρ c)) f)) (KRun.anK m ρ c (chosen (tR (KRun.lgK m ρ c)) f)) q)
    have e : KRun.bK m ρ c (chosen (tR (KRun.lgK m ρ c)) f) q = (r : EReal) := hr
    refine ⟨r, e, hr0, ?_⟩
    have := hb f q
    rw [bx_eq m ρ m' c a0 a1 a2, e] at this
    exact EReal.coe_le_coe_iff.mp this
  · unfold RRun.row
    rw [RRun.v120_eq m' c _ q M hM, bx_eq m ρ m' c a0 a1 a2, order_eq m ρ m' c a1]
  · have h := RRun.kept_greedy m' c
    unfold RRun.val RRun.sup at h
    rw [sc_eq m ρ m' c a1, order_eq m ρ m' c a1] at h
    exact h

include a0 a1 a2 in
/-- Both programs put the same candidate at each place of the result. -/
theorem pick_sel (d : Fin 200) : RRun.pick m' c d = KRun.sel m ρ c d := by
  have hv : ∀ p, RRun.kept m' c p → ⊥ < cR (KRun.lgK m ρ c) (ord (KRun.lgK m ρ c) p) := fun p hp => by
    have h := ((RRun.kept_greedy m' c p).mp hp).1
    unfold RRun.val at h
    rw [sc_eq m ρ m' c a1, order_eq m ρ m' c a1] at h
    exact h
  refine Eq.trans ?_ (pick_eq (KRun.lgK m ρ c) (RRun.kept m' c) (KRun.ck m ρ c) (kept_eq m ρ m' c a0 a1 a2) hv ⟨d, by omega⟩).symm
  unfold RRun.pick RRun.left
  rw [sc_eq m ρ m' c a1, order_eq m ρ m' c a1]

include a0 a1 a2 in
theorem box_at (d : Fin 200) (q : Fin 4) : RRun.bx m' c (RRun.pick m' c d) q = KRun.r5 m ρ c d q := by
  rw [bx_eq m ρ m' c a0 a1 a2, pick_sel m ρ m' c a0 a1 a2, ← chosen_eq]
  rfl

include a0 a1 a2 in
theorem score_at (d : Fin 200) : RRun.sc m' c (RRun.pick m' c d) = KRun.r6 m ρ c d := by
  rw [sc_eq m ρ m' c a1, pick_sel m ρ m' c a0 a1 a2]
  exact (cand_out (KRun.lgK m ρ c) (KRun.sel m ρ c d)).symm

include a0 a1 a2 in
theorem label_at (d : Fin 200) : BitVec.ofNat 32 ((RRun.pick m' c d).val / 400 + 1) = KRun.r7 m ρ c d := by
  rw [pick_sel m ρ m' c a0 a1 a2]
  rfl

include a0 a1 a2 in
/-- The boxes agree. -/
theorem boxes_eq : RRun.C3 m' c (Proc.devRef .tc Cert.ReferenceIdeal.main_v173) = KRun.W5 m ρ c (Proc.devRef .tc Cert.KernelIdeal.main_v7_0) := by
  refine funext fun y : Cert.KernelIdeal.S200x4.Idx => ?_
  rw [show y = (ix2 (y 0) (y 1) : Cert.KernelIdeal.S200x4.Idx) from ValueIdx.eq_ix2 (n0 := 200) (n1 := 4) y]
  exact (RRun.ref_boxes m' c (y 0) (y 1)).trans ((box_at m ρ m' c a0 a1 a2 (y 0) (y 1)).trans (KRun.kernel_boxes m ρ c (y 0) (y 1)).symm)

include a0 a1 a2 in
/-- The scores agree. -/
theorem scores_eq : RRun.C3 m' c (Proc.devRef .tc Cert.ReferenceIdeal.main_v180) = KRun.W5 m ρ c (Proc.devRef .tc Cert.KernelIdeal.main_v8) := by
  refine funext fun y : Cert.KernelIdeal.S200.Idx => ?_
  rw [show y = (ix1 (y 0) : Cert.KernelIdeal.S200.Idx) from ValueIdx.eq_ix1 (n := 200) y]
  exact (RRun.ref_scores m' c (y 0)).trans ((score_at m ρ m' c a0 a1 a2 (y 0)).trans (KRun.kernel_scores m ρ c (y 0)).symm)

include a0 a1 a2 in
/-- The labels agree. -/
theorem labels_eq : RRun.C3 m' c (Proc.devRef .tc Cert.ReferenceIdeal.main_v187) = KRun.W5 m ρ c (Proc.devRef .tc Cert.KernelIdeal.main_v9) := by
  refine funext fun y : Cert.KernelIdeal.S200.Idx => ?_
  rw [show y = (ix1 (y 0) : Cert.KernelIdeal.S200.Idx) from ValueIdx.eq_ix1 (n := 200) y]
  exact (RRun.ref_labels m' c (y 0)).trans ((label_at m ρ m' c a0 a1 a2 (y 0)).trans (KRun.kernel_labels m ρ c (y 0)).symm)

end Cert.Proof.Match
end
end
-- ==== Proof.lean ====
module

public import proofs.«01_k».proof.Defs
public import proofs.«01_k».proof.Proof.KRun
public import proofs.«01_k».proof.Proof.RRun
public import proofs.«01_k».proof.Proof.Match

@[expose] public section

noncomputable section

namespace Cert.Proof

open Idealize.ShloMosaic Idealize.SL.Sem

/-- From equal arguments the kernel and the reference end with equal boxes, scores and labels, and with their arguments unchanged. -/
theorem algebraic : Cert.algebraic_KernelIdeal_ReferenceIdeal (hKernelIdeal := Cert.KernelIdeal.Gen.facts)
    (hReferenceIdeal := Cert.ReferenceIdeal.Gen.facts) := fun m ρ m' ρ' _ ha =>
  ⟨fun c => KRun.W5 m ρ c (Proc.devRef .tc Cert.KernelIdeal.main_v7_0), fun c => KRun.W5 m ρ c (Proc.devRef .tc Cert.KernelIdeal.main_v8),
    fun c => KRun.W5 m ρ c (Proc.devRef .tc Cert.KernelIdeal.main_v9),
    (θ_run _ _ _).mono (fun _ h c =>
      have k := h.1 c
      ⟨k.2.2.2.1, k.2.2.2.2.1, k.2.2.2.2.2, k.1, k.2.1, k.2.2.1⟩) (KRun.krun m ρ),
    (θ_run _ _ _).mono (fun _ h c =>
      have k := h.1 c
      have a := ha c
      ⟨k.2.2.2.1.trans (Match.boxes_eq m ρ m' c a.1 a.2.1 a.2.2), k.2.2.2.2.1.trans (Match.scores_eq m ρ m' c a.1 a.2.1 a.2.2),
        k.2.2.2.2.2.trans (Match.labels_eq m ρ m' c a.1 a.2.1 a.2.2), k.1, k.2.1, k.2.2.1⟩) (RRun.rrun m' ρ')⟩

/-- The certificate's claims. -/
theorem claim : Cert.Claim :=
  ⟨Cert.KernelIdeal.Gen.facts, Cert.ReferenceIdeal.Gen.facts,
    fun m ρ _ => KRun.kframe m ρ, fun m ρ _ => RRun.rframe m ρ, algebraic⟩

end Cert.Proof

end
